-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v6_0)) (v1 : (c : Dev Cert.Kernel10Ideal.nD) → Buf (Elt Ideal) ((c.tc : Thread Cert.Kernel10Ideal.nD Cert.Kernel10Ideal.τ).loc Cert.Kernel10Ideal.main_v6_1)) (v2 : (c : Dev Cert.Kernel10Ideal.nD) → Buf (Elt Ideal) ((c.tc : Thread Cert.Kernel10Ideal.nD Cert.Kernel10Ideal.τ).loc Cert.Kernel10Ideal.main_v6_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_v6_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v9) = v1 c
          ∧ r.2.mem ((c.tc : Thread Cert.Reference10Ideal.nD Cert.Reference10Ideal.τ).loc Cert.Reference10Ideal.main_v12) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)) (v2 : (c : Dev Cert.Kernel11Ideal.nD) → Buf (Elt Ideal) ((c.tc : Thread Cert.Kernel11Ideal.nD Cert.Kernel11Ideal.τ).loc Cert.Kernel11Ideal.main_v6_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_v6_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_v9) = v1 c
          ∧ r.2.mem ((c.tc : Thread Cert.Reference11Ideal.nD Cert.Reference11Ideal.τ).loc Cert.Reference11Ideal.main_v12) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v20) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v20) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite5 : Cert.Pre_finite5.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x8x192 : Shape := ⟨3, ![8192, 8, 192]⟩
abbrev S8192x8x128 : Shape := ⟨3, ![8192, 8, 128]⟩
abbrev S_ : Shape := ⟨0, ![]⟩

class Facts : Prop where
  bcast_S_S8192x8x192 : S_.BroadcastsInDim S8192x8x192 (![] : Fin 0 → Fin S8192x8x192.rank)
  bcast_S_S8192x8x128 : S_.BroadcastsInDim S8192x8x128 (![] : Fin 0 → Fin S8192x8x128.rank)

variable [Facts]

def fn {F : FTy → Type} [FloatOps F] (main_arg0 : FVec F S8192x8x192 .f32) (main_arg1 : FVec F S8192x8x192 .f32) (main_arg2 : FVec F S8192x8x128 .f32) (main_arg3 : FVec F S8192x8x128 .f32) : IVec S8192x8x192 1 × IVec S8192x8x192 1 × IVec S8192x8x128 1 × IVec S8192x8x128 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x192 .f32 := Host.absf main_arg1
  let main_cst_0 : FVec F S_ .f32 := constant S_ .f32 0x7F800000#32
  let main_v4 : FVec F S8192x8x192 .f32 := broadcastInDim S8192x8x192 ![] bcast_S_S8192x8x192 main_cst_0
  let main_v5 : IVec S8192x8x192 1 := cmpf .olt main_v3 main_v4
  let main_v6 : FVec F S8192x8x128 .f32 := Host.absf main_arg2
  let main_cst_1 : FVec F S_ .f32 := constant S_ .f32 0x7F800000#32
  let main_v7 : FVec F S8192x8x128 .f32 := broadcastInDim S8192x8x128 ![] bcast_S_S8192x8x128 main_cst_1
  let main_v8 : IVec S8192x8x128 1 := cmpf .olt main_v6 main_v7
  let main_v9 : FVec F S8192x8x128 .f32 := Host.absf main_arg3
  let main_cst_2 : FVec F S_ .f32 := constant S_ .f32 0x7F800000#32
  let main_v10 : FVec F S8192x8x128 .f32 := broadcastInDim S8192x8x128 ![] bcast_S_S8192x8x128 main_cst_2
  let main_v11 : IVec S8192x8x128 1 := cmpf .olt main_v9 main_v10
  (main_v2, main_v5, main_v8, main_v11)
-- ==== Pre_finite5.lean ====
abbrev S8192x2048 : Shape := ⟨2, ![8192, 2048]⟩
abbrev S2x5632x2048 : Shape := ⟨3, ![2, 5632, 2048]⟩
abbrev S8192x5632 : Shape := ⟨2, ![8192, 5632]⟩
abbrev S_ : Shape := ⟨0, ![]⟩
abbrev S1x5632x2048 : Shape := ⟨3, ![1, 5632, 2048]⟩
abbrev S5632x2048 : Shape := ⟨2, ![5632, 2048]⟩

class Facts : Prop where
  bcast_S_S8192x2048 : S_.BroadcastsInDim S8192x2048 (![] : Fin 0 → Fin S8192x2048.rank)
  slices_S2x5632x2048_S1x5632x2048_0_0_0 : S2x5632x2048.Slices ![0, 0, 0] S1x5632x2048
  shapeCasts_S1x5632x2048_S5632x2048 : S1x5632x2048.ShapeCasts S5632x2048
  bcast_S_S5632x2048 : S_.BroadcastsInDim S5632x2048 (![] : Fin 0 → Fin S5632x2048.rank)
  bitsLt_bf16_f32 : FTy.bits .bf16 < FTy.bits .f32
  bcast_S_S8192x5632 : S_.BroadcastsInDim S8192x5632 (![] : Fin 0 → Fin S8192x5632.rank)

variable [Facts]

def fn {F : FTy → Type} [FloatOps F] (main_arg0 : FVec F S8192x2048 .f32) (main_arg1 : FVec F S2x5632x2048 .f32) (main_arg2 : FVec F S8192x5632 .bf16) (main_arg3 : FVec F S8192x5632 .bf16) : IVec S8192x2048 1 × IVec S5632x2048 1 × IVec S8192x5632 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x5632x2048 .f32 := (extractStridedSlice S1x5632x2048 ![0, 0, 0] · slices_S2x5632x2048_S1x5632x2048_0_0_0) main_arg1
  let main_v4 : FVec F S5632x2048 .f32 := shapeCast S5632x2048 main_v3 shapeCasts_S1x5632x2048_S5632x2048
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S8192x5632 .f32 := (extf .f32 · bitsLt_bf16_f32) main_arg3
  let main_v9 : FVec F S8192x5632 .f32 := Host.absf main_v8
  let main_cst_1 : FVec F S_ .f32 := constant S_ .f32 0x7F800000#32
  let main_v10 : FVec F S8192x5632 .f32 := broadcastInDim S8192x5632 ![] bcast_S_S8192x5632 main_cst_1
  let main_v11 : IVec S8192x5632 1 := cmpf .olt main_v9 main_v10
  (main_v2, main_v7, main_v11)
-- ==== Pre_finite7.lean ====
abbrev S8192x2048 : Shape := ⟨2, ![8192, 2048]⟩
abbrev S2x5632x2048 : Shape := ⟨3, ![2, 5632, 2048]⟩
abbrev S8192x5632 : Shape := ⟨2, ![8192, 5632]⟩
abbrev S_ : Shape := ⟨0, ![]⟩
abbrev S1x5632x2048 : Shape := ⟨3, ![1, 5632, 2048]⟩
abbrev S5632x2048 : Shape := ⟨2, ![5632, 2048]⟩

class Facts : Prop where
  bcast_S_S8192x2048 : S_.BroadcastsInDim S8192x2048 (![] : Fin 0 → Fin S8192x2048.rank)
  slices_S2x5632x2048_S1x5632x2048_1_0_0 : S2x5632x2048.Slices ![1, 0, 0] S1x5632x2048
  shapeCasts_S1x5632x2048_S5632x2048 : S1x5632x2048.ShapeCasts S5632x2048
  bcast_S_S5632x2048 : S_.BroadcastsInDim S5632x2048 (![] : Fin 0 → Fin S5632x2048.rank)
  bitsLt_bf16_f32 : FTy.bits .bf16 < FTy.bits .f32
  bcast_S_S8192x5632 : S_.BroadcastsInDim S8192x5632 (![] : Fin 0 → Fin S8192x5632.rank)

variable [Facts]

def fn {F : FTy → Type} [FloatOps F] (main_arg0 : FVec F S8192x2048 .f32) (main_arg1 : FVec F S2x5632x2048 .f32) (main_arg2 : FVec F S8192x5632 .bf16) (main_arg3 : FVec F S8192x5632 .bf16) : IVec S8192x2048 1 × IVec S5632x2048 1 × IVec S8192x5632 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x5632x2048 .f32 := (extractStridedSlice S1x5632x2048 ![1, 0, 0] · slices_S2x5632x2048_S1x5632x2048_1_0_0) main_arg1
  let main_v4 : FVec F S5632x2048 .f32 := shapeCast S5632x2048 main_v3 shapeCasts_S1x5632x2048_S5632x2048
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S8192x5632 .f32 := (extf .f32 · bitsLt_bf16_f32) main_arg3
  let main_v9 : FVec F S8192x5632 .f32 := Host.absf main_v8
  let main_cst_1 : FVec F S_ .f32 := constant S_ .f32 0x7F800000#32
  let main_v10 : FVec F S8192x5632 .f32 := broadcastInDim S8192x5632 ![] bcast_S_S8192x5632 main_cst_1
  let main_v11 : IVec S8192x5632 1 := cmpf .olt main_v9 main_v10
  (main_v2, main_v7, main_v11)
-- ==== Kernel.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8x128x8192 : Shape := ⟨3, ![8, 128, 8192]⟩
abbrev S8192x8 : Shape := ⟨2, ![8192, 8]⟩
abbrev S8x192x8192 : Shape := ⟨3, ![8, 192, 8192]⟩
abbrev S8x8192x192 : Shape := ⟨3, ![8, 8192, 192]⟩
abbrev S8x8192x128 : Shape := ⟨3, ![8, 8192, 128]⟩
abbrev S1x192x8192 : Shape := ⟨3, ![1, 192, 8192]⟩
abbrev S1x512x192 : Shape := ⟨3, ![1, 512, 192]⟩
abbrev S1x192x512 : Shape := ⟨3, ![1, 192, 512]⟩
abbrev S1x512x128 : Shape := ⟨3, ![1, 512, 128]⟩
abbrev S1x128x8192 : Shape := ⟨3, ![1, 128, 8192]⟩
abbrev S1x1x8192 : Shape := ⟨3, ![1, 1, 8192]⟩
abbrev S1x128x512 : Shape := ⟨3, ![1, 128, 512]⟩
abbrev S192x8192 : Shape := ⟨2, ![192, 8192]⟩
abbrev S192x512 : Shape := ⟨2, ![192, 512]⟩
abbrev S128x512 : Shape := ⟨2, ![128, 512]⟩
abbrev S512x192 : Shape := ⟨2, ![512, 192]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 65
  | .vmem => 20
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x8x128, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x1, .f32⟩
  | .hbm, ⟨30, _⟩ => ⟨S8x8192x1, .f32⟩
  | .hbm, ⟨31, _⟩ => ⟨S_, .f32⟩
  | .hbm, ⟨32, _⟩ => ⟨S_, .f32⟩
  | .hbm, ⟨33, _⟩ => ⟨S8x8192x1, .f32⟩
  | .hbm, ⟨34, _⟩ => ⟨S8x8192x1, .f32⟩
  | .hbm, ⟨35, _⟩ => ⟨S8x1x8192, .f32⟩
  | .hbm, ⟨36, _⟩ => ⟨S8x8192x8192, .f32⟩
  | .hbm, ⟨37, _⟩ => ⟨S8x8192x8192, .f32⟩
  | .hbm, ⟨38, _⟩ => ⟨S8x128x8192, .f32⟩
  | .hbm, ⟨39, _⟩ => ⟨S8192x8x128, .f32⟩
  | .hbm, ⟨40, _⟩ => ⟨S8192x8x128, .f32⟩
  | .hbm, ⟨41, _⟩ => ⟨S_, .f32⟩
  | .hbm, ⟨42, _⟩ => ⟨S8192x8, .f32⟩
  | .hbm, ⟨43, _⟩ => ⟨S8x8192, .f32⟩
  | .hbm, ⟨44, _⟩ => ⟨S8x1x8192, .f32⟩
  | .hbm, ⟨45, _⟩ => ⟨S_, .f32⟩
  | .hbm, ⟨46, _⟩ => ⟨S8192x8x192, .f32⟩
  | .hbm, ⟨47, _⟩ => ⟨S8192x8x192, .f32⟩
  | .hbm, ⟨48, _⟩ => ⟨S_, .f32⟩
  | .hbm, ⟨49, _⟩ => ⟨S_, .f32⟩
  | .hbm, ⟨50, _⟩ => ⟨S8192x8x192, .f32⟩
  | .hbm, ⟨51, _⟩ => ⟨S8192x8x192, .f32⟩
  | .hbm, ⟨52, _⟩ => ⟨S8x192x8192, .f32⟩
  | .hbm, ⟨53, _⟩ => ⟨S8x192x8192, .bf16⟩
  | .hbm, ⟨54, _⟩ => ⟨S8x8192x192, .f32⟩
  | .hbm, ⟨55, _⟩ => ⟨S8x8192x192, .bf16⟩
  | .hbm, ⟨56, _⟩ => ⟨S8x192x8192, .f32⟩
  | .hbm, ⟨57, _⟩ => ⟨S8x192x8192, .bf16⟩
  | .hbm, ⟨58, _⟩ => ⟨S8x8192x128, .f32⟩
  | .hbm, ⟨59, _⟩ => ⟨S8x8192x128, .bf16⟩
  | .hbm, ⟨60, _⟩ => ⟨S8x128x8192, .f32⟩
  | .hbm, ⟨61, _⟩ => ⟨S8x128x8192, .bf16⟩
  | .hbm, ⟨62, _⟩ => ⟨S8x192x8192, .f32⟩
  | .hbm, ⟨63, _⟩ => ⟨S8x192x8192, .f32⟩
  | .hbm, ⟨64, _⟩ => ⟨S8x128x8192, .f32⟩
  | .local _ .vmem, ⟨0, _⟩ => ⟨S1x192x8192, .bf16⟩
  | .local _ .vmem, ⟨1, _⟩ => ⟨S1x192x8192, .bf16⟩
  | .local _ .vmem, ⟨2, _⟩ => ⟨S1x512x192, .bf16⟩
  | .local _ .vmem, ⟨3, _⟩ => ⟨S1x512x192, .bf16⟩
  | .local _ .vmem, ⟨4, _⟩ => ⟨S1x192x512, .bf16⟩
  | .local _ .vmem, ⟨5, _⟩ => ⟨S1x192x512, .bf16⟩
  | .local _ .vmem, ⟨6, _⟩ => ⟨S1x512x128, .bf16⟩
  | .local _ .vmem, ⟨7, _⟩ => ⟨S1x512x128, .bf16⟩
  | .local _ .vmem, ⟨8, _⟩ => ⟨S1x128x8192, .bf16⟩
  | .local _ .vmem, ⟨9, _⟩ => ⟨S1x128x8192, .bf16⟩
  | .local _ .vmem, ⟨10, _⟩ => ⟨S1x1x8192, .f32⟩
  | .local _ .vmem, ⟨11, _⟩ => ⟨S1x1x8192, .f32⟩
  | .local _ .vmem, ⟨12, _⟩ => ⟨S1x1x8192, .f32⟩
  | .local _ .vmem, ⟨13, _⟩ => ⟨S1x1x8192, .f32⟩
  | .local _ .vmem, ⟨14, _⟩ => ⟨S1x192x8192, .f32⟩
  | .local _ .vmem, ⟨15, _⟩ => ⟨S1x192x8192, .f32⟩
  | .local _ .vmem, ⟨16, _⟩ => ⟨S1x192x512, .f32⟩
  | .local _ .vmem, ⟨17, _⟩ => ⟨S1x192x512, .f32⟩
  | .local _ .vmem, ⟨18, _⟩ => ⟨S1x128x512, .f32⟩
  | .local _ .vmem, ⟨19, _⟩ => ⟨S1x128x512, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let c15_i32 : BitVec 32 := 15#32
  let arg1 : BitVec 32 := BitVec.ofNat 32 (i 1).val
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let c1_i32_20 : BitVec 32 := 1#32
  let v28 : BitVec 1 := Scalar.cmpi .eq v27 c1_i32_20
  let v29 : BitVec 32 := Scalar.extui v28
  let c0_i32_21 : BitVec 32 := 0#32
  let v30 : BitVec 1 := Scalar.cmpi .ne v29 c0_i32_21
  v30

def k0_mult1 (i : grid0.Coords) : BitVec 32 :=
  let arg1 : BitVec 32 := BitVec.ofNat 32 (i 1).val
  let c512_i32 : BitVec 32 := 512#32
  let v60 : BitVec 32 := Scalar.muli arg1 c512_i32
  v60
def k0_mult2 (i : grid0.Coords) : BitVec 32 :=
  let arg1 : BitVec 32 := BitVec.ofNat 32 (i 1).val
  let c1_i32_37 : BitVec 32 := 1#32
  let v59 : BitVec 32 := Scalar.addi arg1 c1_i32_37
  let c512_i32_38 : BitVec 32 := 512#32
  let v62 : BitVec 32 := Scalar.muli v59 c512_i32_38
  v62
def k0_off1 (i : grid0.Coords) : Fin 3 → Nat :=
  let c0_39 : Index := 0#32
  let c0_40 : Index := 0#32
  let arg1 : BitVec 32 := BitVec.ofNat 32 (i 1).val
  let c512_i32 : BitVec 32 := 512#32
  let v60 : BitVec 32 := Scalar.muli arg1 c512_i32
  let v61 : BitVec 32 := v60
  let v64 : Index := Scalar.indexCast v61
  ![0, 0, v64.toNat]
def k0_off2 (i : grid0.Coords) : Fin 3 → Nat :=
  let c0_41 : Index := 0#32
  let c0_42 : Index := 0#32
  let arg1 : BitVec 32 := BitVec.ofNat 32 (i 1).val
  let c1_i32_37 : BitVec 32 := 1#32
  let v59 : BitVec 32 := Scalar.addi arg1 c1_i32_37
  let c512_i32_38 : BitVec 32 := 512#32
  let v62 : BitVec 32 := Scalar.muli v59 c512_i32_38
  let v63 : BitVec 32 := v62
  let v67 : Index := Scalar.indexCast v63
  ![0, 0, v67.toNat]
def k0_off3 (i : grid0.Coords) : Fin 3 → Nat :=
  let c0_43 : Index := 0#32
  let c0_44 : Index := 0#32
  let arg1 : BitVec 32 := BitVec.ofNat 32 (i 1).val
  let c512_i32 : BitVec 32 := 512#32
  let v60 : BitVec 32 := Scalar.muli arg1 c512_i32
  let v61 : BitVec 32 := v60
  let v70 : Index := Scalar.indexCast v61
  ![0, 0, v70.toNat]
def k0_off4 (i : grid0.Coords) : Fin 3 → Nat :=
  let c0_45 : Index := 0#32
  let c0_46 : Index := 0#32
  let arg1 : BitVec 32 := BitVec.ofNat 32 (i 1).val
  let c1_i32_37 : BitVec 32 := 1#32
  let v59 : BitVec 32 := Scalar.addi arg1 c1_i32_37
  let c512_i32_38 : BitVec 32 := 512#32
  let v62 : BitVec 32 := Scalar.muli v59 c512_i32_38
  let v63 : BitVec 32 := v62
  let v73 : Index := Scalar.indexCast v63
  ![0, 0, v73.toNat]
def k0_off5 (i : grid0.Coords) : Fin 3 → Nat :=
  let c0_54 : Index := 0#32
  let c0_55 : Index := 0#32
  let arg1 : BitVec 32 := BitVec.ofNat 32 (i 1).val
  let c512_i32 : BitVec 32 := 512#32
  let v60 : BitVec 32 := Scalar.muli arg1 c512_i32
  let v61 : BitVec 32 := v60
  let v91 : Index := Scalar.indexCast v61
  ![0, 0, v91.toNat]
def k0_off6 (i : grid0.Coords) : Fin 3 → Nat :=
  let c0_77 : Index := 0#32
  let c0_78 : Index := 0#32
  let arg1 : BitVec 32 := BitVec.ofNat 32 (i 1).val
  let c1_i32_37 : BitVec 32 := 1#32
  let v59 : BitVec 32 := Scalar.addi arg1 c1_i32_37
  let c512_i32_38 : BitVec 32 := 512#32
  let v62 : BitVec 32 := Scalar.muli v59 c512_i32_38
  let v63 : BitVec 32 := v62
  let v128 : Index := Scalar.indexCast v63
  ![0, 0, v128.toNat]
def k0_cond3 (i : grid0.Coords) : BitVec 1 :=
  let c15_i32 : BitVec 32 := 15#32
  let arg1 : BitVec 32 := BitVec.ofNat 32 (i 1).val
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let c0_i32_22 : BitVec 32 := 0#32
  let v31 : BitVec 1 := Scalar.cmpi .eq v27 c0_i32_22
  let v32 : BitVec 32 := Scalar.extui v31
  let c0_i32_23 : BitVec 32 := 0#32
  let v33 : BitVec 1 := Scalar.cmpi .ne v32 c0_i32_23
  v33

def k0_mult3 (i : grid0.Coords) : BitVec 32 :=
  let arg1 : BitVec 32 := BitVec.ofNat 32 (i 1).val
  let c512_i32 : BitVec 32 := 512#32
  let v59 : BitVec 32 := Scalar.muli arg1 c512_i32
  v59
def k0_off7 (i : grid0.Coords) : Fin 3 → Nat :=
  let c0_37 : Index := 0#32
  let c0_38 : Index := 0#32
  let arg1 : BitVec 32 := BitVec.ofNat 32 (i 1).val
  let c512_i32 : BitVec 32 := 512#32
  let v59 : BitVec 32 := Scalar.muli arg1 c512_i32
  let v60 : BitVec 32 := v59
  let v61 : Index := Scalar.indexCast v60
  ![0, 0, v61.toNat]
def k0_off8 (i : grid0.Coords) : Fin 3 → Nat :=
  let c0_39 : Index := 0#32
  let c0_40 : Index := 0#32
  let arg1 : BitVec 32 := BitVec.ofNat 32 (i 1).val
  let c512_i32 : BitVec 32 := 512#32
  let v59 : BitVec 32 := Scalar.muli arg1 c512_i32
  let v60 : BitVec 32 := v59
  let v64 : Index := Scalar.indexCast v60
  ![0, 0, v64.toNat]
def k0_off9 (i : grid0.Coords) : Fin 3 → Nat :=
  let c0_46 : Index := 0#32
  let c0_47 : Index := 0#32
  let arg1 : BitVec 32 := BitVec.ofNat 32 (i 1).val
  let c512_i32 : BitVec 32 := 512#32
  let v59 : BitVec 32 := Scalar.muli arg1 c512_i32
  let v60 : BitVec 32 := v59
  let v80 : Index := Scalar.indexCast v60
  ![0, 0, v80.toNat]
@[reducible] def k0_t1_loop (i : grid0.Coords) : Scf.Loop 32 :=
  let c0_i32_33 : BitVec 32 := 0#32
  let c16_i32 : BitVec 32 := 16#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let v36 : BitVec 32 := Scalar.subi c16_i32 v35
  let c0_i32_26 : BitVec 32 := 0#32
  let v38 : BitVec 1 := Scalar.cmpi .sgt v36 c0_i32_26
  let v39 : BitVec 32 := Scalar.extui v38
  let c0_i32_27 : BitVec 32 := 0#32
  let v40 : BitVec 1 := Scalar.cmpi .slt v36 c0_i32_27
  let v41 : BitVec 32 := Scalar.extui v40
  let v42 : BitVec 32 := Scalar.subi v39 v41
  let c2_i32_25 : BitVec 32 := 2#32
  let c0_i32_28 : BitVec 32 := 0#32
  let v43 : BitVec 1 := Scalar.cmpi .sgt c2_i32_25 c0_i32_28
  let v44 : BitVec 32 := Scalar.extui v43
  let c0_i32_29 : BitVec 32 := 0#32
  let v45 : BitVec 1 := Scalar.cmpi .slt c2_i32_25 c0_i32_29
  let v46 : BitVec 32 := Scalar.extui v45
  let v47 : BitVec 32 := Scalar.subi v44 v46
  let v48 : BitVec 1 := Scalar.cmpi .ne v42 v47
  let v49 : BitVec 32 := Scalar.remsi v36 c2_i32_25
  let c0_i32_30 : BitVec 32 := 0#32
  let v50 : BitVec 1 := Scalar.cmpi .ne v49 c0_i32_30
  let v51 : BitVec 1 := Scalar.andi v48 v50
  let v37 : BitVec 32 := Scalar.divsi v36 c2_i32_25
  let c1_i32_31 : BitVec 32 := 1#32
  let v52 : BitVec 32 := Scalar.subi v37 c1_i32_31
  let v53 : BitVec 32 := Scalar.select v51 v52 v37
  let v54 : BitVec 32 := Scalar.subi v53 c0_i32_33
  let c1_i32_34 : BitVec 32 := 1#32
  let v56 : BitVec 32 := Scalar.divsi v54 c1_i32_34
  let v57 : BitVec 32 := Scalar.muli v56 c1_i32_34
  let v58 : BitVec 32 := Scalar.addi c0_i32_33 v57
  let c1_i32_35 : BitVec 32 := 1#32
  ⟨c0_i32_33, v58, c1_i32_35⟩
def k0_mult4 (i : grid0.Coords) (k0_t1 : Fin (k0_t1_loop i).trips) : BitVec 32 :=
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_37 : BitVec 32 := 2#32
  let c0_i32_33 : BitVec 32 := 0#32
  let c1_i32_35 : BitVec 32 := 1#32
  let arg12 : BitVec 32 := Scf.iv c0_i32_33 c1_i32_35 k0_t1
  let v59 : BitVec 32 := Scalar.muli c2_i32_37 arg12
  let v60 : BitVec 32 := Scalar.addi v35 v59
  let c512_i32 : BitVec 32 := 512#32
  let v64 : BitVec 32 := Scalar.muli v60 c512_i32
  v64
def k0_mult5 (i : grid0.Coords) (k0_t1 : Fin (k0_t1_loop i).trips) : BitVec 32 :=
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_38 : BitVec 32 := 2#32
  let c0_i32_33 : BitVec 32 := 0#32
  let c1_i32_35 : BitVec 32 := 1#32
  let arg12 : BitVec 32 := Scf.iv c0_i32_33 c1_i32_35 k0_t1
  let v61 : BitVec 32 := Scalar.muli c2_i32_38 arg12
  let v62 : BitVec 32 := Scalar.addi v35 v61
  let c1_i32_39 : BitVec 32 := 1#32
  let v63 : BitVec 32 := Scalar.addi v62 c1_i32_39
  let c512_i32_40 : BitVec 32 := 512#32
  let v66 : BitVec 32 := Scalar.muli v63 c512_i32_40
  v66
def k0_off10 (i : grid0.Coords) (k0_t1 : Fin (k0_t1_loop i).trips) : Fin 3 → Nat :=
  let c0_41 : Index := 0#32
  let c0_42 : Index := 0#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_37 : BitVec 32 := 2#32
  let c0_i32_33 : BitVec 32 := 0#32
  let c1_i32_35 : BitVec 32 := 1#32
  let arg12 : BitVec 32 := Scf.iv c0_i32_33 c1_i32_35 k0_t1
  let v59 : BitVec 32 := Scalar.muli c2_i32_37 arg12
  let v60 : BitVec 32 := Scalar.addi v35 v59
  let c512_i32 : BitVec 32 := 512#32
  let v64 : BitVec 32 := Scalar.muli v60 c512_i32
  let v65 : BitVec 32 := v64
  let v68 : Index := Scalar.indexCast v65
  ![0, 0, v68.toNat]
def k0_off11 (i : grid0.Coords) (k0_t1 : Fin (k0_t1_loop i).trips) : Fin 3 → Nat :=
  let c0_43 : Index := 0#32
  let c0_44 : Index := 0#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_38 : BitVec 32 := 2#32
  let c0_i32_33 : BitVec 32 := 0#32
  let c1_i32_35 : BitVec 32 := 1#32
  let arg12 : BitVec 32 := Scf.iv c0_i32_33 c1_i32_35 k0_t1
  let v61 : BitVec 32 := Scalar.muli c2_i32_38 arg12
  let v62 : BitVec 32 := Scalar.addi v35 v61
  let c1_i32_39 : BitVec 32 := 1#32
  let v63 : BitVec 32 := Scalar.addi v62 c1_i32_39
  let c512_i32_40 : BitVec 32 := 512#32
  let v66 : BitVec 32 := Scalar.muli v63 c512_i32_40
  let v67 : BitVec 32 := v66
  let v71 : Index := Scalar.indexCast v67
  ![0, 0, v71.toNat]
def k0_off12 (i : grid0.Coords) (k0_t1 : Fin (k0_t1_loop i).trips) : Fin 3 → Nat :=
  let c0_45 : Index := 0#32
  let c0_46 : Index := 0#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_37 : BitVec 32 := 2#32
  let c0_i32_33 : BitVec 32 := 0#32
  let c1_i32_35 : BitVec 32 := 1#32
  let arg12 : BitVec 32 := Scf.iv c0_i32_33 c1_i32_35 k0_t1
  let v59 : BitVec 32 := Scalar.muli c2_i32_37 arg12
  let v60 : BitVec 32 := Scalar.addi v35 v59
  let c512_i32 : BitVec 32 := 512#32
  let v64 : BitVec 32 := Scalar.muli v60 c512_i32
  let v65 : BitVec 32 := v64
  let v74 : Index := Scalar.indexCast v65
  ![0, 0, v74.toNat]
def k0_off13 (i : grid0.Coords) (k0_t1 : Fin (k0_t1_loop i).trips) : Fin 3 → Nat :=
  let c0_47 : Index := 0#32
  let c0_48 : Index := 0#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_38 : BitVec 32 := 2#32
  let c0_i32_33 : BitVec 32 := 0#32
  let c1_i32_35 : BitVec 32 := 1#32
  let arg12 : BitVec 32 := Scf.iv c0_i32_33 c1_i32_35 k0_t1
  let v61 : BitVec 32 := Scalar.muli c2_i32_38 arg12
  let v62 : BitVec 32 := Scalar.addi v35 v61
  let c1_i32_39 : BitVec 32 := 1#32
  let v63 : BitVec 32 := Scalar.addi v62 c1_i32_39
  let c512_i32_40 : BitVec 32 := 512#32
  let v66 : BitVec 32 := Scalar.muli v63 c512_i32_40
  let v67 : BitVec 32 := v66
  let v77 : Index := Scalar.indexCast v67
  ![0, 0, v77.toNat]
def k0_off14 (i : grid0.Coords) (k0_t1 : Fin (k0_t1_loop i).trips) : Fin 3 → Nat :=
  let c0_53 : Index := 0#32
  let c0_54 : Index := 0#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_37 : BitVec 32 := 2#32
  let c0_i32_33 : BitVec 32 := 0#32
  let c1_i32_35 : BitVec 32 := 1#32
  let arg12 : BitVec 32 := Scf.iv c0_i32_33 c1_i32_35 k0_t1
  let v59 : BitVec 32 := Scalar.muli c2_i32_37 arg12
  let v60 : BitVec 32 := Scalar.addi v35 v59
  let c512_i32 : BitVec 32 := 512#32
  let v64 : BitVec 32 := Scalar.muli v60 c512_i32
  let v65 : BitVec 32 := v64
  let v84 : Index := Scalar.indexCast v65
  ![0, 0, v84.toNat]
def k0_off15 (i : grid0.Coords) (k0_t1 : Fin (k0_t1_loop i).trips) : Fin 3 → Nat :=
  let c0_76 : Index := 0#32
  let c0_77 : Index := 0#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_38 : BitVec 32 := 2#32
  let c0_i32_33 : BitVec 32 := 0#32
  let c1_i32_35 : BitVec 32 := 1#32
  let arg12 : BitVec 32 := Scf.iv c0_i32_33 c1_i32_35 k0_t1
  let v61 : BitVec 32 := Scalar.muli c2_i32_38 arg12
  let v62 : BitVec 32 := Scalar.addi v35 v61
  let c1_i32_39 : BitVec 32 := 1#32
  let v63 : BitVec 32 := Scalar.addi v62 c1_i32_39
  let c512_i32_40 : BitVec 32 := 512#32
  let v66 : BitVec 32 := Scalar.muli v63 c512_i32_40
  let v67 : BitVec 32 := v66
  let v121 : Index := Scalar.indexCast v67
  ![0, 0, v121.toNat]
@[reducible] def k0_t2_loop (i : grid0.Coords) : Scf.Loop 32 :=
  let c0_i32_33 : BitVec 32 := 0#32
  let c16_i32 : BitVec 32 := 16#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let v36 : BitVec 32 := Scalar.subi c16_i32 v35
  let c0_i32_26 : BitVec 32 := 0#32
  let v38 : BitVec 1 := Scalar.cmpi .sgt v36 c0_i32_26
  let v39 : BitVec 32 := Scalar.extui v38
  let c0_i32_27 : BitVec 32 := 0#32
  let v40 : BitVec 1 := Scalar.cmpi .slt v36 c0_i32_27
  let v41 : BitVec 32 := Scalar.extui v40
  let v42 : BitVec 32 := Scalar.subi v39 v41
  let c2_i32_25 : BitVec 32 := 2#32
  let c0_i32_28 : BitVec 32 := 0#32
  let v43 : BitVec 1 := Scalar.cmpi .sgt c2_i32_25 c0_i32_28
  let v44 : BitVec 32 := Scalar.extui v43
  let c0_i32_29 : BitVec 32 := 0#32
  let v45 : BitVec 1 := Scalar.cmpi .slt c2_i32_25 c0_i32_29
  let v46 : BitVec 32 := Scalar.extui v45
  let v47 : BitVec 32 := Scalar.subi v44 v46
  let v48 : BitVec 1 := Scalar.cmpi .ne v42 v47
  let v49 : BitVec 32 := Scalar.remsi v36 c2_i32_25
  let c0_i32_30 : BitVec 32 := 0#32
  let v50 : BitVec 1 := Scalar.cmpi .ne v49 c0_i32_30
  let v51 : BitVec 1 := Scalar.andi v48 v50
  let v37 : BitVec 32 := Scalar.divsi v36 c2_i32_25
  let c1_i32_31 : BitVec 32 := 1#32
  let v52 : BitVec 32 := Scalar.subi v37 c1_i32_31
  let v53 : BitVec 32 := Scalar.select v51 v52 v37
  let v54 : BitVec 32 := Scalar.subi v53 c0_i32_33
  let c1_i32_34 : BitVec 32 := 1#32
  let v56 : BitVec 32 := Scalar.divsi v54 c1_i32_34
  let v57 : BitVec 32 := Scalar.muli v56 c1_i32_34
  let v58 : BitVec 32 := Scalar.addi c0_i32_33 v57
  let v55 : BitVec 32 := Scalar.addi c0_i32_33 v54
  let c1_i32_36 : BitVec 32 := 1#32
  ⟨v58, v55, c1_i32_36⟩
def k0_mult6 (i : grid0.Coords) (k0_t2 : Fin (k0_t2_loop i).trips) : BitVec 32 :=
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_37 : BitVec 32 := 2#32
  let c0_i32_33 : BitVec 32 := 0#32
  let c16_i32 : BitVec 32 := 16#32
  let v36 : BitVec 32 := Scalar.subi c16_i32 v35
  let c0_i32_26 : BitVec 32 := 0#32
  let v38 : BitVec 1 := Scalar.cmpi .sgt v36 c0_i32_26
  let v39 : BitVec 32 := Scalar.extui v38
  let c0_i32_27 : BitVec 32 := 0#32
  let v40 : BitVec 1 := Scalar.cmpi .slt v36 c0_i32_27
  let v41 : BitVec 32 := Scalar.extui v40
  let v42 : BitVec 32 := Scalar.subi v39 v41
  let c2_i32_25 : BitVec 32 := 2#32
  let c0_i32_28 : BitVec 32 := 0#32
  let v43 : BitVec 1 := Scalar.cmpi .sgt c2_i32_25 c0_i32_28
  let v44 : BitVec 32 := Scalar.extui v43
  let c0_i32_29 : BitVec 32 := 0#32
  let v45 : BitVec 1 := Scalar.cmpi .slt c2_i32_25 c0_i32_29
  let v46 : BitVec 32 := Scalar.extui v45
  let v47 : BitVec 32 := Scalar.subi v44 v46
  let v48 : BitVec 1 := Scalar.cmpi .ne v42 v47
  let v49 : BitVec 32 := Scalar.remsi v36 c2_i32_25
  let c0_i32_30 : BitVec 32 := 0#32
  let v50 : BitVec 1 := Scalar.cmpi .ne v49 c0_i32_30
  let v51 : BitVec 1 := Scalar.andi v48 v50
  let v37 : BitVec 32 := Scalar.divsi v36 c2_i32_25
  let c1_i32_31 : BitVec 32 := 1#32
  let v52 : BitVec 32 := Scalar.subi v37 c1_i32_31
  let v53 : BitVec 32 := Scalar.select v51 v52 v37
  let v54 : BitVec 32 := Scalar.subi v53 c0_i32_33
  let c1_i32_34 : BitVec 32 := 1#32
  let v56 : BitVec 32 := Scalar.divsi v54 c1_i32_34
  let v57 : BitVec 32 := Scalar.muli v56 c1_i32_34
  let v58 : BitVec 32 := Scalar.addi c0_i32_33 v57
  let c1_i32_36 : BitVec 32 := 1#32
  let arg12 : BitVec 32 := Scf.iv v58 c1_i32_36 k0_t2
  let v59 : BitVec 32 := Scalar.muli c2_i32_37 arg12
  let v60 : BitVec 32 := Scalar.addi v35 v59
  let c512_i32 : BitVec 32 := 512#32
  let v64 : BitVec 32 := Scalar.muli v60 c512_i32
  v64
def k0_mult7 (i : grid0.Coords) (k0_t2 : Fin (k0_t2_loop i).trips) : BitVec 32 :=
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_38 : BitVec 32 := 2#32
  let c0_i32_33 : BitVec 32 := 0#32
  let c16_i32 : BitVec 32 := 16#32
  let v36 : BitVec 32 := Scalar.subi c16_i32 v35
  let c0_i32_26 : BitVec 32 := 0#32
  let v38 : BitVec 1 := Scalar.cmpi .sgt v36 c0_i32_26
  let v39 : BitVec 32 := Scalar.extui v38
  let c0_i32_27 : BitVec 32 := 0#32
  let v40 : BitVec 1 := Scalar.cmpi .slt v36 c0_i32_27
  let v41 : BitVec 32 := Scalar.extui v40
  let v42 : BitVec 32 := Scalar.subi v39 v41
  let c2_i32_25 : BitVec 32 := 2#32
  let c0_i32_28 : BitVec 32 := 0#32
  let v43 : BitVec 1 := Scalar.cmpi .sgt c2_i32_25 c0_i32_28
  let v44 : BitVec 32 := Scalar.extui v43
  let c0_i32_29 : BitVec 32 := 0#32
  let v45 : BitVec 1 := Scalar.cmpi .slt c2_i32_25 c0_i32_29
  let v46 : BitVec 32 := Scalar.extui v45
  let v47 : BitVec 32 := Scalar.subi v44 v46
  let v48 : BitVec 1 := Scalar.cmpi .ne v42 v47
  let v49 : BitVec 32 := Scalar.remsi v36 c2_i32_25
  let c0_i32_30 : BitVec 32 := 0#32
  let v50 : BitVec 1 := Scalar.cmpi .ne v49 c0_i32_30
  let v51 : BitVec 1 := Scalar.andi v48 v50
  let v37 : BitVec 32 := Scalar.divsi v36 c2_i32_25
  let c1_i32_31 : BitVec 32 := 1#32
  let v52 : BitVec 32 := Scalar.subi v37 c1_i32_31
  let v53 : BitVec 32 := Scalar.select v51 v52 v37
  let v54 : BitVec 32 := Scalar.subi v53 c0_i32_33
  let c1_i32_34 : BitVec 32 := 1#32
  let v56 : BitVec 32 := Scalar.divsi v54 c1_i32_34
  let v57 : BitVec 32 := Scalar.muli v56 c1_i32_34
  let v58 : BitVec 32 := Scalar.addi c0_i32_33 v57
  let c1_i32_36 : BitVec 32 := 1#32
  let arg12 : BitVec 32 := Scf.iv v58 c1_i32_36 k0_t2
  let v61 : BitVec 32 := Scalar.muli c2_i32_38 arg12
  let v62 : BitVec 32 := Scalar.addi v35 v61
  let c1_i32_39 : BitVec 32 := 1#32
  let v63 : BitVec 32 := Scalar.addi v62 c1_i32_39
  let c512_i32_40 : BitVec 32 := 512#32
  let v66 : BitVec 32 := Scalar.muli v63 c512_i32_40
  v66
def k0_off16 (i : grid0.Coords) (k0_t2 : Fin (k0_t2_loop i).trips) : Fin 3 → Nat :=
  let c0_41 : Index := 0#32
  let c0_42 : Index := 0#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_37 : BitVec 32 := 2#32
  let c0_i32_33 : BitVec 32 := 0#32
  let c16_i32 : BitVec 32 := 16#32
  let v36 : BitVec 32 := Scalar.subi c16_i32 v35
  let c0_i32_26 : BitVec 32 := 0#32
  let v38 : BitVec 1 := Scalar.cmpi .sgt v36 c0_i32_26
  let v39 : BitVec 32 := Scalar.extui v38
  let c0_i32_27 : BitVec 32 := 0#32
  let v40 : BitVec 1 := Scalar.cmpi .slt v36 c0_i32_27
  let v41 : BitVec 32 := Scalar.extui v40
  let v42 : BitVec 32 := Scalar.subi v39 v41
  let c2_i32_25 : BitVec 32 := 2#32
  let c0_i32_28 : BitVec 32 := 0#32
  let v43 : BitVec 1 := Scalar.cmpi .sgt c2_i32_25 c0_i32_28
  let v44 : BitVec 32 := Scalar.extui v43
  let c0_i32_29 : BitVec 32 := 0#32
  let v45 : BitVec 1 := Scalar.cmpi .slt c2_i32_25 c0_i32_29
  let v46 : BitVec 32 := Scalar.extui v45
  let v47 : BitVec 32 := Scalar.subi v44 v46
  let v48 : BitVec 1 := Scalar.cmpi .ne v42 v47
  let v49 : BitVec 32 := Scalar.remsi v36 c2_i32_25
  let c0_i32_30 : BitVec 32 := 0#32
  let v50 : BitVec 1 := Scalar.cmpi .ne v49 c0_i32_30
  let v51 : BitVec 1 := Scalar.andi v48 v50
  let v37 : BitVec 32 := Scalar.divsi v36 c2_i32_25
  let c1_i32_31 : BitVec 32 := 1#32
  let v52 : BitVec 32 := Scalar.subi v37 c1_i32_31
  let v53 : BitVec 32 := Scalar.select v51 v52 v37
  let v54 : BitVec 32 := Scalar.subi v53 c0_i32_33
  let c1_i32_34 : BitVec 32 := 1#32
  let v56 : BitVec 32 := Scalar.divsi v54 c1_i32_34
  let v57 : BitVec 32 := Scalar.muli v56 c1_i32_34
  let v58 : BitVec 32 := Scalar.addi c0_i32_33 v57
  let c1_i32_36 : BitVec 32 := 1#32
  let arg12 : BitVec 32 := Scf.iv v58 c1_i32_36 k0_t2
  let v59 : BitVec 32 := Scalar.muli c2_i32_37 arg12
  let v60 : BitVec 32 := Scalar.addi v35 v59
  let c512_i32 : BitVec 32 := 512#32
  let v64 : BitVec 32 := Scalar.muli v60 c512_i32
  let v65 : BitVec 32 := v64
  let v68 : Index := Scalar.indexCast v65
  ![0, 0, v68.toNat]
def k0_off17 (i : grid0.Coords) (k0_t2 : Fin (k0_t2_loop i).trips) : Fin 3 → Nat :=
  let c0_43 : Index := 0#32
  let c0_44 : Index := 0#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_38 : BitVec 32 := 2#32
  let c0_i32_33 : BitVec 32 := 0#32
  let c16_i32 : BitVec 32 := 16#32
  let v36 : BitVec 32 := Scalar.subi c16_i32 v35
  let c0_i32_26 : BitVec 32 := 0#32
  let v38 : BitVec 1 := Scalar.cmpi .sgt v36 c0_i32_26
  let v39 : BitVec 32 := Scalar.extui v38
  let c0_i32_27 : BitVec 32 := 0#32
  let v40 : BitVec 1 := Scalar.cmpi .slt v36 c0_i32_27
  let v41 : BitVec 32 := Scalar.extui v40
  let v42 : BitVec 32 := Scalar.subi v39 v41
  let c2_i32_25 : BitVec 32 := 2#32
  let c0_i32_28 : BitVec 32 := 0#32
  let v43 : BitVec 1 := Scalar.cmpi .sgt c2_i32_25 c0_i32_28
  let v44 : BitVec 32 := Scalar.extui v43
  let c0_i32_29 : BitVec 32 := 0#32
  let v45 : BitVec 1 := Scalar.cmpi .slt c2_i32_25 c0_i32_29
  let v46 : BitVec 32 := Scalar.extui v45
  let v47 : BitVec 32 := Scalar.subi v44 v46
  let v48 : BitVec 1 := Scalar.cmpi .ne v42 v47
  let v49 : BitVec 32 := Scalar.remsi v36 c2_i32_25
  let c0_i32_30 : BitVec 32 := 0#32
  let v50 : BitVec 1 := Scalar.cmpi .ne v49 c0_i32_30
  let v51 : BitVec 1 := Scalar.andi v48 v50
  let v37 : BitVec 32 := Scalar.divsi v36 c2_i32_25
  let c1_i32_31 : BitVec 32 := 1#32
  let v52 : BitVec 32 := Scalar.subi v37 c1_i32_31
  let v53 : BitVec 32 := Scalar.select v51 v52 v37
  let v54 : BitVec 32 := Scalar.subi v53 c0_i32_33
  let c1_i32_34 : BitVec 32 := 1#32
  let v56 : BitVec 32 := Scalar.divsi v54 c1_i32_34
  let v57 : BitVec 32 := Scalar.muli v56 c1_i32_34
  let v58 : BitVec 32 := Scalar.addi c0_i32_33 v57
  let c1_i32_36 : BitVec 32 := 1#32
  let arg12 : BitVec 32 := Scf.iv v58 c1_i32_36 k0_t2
  let v61 : BitVec 32 := Scalar.muli c2_i32_38 arg12
  let v62 : BitVec 32 := Scalar.addi v35 v61
  let c1_i32_39 : BitVec 32 := 1#32
  let v63 : BitVec 32 := Scalar.addi v62 c1_i32_39
  let c512_i32_40 : BitVec 32 := 512#32
  let v66 : BitVec 32 := Scalar.muli v63 c512_i32_40
  let v67 : BitVec 32 := v66
  let v71 : Index := Scalar.indexCast v67
  ![0, 0, v71.toNat]
def k0_off18 (i : grid0.Coords) (k0_t2 : Fin (k0_t2_loop i).trips) : Fin 3 → Nat :=
  let c0_45 : Index := 0#32
  let c0_46 : Index := 0#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_37 : BitVec 32 := 2#32
  let c0_i32_33 : BitVec 32 := 0#32
  let c16_i32 : BitVec 32 := 16#32
  let v36 : BitVec 32 := Scalar.subi c16_i32 v35
  let c0_i32_26 : BitVec 32 := 0#32
  let v38 : BitVec 1 := Scalar.cmpi .sgt v36 c0_i32_26
  let v39 : BitVec 32 := Scalar.extui v38
  let c0_i32_27 : BitVec 32 := 0#32
  let v40 : BitVec 1 := Scalar.cmpi .slt v36 c0_i32_27
  let v41 : BitVec 32 := Scalar.extui v40
  let v42 : BitVec 32 := Scalar.subi v39 v41
  let c2_i32_25 : BitVec 32 := 2#32
  let c0_i32_28 : BitVec 32 := 0#32
  let v43 : BitVec 1 := Scalar.cmpi .sgt c2_i32_25 c0_i32_28
  let v44 : BitVec 32 := Scalar.extui v43
  let c0_i32_29 : BitVec 32 := 0#32
  let v45 : BitVec 1 := Scalar.cmpi .slt c2_i32_25 c0_i32_29
  let v46 : BitVec 32 := Scalar.extui v45
  let v47 : BitVec 32 := Scalar.subi v44 v46
  let v48 : BitVec 1 := Scalar.cmpi .ne v42 v47
  let v49 : BitVec 32 := Scalar.remsi v36 c2_i32_25
  let c0_i32_30 : BitVec 32 := 0#32
  let v50 : BitVec 1 := Scalar.cmpi .ne v49 c0_i32_30
  let v51 : BitVec 1 := Scalar.andi v48 v50
  let v37 : BitVec 32 := Scalar.divsi v36 c2_i32_25
  let c1_i32_31 : BitVec 32 := 1#32
  let v52 : BitVec 32 := Scalar.subi v37 c1_i32_31
  let v53 : BitVec 32 := Scalar.select v51 v52 v37
  let v54 : BitVec 32 := Scalar.subi v53 c0_i32_33
  let c1_i32_34 : BitVec 32 := 1#32
  let v56 : BitVec 32 := Scalar.divsi v54 c1_i32_34
  let v57 : BitVec 32 := Scalar.muli v56 c1_i32_34
  let v58 : BitVec 32 := Scalar.addi c0_i32_33 v57
  let c1_i32_36 : BitVec 32 := 1#32
  let arg12 : BitVec 32 := Scf.iv v58 c1_i32_36 k0_t2
  let v59 : BitVec 32 := Scalar.muli c2_i32_37 arg12
  let v60 : BitVec 32 := Scalar.addi v35 v59
  let c512_i32 : BitVec 32 := 512#32
  let v64 : BitVec 32 := Scalar.muli v60 c512_i32
  let v65 : BitVec 32 := v64
  let v74 : Index := Scalar.indexCast v65
  ![0, 0, v74.toNat]
def k0_off19 (i : grid0.Coords) (k0_t2 : Fin (k0_t2_loop i).trips) : Fin 3 → Nat :=
  let c0_47 : Index := 0#32
  let c0_48 : Index := 0#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_38 : BitVec 32 := 2#32
  let c0_i32_33 : BitVec 32 := 0#32
  let c16_i32 : BitVec 32 := 16#32
  let v36 : BitVec 32 := Scalar.subi c16_i32 v35
  let c0_i32_26 : BitVec 32 := 0#32
  let v38 : BitVec 1 := Scalar.cmpi .sgt v36 c0_i32_26
  let v39 : BitVec 32 := Scalar.extui v38
  let c0_i32_27 : BitVec 32 := 0#32
  let v40 : BitVec 1 := Scalar.cmpi .slt v36 c0_i32_27
  let v41 : BitVec 32 := Scalar.extui v40
  let v42 : BitVec 32 := Scalar.subi v39 v41
  let c2_i32_25 : BitVec 32 := 2#32
  let c0_i32_28 : BitVec 32 := 0#32
  let v43 : BitVec 1 := Scalar.cmpi .sgt c2_i32_25 c0_i32_28
  let v44 : BitVec 32 := Scalar.extui v43
  let c0_i32_29 : BitVec 32 := 0#32
  let v45 : BitVec 1 := Scalar.cmpi .slt c2_i32_25 c0_i32_29
  let v46 : BitVec 32 := Scalar.extui v45
  let v47 : BitVec 32 := Scalar.subi v44 v46
  let v48 : BitVec 1 := Scalar.cmpi .ne v42 v47
  let v49 : BitVec 32 := Scalar.remsi v36 c2_i32_25
  let c0_i32_30 : BitVec 32 := 0#32
  let v50 : BitVec 1 := Scalar.cmpi .ne v49 c0_i32_30
  let v51 : BitVec 1 := Scalar.andi v48 v50
  let v37 : BitVec 32 := Scalar.divsi v36 c2_i32_25
  let c1_i32_31 : BitVec 32 := 1#32
  let v52 : BitVec 32 := Scalar.subi v37 c1_i32_31
  let v53 : BitVec 32 := Scalar.select v51 v52 v37
  let v54 : BitVec 32 := Scalar.subi v53 c0_i32_33
  let c1_i32_34 : BitVec 32 := 1#32
  let v56 : BitVec 32 := Scalar.divsi v54 c1_i32_34
  let v57 : BitVec 32 := Scalar.muli v56 c1_i32_34
  let v58 : BitVec 32 := Scalar.addi c0_i32_33 v57
  let c1_i32_36 : BitVec 32 := 1#32
  let arg12 : BitVec 32 := Scf.iv v58 c1_i32_36 k0_t2
  let v61 : BitVec 32 := Scalar.muli c2_i32_38 arg12
  let v62 : BitVec 32 := Scalar.addi v35 v61
  let c1_i32_39 : BitVec 32 := 1#32
  let v63 : BitVec 32 := Scalar.addi v62 c1_i32_39
  let c512_i32_40 : BitVec 32 := 512#32
  let v66 : BitVec 32 := Scalar.muli v63 c512_i32_40
  let v67 : BitVec 32 := v66
  let v77 : Index := Scalar.indexCast v67
  ![0, 0, v77.toNat]
def k0_off20 (i : grid0.Coords) (k0_t2 : Fin (k0_t2_loop i).trips) : Fin 3 → Nat :=
  let c0_53 : Index := 0#32
  let c0_54 : Index := 0#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_37 : BitVec 32 := 2#32
  let c0_i32_33 : BitVec 32 := 0#32
  let c16_i32 : BitVec 32 := 16#32
  let v36 : BitVec 32 := Scalar.subi c16_i32 v35
  let c0_i32_26 : BitVec 32 := 0#32
  let v38 : BitVec 1 := Scalar.cmpi .sgt v36 c0_i32_26
  let v39 : BitVec 32 := Scalar.extui v38
  let c0_i32_27 : BitVec 32 := 0#32
  let v40 : BitVec 1 := Scalar.cmpi .slt v36 c0_i32_27
  let v41 : BitVec 32 := Scalar.extui v40
  let v42 : BitVec 32 := Scalar.subi v39 v41
  let c2_i32_25 : BitVec 32 := 2#32
  let c0_i32_28 : BitVec 32 := 0#32
  let v43 : BitVec 1 := Scalar.cmpi .sgt c2_i32_25 c0_i32_28
  let v44 : BitVec 32 := Scalar.extui v43
  let c0_i32_29 : BitVec 32 := 0#32
  let v45 : BitVec 1 := Scalar.cmpi .slt c2_i32_25 c0_i32_29
  let v46 : BitVec 32 := Scalar.extui v45
  let v47 : BitVec 32 := Scalar.subi v44 v46
  let v48 : BitVec 1 := Scalar.cmpi .ne v42 v47
  let v49 : BitVec 32 := Scalar.remsi v36 c2_i32_25
  let c0_i32_30 : BitVec 32 := 0#32
  let v50 : BitVec 1 := Scalar.cmpi .ne v49 c0_i32_30
  let v51 : BitVec 1 := Scalar.andi v48 v50
  let v37 : BitVec 32 := Scalar.divsi v36 c2_i32_25
  let c1_i32_31 : BitVec 32 := 1#32
  let v52 : BitVec 32 := Scalar.subi v37 c1_i32_31
  let v53 : BitVec 32 := Scalar.select v51 v52 v37
  let v54 : BitVec 32 := Scalar.subi v53 c0_i32_33
  let c1_i32_34 : BitVec 32 := 1#32
  let v56 : BitVec 32 := Scalar.divsi v54 c1_i32_34
  let v57 : BitVec 32 := Scalar.muli v56 c1_i32_34
  let v58 : BitVec 32 := Scalar.addi c0_i32_33 v57
  let c1_i32_36 : BitVec 32 := 1#32
  let arg12 : BitVec 32 := Scf.iv v58 c1_i32_36 k0_t2
  let v59 : BitVec 32 := Scalar.muli c2_i32_37 arg12
  let v60 : BitVec 32 := Scalar.addi v35 v59
  let c512_i32 : BitVec 32 := 512#32
  let v64 : BitVec 32 := Scalar.muli v60 c512_i32
  let v65 : BitVec 32 := v64
  let v84 : Index := Scalar.indexCast v65
  ![0, 0, v84.toNat]
def k0_off21 (i : grid0.Coords) (k0_t2 : Fin (k0_t2_loop i).trips) : Fin 3 → Nat :=
  let c0_76 : Index := 0#32
  let c0_77 : Index := 0#32
  let arg1 : BitVec 32 := BitVec.ofNat 32 (i 1).val
  let c1_i32_24 : BitVec 32 := 1#32
  let v34 : BitVec 32 := Scalar.addi arg1 c1_i32_24
  let c15_i32 : BitVec 32 := 15#32
  let v17 : BitVec 32 := Scalar.subi c15_i32 arg1
  let c2_i32 : BitVec 32 := 2#32
  let c0_i32_16 : BitVec 32 := 0#32
  let v18 : BitVec 1 := Scalar.cmpi .eq c2_i32 c0_i32_16
  let c1_i32 : BitVec 32 := 1#32
  let v19 : BitVec 32 := Scalar.select v18 c1_i32 c2_i32
  let v20 : BitVec 32 := Scalar.remsi v17 v19
  let c0_i32_18 : BitVec 32 := 0#32
  let v22 : BitVec 1 := Scalar.cmpi .slt v20 c0_i32_18
  let c0_i32_19 : BitVec 32 := 0#32
  let v23 : BitVec 1 := Scalar.cmpi .slt v19 c0_i32_19
  let v24 : BitVec 1 := Scalar.xori v22 v23
  let c0_i32_17 : BitVec 32 := 0#32
  let v21 : BitVec 1 := Scalar.cmpi .ne v20 c0_i32_17
  let v25 : BitVec 1 := Scalar.andi v24 v21
  let v26 : BitVec 32 := Scalar.addi v20 v19
  let v27 : BitVec 32 := Scalar.select v25 v26 v20
  let v35 : BitVec 32 := Scalar.addi v34 v27
  let c2_i32_38 : BitVec 32 := 2#32
  let c0_i32_33 : BitVec 32 := 0#32
  let c16_i32 : BitVec 32 := 16#32
  let v36 : BitVec 32 := Scalar.subi c16_i32 v35
  let c0_i32_26 : BitVec 32 := 0#32
  let v38 : BitVec 1 := Scalar.cmpi .sgt v36 c0_i32_26
  let v39 : BitVec 32 := Scalar.extui v38
  let c0_i32_27 : BitVec 32 := 0#32
  let v40 : BitVec 1 := Scalar.cmpi .slt v36 c0_i32_27
  let v41 : BitVec 32 := Scalar.extui v40
  let v42 : BitVec 32 := Scalar.subi v39 v41
  let c2_i32_25 : BitVec 32 := 2#32
  let c0_i32_28 : BitVec 32 := 0#32
  let v43 : BitVec 1 := Scalar.cmpi .sgt c2_i32_25 c0_i32_28
  let v44 : BitVec 32 := Scalar.extui v43
  let c0_i32_29 : BitVec 32 := 0#32
  let v45 : BitVec 1 := Scalar.cmpi .slt c2_i32_25 c0_i32_29
  let v46 : BitVec 32 := Scalar.extui v45
  let v47 : BitVec 32 := Scalar.subi v44 v46
  let v48 : BitVec 1 := Scalar.cmpi .ne v42 v47
  let v49 : BitVec 32 := Scalar.remsi v36 c2_i32_25
  let c0_i32_30 : BitVec 32 := 0#32
  let v50 : BitVec 1 := Scalar.cmpi .ne v49 c0_i32_30
  let v51 : BitVec 1 := Scalar.andi v48 v50
  let v37 : BitVec 32 := Scalar.divsi v36 c2_i32_25
  let c1_i32_31 : BitVec 32 := 1#32
  let v52 : BitVec 32 := Scalar.subi v37 c1_i32_31
  let v53 : BitVec 32 := Scalar.select v51 v52 v37
  let v54 : BitVec 32 := Scalar.subi v53 c0_i32_33
  let c1_i32_34 : BitVec 32 := 1#32
  let v56 : BitVec 32 := Scalar.divsi v54 c1_i32_34
  let v57 : BitVec 32 := Scalar.muli v56 c1_i32_34
  let v58 : BitVec 32 := Scalar.addi c0_i32_33 v57
  let c1_i32_36 : BitVec 32 := 1#32
  let arg12 : BitVec 32 := Scf.iv v58 c1_i32_36 k0_t2
  let v61 : BitVec 32 := Scalar.muli c2_i32_38 arg12
  let v62 : BitVec 32 := Scalar.addi v35 v61
  let c1_i32_39 : BitVec 32 := 1#32
  let v63 : BitVec 32 := Scalar.addi v62 c1_i32_39
  let c512_i32_40 : BitVec 32 := 512#32
  let v66 : BitVec 32 := Scalar.muli v63 c512_i32_40
  let v67 : BitVec 32 := v66
  let v121 : Index := Scalar.indexCast v67
  ![0, 0, v121.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg1.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg1.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x192x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x192x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x192x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "neg" => some ⊥
  | _ => none
-- ==== ReferenceIdeal.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8x192x8192 : Shape := ⟨3, ![8, 192, 8192]⟩

abbrev nBuf : Space → Nat
  | .hbm => 100
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x8x128, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x128x8192, .f32⟩
  | .hbm, ⟨61, _⟩ => ⟨S8192x8x128, .f32⟩
  | .hbm, ⟨62, _⟩ => ⟨S8x128x8192, .f32⟩
  | .hbm, ⟨63, _⟩ => ⟨S8x8192x8192, .f32⟩
  | .hbm, ⟨64, _⟩ => ⟨S8x128x8192, .f32⟩
  | .hbm, ⟨65, _⟩ => ⟨S8192x8x128, .f32⟩
  | .hbm, ⟨66, _⟩ => ⟨S8x8192x8192, .f32⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S8x8192, .f32⟩
  | .hbm, ⟨71, _⟩ => ⟨S8x8192x1, .f32⟩
  | .hbm, ⟨72, _⟩ => ⟨S8x8192x1, .f32⟩
  | .hbm, ⟨73, _⟩ => ⟨S8x8192x8192, .f32⟩
  | .hbm, ⟨74, _⟩ => ⟨S8x8192x8192, .f32⟩
  | .hbm, ⟨75, _⟩ => ⟨S_, .f32⟩
  | .hbm, ⟨76, _⟩ => ⟨S8x8192, .f32⟩
  | .hbm, ⟨77, _⟩ => ⟨S8x8192x8192, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192x8192, .f32⟩
  | .hbm, ⟨85, _⟩ => ⟨S8x8192x8192, .f32⟩
  | .hbm, ⟨86, _⟩ => ⟨S8x8192x192, .f32⟩
  | .hbm, ⟨87, _⟩ => ⟨S8192x8x192, .f32⟩
  | .hbm, ⟨88, _⟩ => ⟨S8x8192x192, .f32⟩
  | .hbm, ⟨89, _⟩ => ⟨S8192x8x192, .f32⟩
  | .hbm, ⟨90, _⟩ => ⟨S_, .f32⟩
  | .hbm, ⟨91, _⟩ => ⟨S8192x8x192, .f32⟩
  | .hbm, ⟨92, _⟩ => ⟨S8192x8x192, .f32⟩
  | .hbm, ⟨93, _⟩ => ⟨S8x192x8192, .f32⟩
  | .hbm, ⟨94, _⟩ => ⟨S_, .f32⟩
  | .hbm, ⟨95, _⟩ => ⟨S_, .f32⟩
  | .hbm, ⟨96, _⟩ => ⟨S8192x8x192, .f32⟩
  | .hbm, ⟨97, _⟩ => ⟨S8192x8x192, .f32⟩
  | .hbm, ⟨98, _⟩ => ⟨S8x192x8192, .f32⟩
  | .hbm, ⟨99, _⟩ => ⟨S8x128x8192, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== Kernel2.lean ====
abbrev S8192x5632 : Shape := ⟨2, ![8192, 5632]⟩
abbrev S2x2048x5632 : Shape := ⟨3, ![2, 2048, 5632]⟩
abbrev S2x2048x4x1408 : Shape := ⟨4, ![2, 2048, 4, 1408]⟩
abbrev S2x4x2048x1408 : Shape := ⟨4, ![2, 4, 2048, 1408]⟩
abbrev S8192x2048 : Shape := ⟨2, ![8192, 2048]⟩
abbrev S512x1408 : Shape := ⟨2, ![512, 1408]⟩
abbrev S1x1x2048x1408 : Shape := ⟨4, ![1, 1, 2048, 1408]⟩
abbrev S512x2048 : Shape := ⟨2, ![512, 2048]⟩
abbrev S2048x1408 : Shape := ⟨2, ![2048, 1408]⟩

abbrev nBuf : Space → Nat
  | .hbm => 11
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2x2048x5632, .f32⟩
  | .hbm, ⟨3, _⟩ => ⟨S2x2048x5632, .f32⟩
  | .hbm, ⟨4, _⟩ => ⟨S2x2048x4x1408, .f32⟩
  | .hbm, ⟨5, _⟩ => ⟨S2x4x2048x1408, .f32⟩
  | .hbm, ⟨6, _⟩ => ⟨S2x4x2048x1408, .bf16⟩
  | .hbm, ⟨7, _⟩ => ⟨S2x2048x4x1408, .f32⟩
  | .hbm, ⟨8, _⟩ => ⟨S2x4x2048x1408, .f32⟩
  | .hbm, ⟨9, _⟩ => ⟨S2x4x2048x1408, .bf16⟩
  | .hbm, ⟨10, _⟩ => ⟨S8192x2048, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S1x1x2048x1408, .bf16⟩
  | .local _ .vmem, ⟨7, _⟩ => ⟨S1x1x2048x1408, .bf16⟩
  | .local _ .vmem, ⟨8, _⟩ => ⟨S512x2048, .f32⟩
  | .local _ .vmem, ⟨9, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x5632 : Shape := ⟨2, ![8192, 5632]⟩
abbrev S2x2048x5632 : Shape := ⟨3, ![2, 2048, 5632]⟩
abbrev S_ : Shape := ⟨0, ![]⟩
abbrev S8192x2048 : Shape := ⟨2, ![8192, 2048]⟩
abbrev S1x2048x5632 : Shape := ⟨3, ![1, 2048, 5632]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2x2048x5632, .f32⟩
  | .hbm, ⟨3, _⟩ => ⟨S2x2048x5632, .f32⟩
  | .hbm, ⟨4, _⟩ => ⟨S_, .f32⟩
  | .hbm, ⟨5, _⟩ => ⟨S8192x2048, .f32⟩
  | .hbm, ⟨6, _⟩ => ⟨S1x2048x5632, .f32⟩
  | .hbm, ⟨7, _⟩ => ⟨S2048x5632, .f32⟩
  | .hbm, ⟨8, _⟩ => ⟨S8192x5632, .f32⟩
  | .hbm, ⟨9, _⟩ => ⟨S1x2048x5632, .f32⟩
  | .hbm, ⟨10, _⟩ => ⟨S2048x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x2048, .f32⟩
  | .hbm, ⟨15, _⟩ => ⟨S8192x2048, .f32⟩
  | .hbm, ⟨16, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel3.lean ====
abbrev S8192x2048 : Shape := ⟨2, ![8192, 2048]⟩
abbrev S8192x5632 : Shape := ⟨2, ![8192, 5632]⟩
abbrev S2x4x2048x1408 : Shape := ⟨4, ![2, 4, 2048, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2x4x2048x1408, .bf16⟩
  | .hbm, ⟨3, _⟩ => ⟨S2x4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x5632 : Shape := ⟨2, ![8192, 5632]⟩
abbrev S2x4x2048x1408 : Shape := ⟨4, ![2, 4, 2048, 1408]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S1x4x2048x1408 : Shape := ⟨4, ![1, 4, 2048, 1408]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2x4x2048x1408, .bf16⟩
  | .hbm, ⟨3, _⟩ => ⟨S_, .f32⟩
  | .hbm, ⟨4, _⟩ => ⟨S2048x5632, .f32⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S5632x2048, .f32⟩
  | .hbm, ⟨9, _⟩ => ⟨S2048x5632, .f32⟩
  | .hbm, ⟨10, _⟩ => ⟨S2048x4x1408, .f32⟩
  | .hbm, ⟨11, _⟩ => ⟨S4x2048x1408, .f32⟩
  | .hbm, ⟨12, _⟩ => ⟨S4x2048x1408, .bf16⟩
  | .hbm, ⟨13, _⟩ => ⟨S1x4x2048x1408, .bf16⟩
  | .hbm, ⟨14, _⟩ => ⟨S4x2048x1408, .bf16⟩
  | .hbm, ⟨15, _⟩ => ⟨S1x4x2048x1408, .bf16⟩
  | .hbm, ⟨16, _⟩ => ⟨S1x4x2048x1408, .bf16⟩
  | .hbm, ⟨17, _⟩ => ⟨S2x4x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel4.lean ====
abbrev S8192x5632 : Shape := ⟨2, ![8192, 5632]⟩
abbrev S8192x2048 : Shape := ⟨2, ![8192, 2048]⟩
abbrev S2x5632x2048 : Shape := ⟨3, ![2, 5632, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S2x5632x2048, .bf16⟩
  | .hbm, ⟨3, _⟩ => ⟨S2x5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S8192x2048 : Shape := ⟨2, ![8192, 2048]⟩
abbrev S2x5632x2048 : Shape := ⟨3, ![2, 5632, 2048]⟩
abbrev S_ : Shape := ⟨0, ![]⟩
abbrev S5632x2048 : Shape := ⟨2, ![5632, 2048]⟩
abbrev S2048x5632 : Shape := ⟨2, ![2048, 5632]⟩
abbrev S1x5632x2048 : Shape := ⟨3, ![1, 5632, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S2x5632x2048, .bf16⟩
  | .hbm, ⟨3, _⟩ => ⟨S_, .f32⟩
  | .hbm, ⟨4, _⟩ => ⟨S5632x2048, .f32⟩
  | .hbm, ⟨5, _⟩ => ⟨S8192x5632, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | .hbm, ⟨16, _⟩ => ⟨S1x5632x2048, .bf16⟩
  | .hbm, ⟨17, _⟩ => ⟨S5632x2048, .bf16⟩
  | .hbm, ⟨18, _⟩ => ⟨S1x5632x2048, .bf16⟩
  | .hbm, ⟨19, _⟩ => ⟨S1x5632x2048, .bf16⟩
  | .hbm, ⟨20, _⟩ => ⟨S2x5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S8192x2048 : Shape := ⟨2, ![8192, 2048]⟩
abbrev S2x5632x2048 : Shape := ⟨3, ![2, 5632, 2048]⟩
abbrev S8192x5632 : Shape := ⟨2, ![8192, 5632]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2x5632x2048, .f32⟩
  | .hbm, ⟨2, _⟩ => ⟨S8192x5632, .bf16⟩
  | .hbm, ⟨3, _⟩ => ⟨S8192x5632, .bf16⟩
  | .hbm, ⟨4, _⟩ => ⟨S2x5632x2048, .bf16⟩
  | .hbm, ⟨5, _⟩ => ⟨S8192x5632, .bf16⟩
  | .hbm, ⟨6, _⟩ => ⟨S8192x5632, .bf16⟩
  | .local _ .vmem, ⟨0, _⟩ => ⟨S512x2048, .f32⟩
  | .local _ .vmem, ⟨1, _⟩ => ⟨S512x2048, .f32⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x2048 : Shape := ⟨2, ![8192, 2048]⟩
abbrev S2x5632x2048 : Shape := ⟨3, ![2, 5632, 2048]⟩
abbrev S8192x5632 : Shape := ⟨2, ![8192, 5632]⟩
abbrev S_ : Shape := ⟨0, ![]⟩
abbrev S1x5632x2048 : Shape := ⟨3, ![1, 5632, 2048]⟩
abbrev S5632x2048 : Shape := ⟨2, ![5632, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x5632x2048, .f32⟩
  | .hbm, ⟨2, _⟩ => ⟨S8192x5632, .bf16⟩
  | .hbm, ⟨3, _⟩ => ⟨S8192x5632, .bf16⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632x2048, .f32⟩
  | .hbm, ⟨21, _⟩ => ⟨S5632x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .bf16⟩
  | .hbm, ⟨37, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel6.lean ====
abbrev S8192x5632 : Shape := ⟨2, ![8192, 5632]⟩
abbrev S2x2048x5632 : Shape := ⟨3, ![2, 2048, 5632]⟩
abbrev S2x2048x4x1408 : Shape := ⟨4, ![2, 2048, 4, 1408]⟩
abbrev S2x4x2048x1408 : Shape := ⟨4, ![2, 4, 2048, 1408]⟩
abbrev S8192x2048 : Shape := ⟨2, ![8192, 2048]⟩
abbrev S512x1408 : Shape := ⟨2, ![512, 1408]⟩
abbrev S1x1x2048x1408 : Shape := ⟨4, ![1, 1, 2048, 1408]⟩
abbrev S512x2048 : Shape := ⟨2, ![512, 2048]⟩
abbrev S2048x1408 : Shape := ⟨2, ![2048, 1408]⟩

abbrev nBuf : Space → Nat
  | .hbm => 11
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2x2048x5632, .f32⟩
  | .hbm, ⟨3, _⟩ => ⟨S2x2048x5632, .f32⟩
  | .hbm, ⟨4, _⟩ => ⟨S2x2048x4x1408, .f32⟩
  | .hbm, ⟨5, _⟩ => ⟨S2x4x2048x1408, .f32⟩
  | .hbm, ⟨6, _⟩ => ⟨S2x4x2048x1408, .bf16⟩
  | .hbm, ⟨7, _⟩ => ⟨S2x2048x4x1408, .f32⟩
  | .hbm, ⟨8, _⟩ => ⟨S2x4x2048x1408, .f32⟩
  | .hbm, ⟨9, _⟩ => ⟨S2x4x2048x1408, .bf16⟩
  | .hbm, ⟨10, _⟩ => ⟨S8192x2048, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S1x1x2048x1408, .bf16⟩
  | .local _ .vmem, ⟨7, _⟩ => ⟨S1x1x2048x1408, .bf16⟩
  | .local _ .vmem, ⟨8, _⟩ => ⟨S512x2048, .f32⟩
  | .local _ .vmem, ⟨9, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S8192x5632 : Shape := ⟨2, ![8192, 5632]⟩
abbrev S2x2048x5632 : Shape := ⟨3, ![2, 2048, 5632]⟩
abbrev S_ : Shape := ⟨0, ![]⟩
abbrev S8192x2048 : Shape := ⟨2, ![8192, 2048]⟩
abbrev S1x2048x5632 : Shape := ⟨3, ![1, 2048, 5632]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2x2048x5632, .f32⟩
  | .hbm, ⟨3, _⟩ => ⟨S2x2048x5632, .f32⟩
  | .hbm, ⟨4, _⟩ => ⟨S_, .f32⟩
  | .hbm, ⟨5, _⟩ => ⟨S8192x2048, .f32⟩
  | .hbm, ⟨6, _⟩ => ⟨S1x2048x5632, .f32⟩
  | .hbm, ⟨7, _⟩ => ⟨S2048x5632, .f32⟩
  | .hbm, ⟨8, _⟩ => ⟨S8192x5632, .f32⟩
  | .hbm, ⟨9, _⟩ => ⟨S1x2048x5632, .f32⟩
  | .hbm, ⟨10, _⟩ => ⟨S2048x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x2048, .f32⟩
  | .hbm, ⟨15, _⟩ => ⟨S8192x2048, .f32⟩
  | .hbm, ⟨16, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel7.lean ====
abbrev S8192x2048 : Shape := ⟨2, ![8192, 2048]⟩
abbrev S2x5632x2048 : Shape := ⟨3, ![2, 5632, 2048]⟩
abbrev S8192x5632 : Shape := ⟨2, ![8192, 5632]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2x5632x2048, .f32⟩
  | .hbm, ⟨2, _⟩ => ⟨S8192x5632, .bf16⟩
  | .hbm, ⟨3, _⟩ => ⟨S8192x5632, .bf16⟩
  | .hbm, ⟨4, _⟩ => ⟨S2x5632x2048, .bf16⟩
  | .hbm, ⟨5, _⟩ => ⟨S8192x5632, .bf16⟩
  | .hbm, ⟨6, _⟩ => ⟨S8192x5632, .bf16⟩
  | .local _ .vmem, ⟨0, _⟩ => ⟨S512x2048, .f32⟩
  | .local _ .vmem, ⟨1, _⟩ => ⟨S512x2048, .f32⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x2048 : Shape := ⟨2, ![8192, 2048]⟩
abbrev S2x5632x2048 : Shape := ⟨3, ![2, 5632, 2048]⟩
abbrev S8192x5632 : Shape := ⟨2, ![8192, 5632]⟩
abbrev S_ : Shape := ⟨0, ![]⟩
abbrev S1x5632x2048 : Shape := ⟨3, ![1, 5632, 2048]⟩
abbrev S5632x2048 : Shape := ⟨2, ![5632, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x5632x2048, .f32⟩
  | .hbm, ⟨2, _⟩ => ⟨S8192x5632, .bf16⟩
  | .hbm, ⟨3, _⟩ => ⟨S8192x5632, .bf16⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632x2048, .f32⟩
  | .hbm, ⟨21, _⟩ => ⟨S5632x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .bf16⟩
  | .hbm, ⟨37, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel8.lean ====
abbrev S8192x2048 : Shape := ⟨2, ![8192, 2048]⟩
abbrev S8192x5632 : Shape := ⟨2, ![8192, 5632]⟩
abbrev S2x4x2048x1408 : Shape := ⟨4, ![2, 4, 2048, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩
abbrev S1x4x2048x1408 : Shape := ⟨4, ![1, 4, 2048, 1408]⟩
abbrev S4x2048x1408 : Shape := ⟨3, ![4, 2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2x4x2048x1408, .bf16⟩
  | .hbm, ⟨3, _⟩ => ⟨S1x4x2048x1408, .bf16⟩
  | .hbm, ⟨4, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | .hbm, ⟨11, _⟩ => ⟨S4x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S8192x5632 : Shape := ⟨2, ![8192, 5632]⟩
abbrev S8192x2048 : Shape := ⟨2, ![8192, 2048]⟩
abbrev S2x5632x2048 : Shape := ⟨3, ![2, 5632, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S1x5632x2048 : Shape := ⟨3, ![1, 5632, 2048]⟩
abbrev S5632x2048 : Shape := ⟨2, ![5632, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S2x5632x2048, .bf16⟩
  | .hbm, ⟨3, _⟩ => ⟨S1x5632x2048, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S2048x5632, .f32⟩
  | .hbm, ⟨13, _⟩ => ⟨S5632x2048, .f32⟩
  | .hbm, ⟨14, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel10.lean ====
abbrev S8192x2048 : Shape := ⟨2, ![8192, 2048]⟩
abbrev S2x2048x5632 : Shape := ⟨3, ![2, 2048, 5632]⟩
abbrev S2x2048x4x1408 : Shape := ⟨4, ![2, 2048, 4, 1408]⟩
abbrev S2x4x2048x1408 : Shape := ⟨4, ![2, 4, 2048, 1408]⟩
abbrev S8192x5632 : Shape := ⟨2, ![8192, 5632]⟩
abbrev S512x2048 : Shape := ⟨2, ![512, 2048]⟩
abbrev S1x1x2048x1408 : Shape := ⟨4, ![1, 1, 2048, 1408]⟩
abbrev S512x1408 : Shape := ⟨2, ![512, 1408]⟩
abbrev S2048x1408 : Shape := ⟨2, ![2048, 1408]⟩

abbrev nBuf : Space → Nat
  | .hbm => 12
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S2x2048x4x1408, .f32⟩
  | .hbm, ⟨4, _⟩ => ⟨S2x4x2048x1408, .f32⟩
  | .hbm, ⟨5, _⟩ => ⟨S2x4x2048x1408, .bf16⟩
  | .hbm, ⟨6, _⟩ => ⟨S2x2048x4x1408, .f32⟩
  | .hbm, ⟨7, _⟩ => ⟨S2x4x2048x1408, .f32⟩
  | .hbm, ⟨8, _⟩ => ⟨S2x4x2048x1408, .bf16⟩
  | .hbm, ⟨9, _⟩ => ⟨S8192x5632, .bf16⟩
  | .hbm, ⟨10, _⟩ => ⟨S8192x5632, .bf16⟩
  | .hbm, ⟨11, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S8192x2048 : Shape := ⟨2, ![8192, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x2048, .f32⟩
  | .hbm, ⟨4, _⟩ => ⟨S1x2048x5632, .f32⟩
  | .hbm, ⟨5, _⟩ => ⟨S2048x5632, .f32⟩
  | .hbm, ⟨6, _⟩ => ⟨S8192x5632, .f32⟩
  | .hbm, ⟨7, _⟩ => ⟨S8192x2048, .f32⟩
  | .hbm, ⟨8, _⟩ => ⟨S1x2048x5632, .f32⟩
  | .hbm, ⟨9, _⟩ => ⟨S2048x5632, .f32⟩
  | .hbm, ⟨10, _⟩ => ⟨S8192x5632, .f32⟩
  | .hbm, ⟨11, _⟩ => ⟨S8192x5632, .bf16⟩
  | .hbm, ⟨12, _⟩ => ⟨S8192x5632, .bf16⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel11.lean ====
abbrev S8192x2048 : Shape := ⟨2, ![8192, 2048]⟩
abbrev S2x2048x5632 : Shape := ⟨3, ![2, 2048, 5632]⟩
abbrev S2x2048x4x1408 : Shape := ⟨4, ![2, 2048, 4, 1408]⟩
abbrev S2x4x2048x1408 : Shape := ⟨4, ![2, 4, 2048, 1408]⟩
abbrev S8192x5632 : Shape := ⟨2, ![8192, 5632]⟩
abbrev S512x2048 : Shape := ⟨2, ![512, 2048]⟩
abbrev S1x1x2048x1408 : Shape := ⟨4, ![1, 1, 2048, 1408]⟩
abbrev S512x1408 : Shape := ⟨2, ![512, 1408]⟩
abbrev S2048x1408 : Shape := ⟨2, ![2048, 1408]⟩

abbrev nBuf : Space → Nat
  | .hbm => 12
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S2x2048x4x1408, .f32⟩
  | .hbm, ⟨4, _⟩ => ⟨S2x4x2048x1408, .f32⟩
  | .hbm, ⟨5, _⟩ => ⟨S2x4x2048x1408, .bf16⟩
  | .hbm, ⟨6, _⟩ => ⟨S2x2048x4x1408, .f32⟩
  | .hbm, ⟨7, _⟩ => ⟨S2x4x2048x1408, .f32⟩
  | .hbm, ⟨8, _⟩ => ⟨S2x4x2048x1408, .bf16⟩
  | .hbm, ⟨9, _⟩ => ⟨S8192x5632, .bf16⟩
  | .hbm, ⟨10, _⟩ => ⟨S8192x5632, .bf16⟩
  | .hbm, ⟨11, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S8192x2048 : Shape := ⟨2, ![8192, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x2048, .f32⟩
  | .hbm, ⟨4, _⟩ => ⟨S1x2048x5632, .f32⟩
  | .hbm, ⟨5, _⟩ => ⟨S2048x5632, .f32⟩
  | .hbm, ⟨6, _⟩ => ⟨S8192x5632, .f32⟩
  | .hbm, ⟨7, _⟩ => ⟨S8192x2048, .f32⟩
  | .hbm, ⟨8, _⟩ => ⟨S1x2048x5632, .f32⟩
  | .hbm, ⟨9, _⟩ => ⟨S2048x5632, .f32⟩
  | .hbm, ⟨10, _⟩ => ⟨S8192x5632, .f32⟩
  | .hbm, ⟨11, _⟩ => ⟨S8192x5632, .bf16⟩
  | .hbm, ⟨12, _⟩ => ⟨S8192x5632, .bf16⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel12.lean ====
abbrev S8192x5632 : Shape := ⟨2, ![8192, 5632]⟩
abbrev S2x5632x2048 : Shape := ⟨3, ![2, 5632, 2048]⟩
abbrev S8192x2048 : Shape := ⟨2, ![8192, 2048]⟩
abbrev S2048 : Shape := ⟨1, ![2048]⟩
abbrev S1x2048 : Shape := ⟨2, ![1, 2048]⟩
abbrev S512x1408 : Shape := ⟨2, ![512, 1408]⟩
abbrev S1x1408x2048 : Shape := ⟨3, ![1, 1408, 2048]⟩
abbrev S512x2048 : Shape := ⟨2, ![512, 2048]⟩
abbrev S1408x2048 : Shape := ⟨2, ![1408, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S2048, .f32⟩
  | .hbm, ⟨4, _⟩ => ⟨S2x5632x2048, .bf16⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x1408, .bf16⟩
  | .local _ .vmem, ⟨1, _⟩ => ⟨S512x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference12Ideal.lean ====
abbrev S8192x5632 : Shape := ⟨2, ![8192, 5632]⟩
abbrev S2x5632x2048 : Shape := ⟨3, ![2, 5632, 2048]⟩
abbrev S8192x2048 : Shape := ⟨2, ![8192, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S2048, .f32⟩
  | .hbm, ⟨4, _⟩ => ⟨S8192x5632, .f32⟩
  | .hbm, ⟨5, _⟩ => ⟨S1x5632x2048, .f32⟩
  | .hbm, ⟨6, _⟩ => ⟨S5632x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel13.lean ====
abbrev S8192x5632 : Shape := ⟨2, ![8192, 5632]⟩
abbrev S2x5632x2048 : Shape := ⟨3, ![2, 5632, 2048]⟩
abbrev S8192x2048 : Shape := ⟨2, ![8192, 2048]⟩
abbrev S2048 : Shape := ⟨1, ![2048]⟩
abbrev S1x2048 : Shape := ⟨2, ![1, 2048]⟩
abbrev S512x1408 : Shape := ⟨2, ![512, 1408]⟩
abbrev S1x1408x2048 : Shape := ⟨3, ![1, 1408, 2048]⟩
abbrev S512x2048 : Shape := ⟨2, ![512, 2048]⟩
abbrev S1408x2048 : Shape := ⟨2, ![1408, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S2048, .f32⟩
  | .hbm, ⟨4, _⟩ => ⟨S2x5632x2048, .bf16⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x1408, .bf16⟩
  | .local _ .vmem, ⟨1, _⟩ => ⟨S512x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference13Ideal.lean ====
abbrev S8192x5632 : Shape := ⟨2, ![8192, 5632]⟩
abbrev S2x5632x2048 : Shape := ⟨3, ![2, 5632, 2048]⟩
abbrev S8192x2048 : Shape := ⟨2, ![8192, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S2048, .f32⟩
  | .hbm, ⟨4, _⟩ => ⟨S8192x5632, .f32⟩
  | .hbm, ⟨5, _⟩ => ⟨S1x5632x2048, .f32⟩
  | .hbm, ⟨6, _⟩ => ⟨S5632x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel14.lean ====
abbrev S8192x5632 : Shape := ⟨2, ![8192, 5632]⟩
abbrev S2x5632x2048 : Shape := ⟨3, ![2, 5632, 2048]⟩
abbrev S8192x2048 : Shape := ⟨2, ![8192, 2048]⟩
abbrev S512x1408 : Shape := ⟨2, ![512, 1408]⟩
abbrev S1x1408x2048 : Shape := ⟨3, ![1, 1408, 2048]⟩
abbrev S512x2048 : Shape := ⟨2, ![512, 2048]⟩
abbrev S1408x2048 : Shape := ⟨2, ![1408, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S2x5632x2048, .bf16⟩
  | .hbm, ⟨4, _⟩ => ⟨S8192x2048, .f32⟩
  | .local _ .vmem, ⟨0, _⟩ => ⟨S512x1408, .bf16⟩
  | .local _ .vmem, ⟨1, _⟩ => ⟨S512x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference14Ideal.lean ====
abbrev S8192x5632 : Shape := ⟨2, ![8192, 5632]⟩
abbrev S2x5632x2048 : Shape := ⟨3, ![2, 5632, 2048]⟩
abbrev S8192x2048 : Shape := ⟨2, ![8192, 2048]⟩
abbrev S1x5632x2048 : Shape := ⟨3, ![1, 5632, 2048]⟩
abbrev S5632x2048 : Shape := ⟨2, ![5632, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Steps.lean ====
/-
  The pure functions of one block of queries in the attention's backward call, for any reading of the
  floats: the weights of the block, the gradient of the scores, and the three accumulators after the block.
  The kernel's payloads are these functions by unfolding.
-/
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Bwd

open Idealize.ShloMosaic Cert.KernelIdeal.Gen Cert.KernelIdeal

variable {F : FTy → Type} [FloatOps F] [Named F]

/-- Where block `b` of 512 queries begins, on an array whose last axis is the queries. -/
def qoff (b : ℕ) : Fin 3 → ℕ := ![0, 0, 512 * (b % 16)]

theorem qoff_192 (b : ℕ) : ∀ a, qoff b a + S1x192x512.size a ≤ S1x192x8192.size a := by
  have h := Nat.mod_lt b (show 0 < 16 by decide)
  intro a; fin_cases a
  · show 0 + 1 ≤ 1; omega
  · exact Nat.le_of_eq (Nat.zero_add _)
  · show 512 * (b % 16) + 512 ≤ 8192; omega

theorem qoff_128 (b : ℕ) : ∀ a, qoff b a + S1x128x512.size a ≤ S1x128x8192.size a := by
  have h := Nat.mod_lt b (show 0 < 16 by decide)
  intro a; fin_cases a
  · show 0 + 1 ≤ 1; omega
  · exact Nat.le_of_eq (Nat.zero_add _)
  · show 512 * (b % 16) + 512 ≤ 8192; omega

theorem qoff_1 (b : ℕ) : ∀ a, qoff b a + S1x1x512.size a ≤ S1x1x8192.size a := by
  have h := Nat.mod_lt b (show 0 < 16 by decide)
  intro a; fin_cases a
  · show 0 + 1 ≤ 1; omega
  · exact Nat.le_of_eq (Nat.zero_add _)
  · show 512 * (b % 16) + 512 ≤ 8192; omega

/-- Block `b` of the queries, of their output gradients, and of a row statistic. -/
def qblk (x : Vec F S1x192x8192 .bf16) (b : ℕ) : Vec F S1x192x512 .bf16 := VecWindow.window x (qoff b) S1x192x512.size (qoff_192 b)
def oblk (x : Vec F S1x128x8192 .bf16) (b : ℕ) : Vec F S1x128x512 .bf16 := VecWindow.window x (qoff b) S1x128x512.size (qoff_128 b)
def rblk (x : Vec F S1x1x8192 .f32) (b : ℕ) : Vec F S1x1x512 .f32 := VecWindow.window x (qoff b) S1x1x512.size (qoff_1 b)
def gblk (x : Vec F S1x192x8192 .f32) (b : ℕ) : Vec F S1x192x512 .f32 := VecWindow.window x (qoff b) S1x192x512.size (qoff_192 b)

/-- Writing one block of the queries' gradient leaves the next block alone. -/
theorem gblk_put_succ (x : Vec F S1x192x8192 .f32) (b : ℕ) (w : FVec F S1x192x512 .f32) :
    gblk (F := F) (VecWindow.put x (qoff b) S1x192x512.size w) (b + 1) = gblk x (b + 1) := by
  unfold gblk
  refine VecWindow.window_put_of_disjoint (s := S1x192x8192) x (qoff b) S1x192x512.size (qoff (b + 1)) S1x192x512.size (qoff_192 _) w 2 ?_
  show 512 * ((b + 1) % 16) + 512 ≤ 512 * (b % 16) ∨ 512 * (b % 16) + 512 ≤ 512 * ((b + 1) % 16)
  omega

/-- The scores of a block of keys against a block of queries. -/
def scores (k : FVec F S512x192 .bf16) (q : Vec F S1x192x512 .bf16) : FVec F S512x512 .f32 :=
  matmul dot_S512x192_S192x512_S512x512_1_0_0_1_n_n none k (shapeCast S192x512 q shapeCasts_S1x192x512_S192x512) (constant S512x512 .f32 0x00000000#32)

/-- The scores of a diagonal block: a key after its query counts for nothing. -/
def masked (j : BitVec 32) (s : FVec F S512x512 .f32) : FVec F S512x512 .f32 :=
  select (cmpi .sle
      (addi (broadcast S512x512 (Scalar.muli j 512#32)) (iota .tc S512x512 32 [0] iota_S512x512_d0_w32))
      (addi (broadcast S512x512 (Scalar.muli j 512#32)) (iota .tc S512x512 32 [1] iota_S512x512_d1_w32)))
    s (broadcast S512x512 (Named.named κ "neg" 0xF149F2CA#32 : F .f32))

/-- The weights: two to the score less the row's statistic. -/
def weights (s : FVec F S512x512 .f32) (l : Vec F S1x1x512 .f32) : FVec F S512x512 .f32 :=
  exp2 (subf s (broadcastTo S512x512 (shapeCast S1x512 l shapeCasts_S1x1x512_S1x512) broadcasts_S1x512_S512x512))

/-- The gradient of the scores. -/
def dscores (v : FVec F S512x128 .bf16) (p : FVec F S512x512 .f32) (d : Vec F S1x128x512 .bf16) (r : Vec F S1x1x512 .f32) : FVec F S512x512 .bf16 :=
  truncf .bf16 (mulf p (subf
    (matmul dot_S512x128_S128x512_S512x512_1_0_0_1_n_n none v (shapeCast S128x512 d shapeCasts_S1x128x512_S128x512) (constant S512x512 .f32 0x00000000#32))
    (broadcastTo S512x512 (shapeCast S1x512 r shapeCasts_S1x1x512_S1x512) broadcasts_S1x512_S512x512))) bitsLt_bf16_f32

/-- The values' gradient with one block of queries more. -/
def dvAdd (p : FVec F S512x512 .f32) (d : Vec F S1x128x512 .bf16) (x : Vec F S1x128x512 .f32) : FVec F S1x128x512 .f32 :=
  shapeCast S1x128x512 (addf (shapeCast S128x512 x shapeCasts_S1x128x512_S128x512)
    (matmul dot_S128x512_S512x512_S128x512_1_1_0_0_n_n none (shapeCast S128x512 d shapeCasts_S1x128x512_S128x512) (truncf .bf16 p bitsLt_bf16_f32)
      (constant S128x512 .f32 0x00000000#32))) shapeCasts_S128x512_S1x128x512

/-- The keys' gradient with one block of queries more. -/
def dkAdd (q : Vec F S1x192x512 .bf16) (ds : FVec F S512x512 .bf16) (x : Vec F S1x192x512 .f32) : FVec F S1x192x512 .f32 :=
  shapeCast S1x192x512 (addf (shapeCast S192x512 x shapeCasts_S1x192x512_S192x512)
    (matmul dot_S192x512_S512x512_S192x512_1_1_0_0_n_n none (shapeCast S192x512 q shapeCasts_S1x192x512_S192x512) ds
      (constant S192x512 .f32 0x00000000#32))) shapeCasts_S192x512_S1x192x512

/-- The gradient of a block of queries with one block of keys more. -/
def dqAdd (kt : FVec F S192x512 .bf16) (ds : FVec F S512x512 .bf16) (x : Vec F S1x192x512 .f32) : FVec F S1x192x512 .f32 :=
  shapeCast S1x192x512 (addf (shapeCast S192x512 x shapeCasts_S1x192x512_S192x512)
    (matmul dot_S192x512_S512x512_S192x512_1_0_0_1_n_n none kt ds (constant S192x512 .f32 0x00000000#32))) shapeCasts_S192x512_S1x192x512

/-- The three accumulators: the queries' gradient, the keys', the values'. -/
structure Acc (F : FTy → Type) where
  dq : Vec F S1x192x8192 .f32
  dk : Vec F S1x192x512 .f32
  dv : Vec F S1x128x512 .f32

/-- What one grid point reads: the queries, a block of keys (plain and transposed), a block of values, the output
    gradients, the row log-sums and the row products. -/
structure Ins (F : FTy → Type) where
  qt : Vec F S1x192x8192 .bf16
  k : Vec F S1x512x192 .bf16
  kt : Vec F S1x192x512 .bf16
  v : Vec F S1x512x128 .bf16
  dot : Vec F S1x128x8192 .bf16
  lse : Vec F S1x1x8192 .f32
  del : Vec F S1x1x8192 .f32

/-- The accumulators after block `b` at weights `p`, with the block of keys and values already in matrix form. -/
def stepAt (kt : FVec F S192x512 .bf16) (v : FVec F S512x128 .bf16) (x2 : Vec F S1x192x8192 .bf16) (x6 : Vec F S1x128x8192 .bf16)
    (x8 : Vec F S1x1x8192 .f32) (b : ℕ) (p : FVec F S512x512 .f32) (a : Acc F) : Acc F where
  dq := VecWindow.put a.dq (qoff b) S1x192x512.size (dqAdd kt (dscores v p (oblk x6 b) (rblk x8 b)) (gblk a.dq b))
  dk := dkAdd (qblk x2 b) (dscores v p (oblk x6 b) (rblk x8 b)) a.dk
  dv := dvAdd p (oblk x6 b) a.dv

/-- Two blocks in a row: the second finds its queries' gradient as it was before the first. -/
theorem stepAt_stepAt (kt : FVec F S192x512 .bf16) (v : FVec F S512x128 .bf16) (x2 : Vec F S1x192x8192 .bf16) (x6 : Vec F S1x128x8192 .bf16)
    (x8 : Vec F S1x1x8192 .f32) (b : ℕ) (p p' : FVec F S512x512 .f32) (a : Acc F) :
    stepAt kt v x2 x6 x8 (b + 1) p' (stepAt kt v x2 x6 x8 b p a)
      = ⟨VecWindow.put (VecWindow.put a.dq (qoff b) S1x192x512.size (dqAdd kt (dscores v p (oblk x6 b) (rblk x8 b)) (gblk a.dq b)))
            (qoff (b + 1)) S1x192x512.size (dqAdd kt (dscores v p' (oblk x6 (b + 1)) (rblk x8 (b + 1))) (gblk a.dq (b + 1))),
          dkAdd (qblk x2 (b + 1)) (dscores v p' (oblk x6 (b + 1)) (rblk x8 (b + 1)))
            (dkAdd (qblk x2 b) (dscores v p (oblk x6 b) (rblk x8 b)) a.dk),
          dvAdd p' (oblk x6 (b + 1)) (dvAdd p (oblk x6 b) a.dv)⟩ := by
  unfold stepAt
  rw [gblk_put_succ]

/-- The accumulators after an undivided block, -/
def step (k : FVec F S512x192 .bf16) (kt : FVec F S192x512 .bf16) (v : FVec F S512x128 .bf16) (x2 : Vec F S1x192x8192 .bf16)
    (x6 : Vec F S1x128x8192 .bf16) (x7 x8 : Vec F S1x1x8192 .f32) (b : ℕ) (a : Acc F) : Acc F :=
  stepAt kt v x2 x6 x8 b (weights (scores k (qblk x2 b)) (rblk x7 b)) a

/-- and after the diagonal one. -/
def stepM (k : FVec F S512x192 .bf16) (kt : FVec F S192x512 .bf16) (v : FVec F S512x128 .bf16) (x2 : Vec F S1x192x8192 .bf16)
    (x6 : Vec F S1x128x8192 .bf16) (x7 x8 : Vec F S1x1x8192 .f32) (j : BitVec 32) (b : ℕ) (a : Acc F) : Acc F :=
  stepAt kt v x2 x6 x8 b (weights (masked j (scores k (qblk x2 b))) (rblk x7 b)) a

/-- The accumulators after `n` pairs of undivided blocks from block `b` on. -/
def pairs (k : FVec F S512x192 .bf16) (kt : FVec F S192x512 .bf16) (v : FVec F S512x128 .bf16) (x2 : Vec F S1x192x8192 .bf16)
    (x6 : Vec F S1x128x8192 .bf16) (x7 x8 : Vec F S1x1x8192 .f32) (b : ℕ) : ℕ → Acc F → Acc F
  | 0, a => a
  | n + 1, a => step k kt v x2 x6 x7 x8 (b + 2 * n + 1) (step k kt v x2 x6 x7 x8 (b + 2 * n) (pairs k kt v x2 x6 x7 x8 b n a))

/-! ## Where the program's blocks lie -/

/-- The first block the loop takes. -/
def base (j : ℕ) : ℕ := j + 1 + (15 - j) % 2

theorem off1_eq : ∀ i : grid0.Coords, k0_off1 i = qoff (i 1).val := by decide +kernel
theorem off2_eq : ∀ i : grid0.Coords, k0_cond2 i = 1#1 → k0_off2 i = qoff ((i 1).val + 1) := by decide +kernel
theorem off3_eq : ∀ i : grid0.Coords, k0_off3 i = qoff (i 1).val := by decide +kernel
theorem off4_eq : ∀ i : grid0.Coords, k0_cond2 i = 1#1 → k0_off4 i = qoff ((i 1).val + 1) := by decide +kernel
theorem off5_eq : ∀ i : grid0.Coords, k0_off5 i = qoff (i 1).val := by decide +kernel
theorem off6_eq : ∀ i : grid0.Coords, k0_cond2 i = 1#1 → k0_off6 i = qoff ((i 1).val + 1) := by decide +kernel
theorem off7_eq : ∀ i : grid0.Coords, k0_off7 i = qoff (i 1).val := by decide +kernel
theorem off8_eq : ∀ i : grid0.Coords, k0_off8 i = qoff (i 1).val := by decide +kernel
theorem off9_eq : ∀ i : grid0.Coords, k0_off9 i = qoff (i 1).val := by decide +kernel
theorem trips1 : ∀ i : grid0.Coords, (k0_t1_loop i).trips = (15 - (i 1).val) / 2 := by decide +kernel
theorem trips2 : ∀ i : grid0.Coords, (k0_t2_loop i).trips = 0 := by decide +kernel
theorem off10_eq : ∀ (i : grid0.Coords) (n : Fin (k0_t1_loop i).trips), k0_off10 i n = qoff (base (i 1).val + 2 * n.val) := by decide +kernel
theorem off11_eq : ∀ (i : grid0.Coords) (n : Fin (k0_t1_loop i).trips), k0_off11 i n = qoff (base (i 1).val + 2 * n.val + 1) := by decide +kernel
theorem off12_eq : ∀ (i : grid0.Coords) (n : Fin (k0_t1_loop i).trips), k0_off12 i n = qoff (base (i 1).val + 2 * n.val) := by decide +kernel
theorem off13_eq : ∀ (i : grid0.Coords) (n : Fin (k0_t1_loop i).trips), k0_off13 i n = qoff (base (i 1).val + 2 * n.val + 1) := by decide +kernel
theorem off14_eq : ∀ (i : grid0.Coords) (n : Fin (k0_t1_loop i).trips), k0_off14 i n = qoff (base (i 1).val + 2 * n.val) := by decide +kernel
theorem off15_eq : ∀ (i : grid0.Coords) (n : Fin (k0_t1_loop i).trips), k0_off15 i n = qoff (base (i 1).val + 2 * n.val + 1) := by decide +kernel

end Cert.KernelIdeal.Bwd

end
-- ==== Proof.Trip.lean ====
/-
  One trip of the loop over pairs of query blocks, and the loop: what the three accumulators hold is the pure fold of
  the blocks' steps.
-/
module

public import proofs.«01_k».proof.Proof.Steps

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal

variable {F : FTy → Type} [FloatOps F] [Named F]

local notation "𝕄" => MT nD τ sig Unit (Elt F) ℕ (UR sig nD τ) ℕ

theorem off10_closed : ∀ (i : grid0.Coords) (n : Fin (k0_t1_loop i).trips), k0_off10 i n = ![0, 0, 512 * (base (i 1).val + 2 * n.val)] := by decide +kernel
theorem off11_closed : ∀ (i : grid0.Coords) (n : Fin (k0_t1_loop i).trips), k0_off11 i n = ![0, 0, 512 * (base (i 1).val + 2 * n.val) + 512] := by decide +kernel
instance (i : grid0.Coords) (n : Fin (k0_t1_loop i).trips) : ClosedOff (k0_off10 i n) := ⟨_, off10_closed i n⟩
instance (i : grid0.Coords) (n : Fin (k0_t1_loop i).trips) : ClosedOff (k0_off11 i n) := ⟨_, off11_closed i n⟩

variable (c : Dev nD) (i : grid0.Coords)
  (arg2 : Memref sig .tc .vmem S1x192x8192 .bf16) (harg2 : arg2.IsWhole) (arg3 : Memref sig .tc .vmem S1x512x192 .bf16) (harg3 : arg3.IsWhole)
  (arg4 : Memref sig .tc .vmem S1x192x512 .bf16) (harg4 : arg4.IsWhole) (arg5 : Memref sig .tc .vmem S1x512x128 .bf16) (harg5 : arg5.IsWhole)
  (arg6 : Memref sig .tc .vmem S1x128x8192 .bf16) (harg6 : arg6.IsWhole) (arg7 : Memref sig .tc .vmem S1x1x8192 .f32) (harg7 : arg7.IsWhole)
  (arg8 : Memref sig .tc .vmem S1x1x8192 .f32) (harg8 : arg8.IsWhole) (arg9 : Memref sig .tc .vmem S1x192x8192 .f32) (harg9 : arg9.IsWhole)
  (arg10 : Memref sig .tc .vmem S1x192x512 .f32) (harg10 : arg10.IsWhole) (arg11 : Memref sig .tc .vmem S1x128x512 .f32) (harg11 : arg11.IsWhole)

/-- What the loop touches: the four arrays it reads, the three accumulators. -/
abbrev Held (X2 : BufTy.Contents (Elt F) arg2.view.ty) (X6 : BufTy.Contents (Elt F) arg6.view.ty) (X7 : BufTy.Contents (Elt F) arg7.view.ty)
    (X8 : BufTy.Contents (Elt F) arg8.view.ty) (f9 : BufTy.Contents (Elt F) arg9.view.ty) (f10 : BufTy.Contents (Elt F) arg10.view.ty)
    (f11 : BufTy.Contents (Elt F) arg11.view.ty) : sProp 𝕄 :=
  iprop((arg2.view.loc (c : Thread nD τ) ↦[arg2.view.set]{fullShare} X2) ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} X8)
    ∗ (arg9.view.loc (c : Thread nD τ) ↦[arg9.view.set]{fullShare} f9) ∗ (arg10.view.loc (c : Thread nD τ) ↦[arg10.view.set]{fullShare} f10)
    ∗ (arg11.view.loc (c : Thread nD τ) ↦[arg11.view.set]{fullShare} f11))

/-- The accumulators the three buffers hold. -/
abbrev accOf (f9 : BufTy.Contents (Elt F) arg9.view.ty) (f10 : BufTy.Contents (Elt F) arg10.view.ty) (f11 : BufTy.Contents (Elt F) arg11.view.ty) : Acc F :=
  ⟨arg9.view.read (Elt F) f9, arg10.view.read (Elt F) f10, arg11.view.read (Elt F) f11⟩

set_option maxHeartbeats 4000000 in
/-- One trip: two blocks' steps. -/
theorem trip1 (v12 : FVec F S512x192 .bf16) (v14 : FVec F S192x512 .bf16) (v16 : FVec F S512x128 .bf16) (v35 : BitVec 32)
    (X2 : BufTy.Contents (Elt F) arg2.view.ty) (X6 : BufTy.Contents (Elt F) arg6.view.ty) (X7 : BufTy.Contents (Elt F) arg7.view.ty)
    (X8 : BufTy.Contents (Elt F) arg8.view.ty) (n : Fin (k0_t1_loop i).trips) (E : Set ℕ) (u : Unit)
    (f9 : BufTy.Contents (Elt F) arg9.view.ty) (f10 : BufTy.Contents (Elt F) arg10.view.ty) (f11 : BufTy.Contents (Elt F) arg11.view.ty) :
    Held (F := F) c arg2 arg6 arg7 arg8 arg9 arg10 arg11 X2 X6 X7 X8 f9 f10 f11
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 v12 v14 v16 v35 n u)
          (fun _ => iprop(∃ g9 g10 g11, Held (F := F) c arg2 arg6 arg7 arg8 arg9 arg10 arg11 X2 X6 X7 X8 g9 g10 g11
            ∗ ⌜accOf arg9 arg10 arg11 g9 g10 g11 = step v12 v14 v16 (arg2.view.read (Elt F) X2) (arg6.view.read (Elt F) X6) (arg7.view.read (Elt F) X7) (arg8.view.read (Elt F) X8)
                (base (i 1).val + 2 * n.val + 1) (step v12 v14 v16 (arg2.view.read (Elt F) X2) (arg6.view.read (Elt F) X6) (arg7.view.read (Elt F) X7) (arg8.view.read (Elt F) X8)
                (base (i 1).val + 2 * n.val) (accOf arg9 arg10 arg11 f9 f10 f11))⌝)) := by
  unfold k0_t1_body
  simp only [k0_part4_eq_skeleton, k0_part5_eq_skeleton]
  iintro ⟨H2, H6, H7, H8, H9, H10, H11⟩
  sl_exec
  sl_step
  iexists _; iexists _; iexists _
  isplitl [H2 H6 H7 H8 H9 H10 H11]
  · isplitl [H2]; · iexact H2
    isplitl [H6]; · iexact H6
    isplitl [H7]; · iexact H7
    isplitl [H8]; · iexact H8
    isplitl [H9]; · iexact H9
    isplitl [H10]; · iexact H10
    iexact H11
  ipureintro
  have e2a := fun h => View.readAt_unit (Val := Elt F) arg2.view X2 (size := S1x192x512.size) h (off10_eq i n) (qoff_192 _)
  have e2b := fun h => View.readAt_unit (Val := Elt F) arg2.view X2 (size := S1x192x512.size) h (off11_eq i n) (qoff_192 _)
  have e6a := fun h => View.readAt_unit (Val := Elt F) arg6.view X6 (size := S1x128x512.size) h (off12_eq i n) (qoff_128 _)
  have e6b := fun h => View.readAt_unit (Val := Elt F) arg6.view X6 (size := S1x128x512.size) h (off13_eq i n) (qoff_128 _)
  have e7a := fun h => View.readAt_unit (Val := Elt F) arg7.view X7 (size := S1x1x512.size) h (off14_eq i n) (qoff_1 _)
  have e7b := fun h => View.readAt_unit (Val := Elt F) arg7.view X7 (size := S1x1x512.size) h (off15_eq i n) (qoff_1 _)
  have e8a := fun h => View.readAt_unit (Val := Elt F) arg8.view X8 (size := S1x1x512.size) h (off14_eq i n) (qoff_1 _)
  have e8b := fun h => View.readAt_unit (Val := Elt F) arg8.view X8 (size := S1x1x512.size) h (off15_eq i n) (qoff_1 _)
  have e9a := fun h => View.readAt_unit (Val := Elt F) arg9.view f9 (size := S1x192x512.size) h (off10_eq i n) (qoff_192 _)
  have e9b := fun h => View.readAt_unit (Val := Elt F) arg9.view f9 (size := S1x192x512.size) h (off11_eq i n) (qoff_192 _)
  have p9 := fun h L w => View.read_writes_cons_put (Val := Elt F) arg9.view f9 (size := S1x192x512.size) h w L (off11_eq i n)
  have p9' := fun h L w => View.read_writes_cons_put (Val := Elt F) arg9.view f9 (size := S1x192x512.size) h w L (off10_eq i n)
  have w10 := fun h L w => View.read_writes_full (Val := Elt F) arg10.view f10 (off := ![0, 0, 0]) h w L
  have w11 := fun h L w => View.read_writes_full (Val := Elt F) arg11.view f11 (off := ![0, 0, 0]) h w L
  have r10 := fun h => View.readAt_full (Val := Elt F) arg10.view f10 (off := ![0, 0, 0]) h
  have r11 := fun h => View.readAt_full (Val := Elt F) arg11.view f11 (off := ![0, 0, 0]) h
  have c10 := fun h h' L w => View.readCov_full (Val := Elt F) arg10.view (off := ![0, 0, 0]) (off' := ![0, 0, 0]) h h' w L
  have c11 := fun h h' L w => View.readCov_full (Val := Elt F) arg11.view (off := ![0, 0, 0]) (off' := ![0, 0, 0]) h h' w L
  delta trip1.sl.r_10 trip1.sl.r_9 trip1.sl.r_8 trip1.sl.r_7 trip1.sl.r_6 trip1.sl.r_5 trip1.sl.r_4 trip1.sl.r_3 trip1.sl.r_2 trip1.sl.r_1 trip1.sl.r
    trip1.sl.v127 trip1.sl.v150 trip1.sl.v142 trip1.sl.H10_1 trip1.sl.H11_1
  simp only [accOf, e2a, e2b, e6a, e6b, e7a, e7b, e8a, e8b, e9a, e9b, p9, p9', w10, w11, r10, r11, c10, c11, View.writes_nil]
  clear e2a e2b e6a e6b e7a e7b e8a e8b e9a e9b p9 p9' w10 w11 r10 r11 c10 c11
  unfold step
  rw [stepAt_stepAt]
  rfl

end Cert.KernelIdeal.Bwd

end
-- ==== Proof.LoopInv.lean ====
/-
  The loop over pairs of query blocks by its invariant: before trip `k` the three accumulators hold the pure fold of
  `k` pairs of steps.
-/
module

public import proofs.«01_k».proof.Proof.Trip

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal

variable {F : FTy → Type} [FloatOps F] [Named F]

local notation "𝕄" => MT nD τ sig Unit (Elt F) ℕ (UR sig nD τ) ℕ

variable (c : Dev nD) (i : grid0.Coords)
  (arg2 : Memref sig .tc .vmem S1x192x8192 .bf16) (harg2 : arg2.IsWhole) (arg3 : Memref sig .tc .vmem S1x512x192 .bf16) (harg3 : arg3.IsWhole)
  (arg4 : Memref sig .tc .vmem S1x192x512 .bf16) (harg4 : arg4.IsWhole) (arg5 : Memref sig .tc .vmem S1x512x128 .bf16) (harg5 : arg5.IsWhole)
  (arg6 : Memref sig .tc .vmem S1x128x8192 .bf16) (harg6 : arg6.IsWhole) (arg7 : Memref sig .tc .vmem S1x1x8192 .f32) (harg7 : arg7.IsWhole)
  (arg8 : Memref sig .tc .vmem S1x1x8192 .f32) (harg8 : arg8.IsWhole) (arg9 : Memref sig .tc .vmem S1x192x8192 .f32) (harg9 : arg9.IsWhole)
  (arg10 : Memref sig .tc .vmem S1x192x512 .f32) (harg10 : arg10.IsWhole) (arg11 : Memref sig .tc .vmem S1x128x512 .f32) (harg11 : arg11.IsWhole)

/-- The loop's invariant, from the accumulators `G` it is entered with. -/
@[sl_loop, instance_reducible] def loopInv1 (v12 : FVec F S512x192 .bf16) (v14 : FVec F S192x512 .bf16) (v16 : FVec F S512x128 .bf16) (v35 : BitVec 32) (E : Set ℕ)
    (X2 : BufTy.Contents (Elt F) arg2.view.ty) (X6 : BufTy.Contents (Elt F) arg6.view.ty) (X7 : BufTy.Contents (Elt F) arg7.view.ty)
    (X8 : BufTy.Contents (Elt F) arg8.view.ty) (G : Acc F) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 v12 v14 v16 v35 where
  inv k _ := iprop(∃ f9 f10 f11, Held (F := F) c arg2 arg6 arg7 arg8 arg9 arg10 arg11 X2 X6 X7 X8 f9 f10 f11
    ∗ ⌜accOf arg9 arg10 arg11 f9 f10 f11 = pairs v12 v14 v16 (arg2.view.read (Elt F) X2) (arg6.view.read (Elt F) X6) (arg7.view.read (Elt F) X7)
        (arg8.view.read (Elt F) X8) (base (i 1).val) k G⌝)
  step k acc := by
    iintro ⟨%f9, %f10, %f11, H, %h⟩
    iapply (wp_wand_r Idealize.ShloMosaic.frame (wpE (defs₀ (F := F)) Variants.none (c : Thread nD τ) none) E)
    isplitl [H]
    · iapply (trip1 (F := F) c i arg2 harg2 arg3 harg3 arg4 harg4 arg5 harg5 arg6 harg6 arg7 harg7 arg8 harg8 arg9 harg9 arg10 harg10 arg11 harg11 v12 v14 v16 v35 X2 X6 X7 X8 k E acc f9 f10 f11)
      iexact H
    · iintro %_ ⟨%g9, %g10, %g11, H, %hg⟩
      iexists g9; iexists g10; iexists g11
      isplitl [H]; · iexact H
      ipureintro
      rw [hg, h]
      rfl

end Cert.KernelIdeal.Bwd

end
-- ==== Proof.Run.lean ====
/-
  The whole body at one grid point, in its three cases: what it leaves in the three accumulators is the pure fold over the
  query blocks from the diagonal one on.
-/
module

public import proofs.«01_k».proof.Proof.LoopInv

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal

variable {F : FTy → Type} [FloatOps F] [Named F]

local notation "𝕄" => MT nD τ sig Unit (Elt F) ℕ (UR sig nD τ) ℕ

/-- The first key block of a head: the queries' gradient starts at zero there. -/
abbrev cond1 (i : grid0.Coords) : BitVec 1 :=
  Scalar.cmpi .ne (Scalar.extui (Scalar.cmpi .eq (BitVec.ofNat 32 (i 1).val) 0#32) : BitVec 32) 0#32

theorem off1_closed : ∀ i : grid0.Coords, k0_cond2 i = 1#1 → k0_off1 i = ![0, 0, 512 * (i 1).val] := by decide +kernel
theorem off2_closed : ∀ i : grid0.Coords, k0_cond2 i = 1#1 → k0_off2 i = ![0, 0, 512 * (i 1).val + 512] := by decide +kernel
theorem off7_closed : ∀ i : grid0.Coords, k0_off7 i = ![0, 0, 512 * (i 1).val] := by decide +kernel

theorem odd_of_cond2 : ∀ i : grid0.Coords, k0_cond2 i = 1#1 → (15 - (i 1).val) % 2 = 1 := by decide +kernel
theorem even_of_not_cond2 : ∀ i : grid0.Coords, ¬ k0_cond2 i = 1#1 → ¬ (15 - (i 1).val) % 2 = 1 := by decide +kernel

theorem Acc.mk_congr {q q' : Vec F S1x192x8192 .f32} {k k' : Vec F S1x192x512 .f32} {v v' : Vec F S1x128x512 .f32} (hq : q = q') (hk : k = k')
    (hv : v = v') : Acc.mk q k v = Acc.mk q' k' v' := by rw [hq, hk, hv]

/-- The accumulators after the diagonal block, with the block of keys and values as the body reads them, -/
def diag (x : Ins F) (j : ℕ) (a : Acc F) : Acc F :=
  stepM (k0_pay71 x.k) (k0_pay72 x.kt) (k0_pay73 x.v) x.qt x.dot x.lse x.del (BitVec.ofNat 32 j) j a

/-- after an undivided block, -/
def full (x : Ins F) (b : ℕ) (a : Acc F) : Acc F :=
  step (k0_pay71 x.k) (k0_pay72 x.kt) (k0_pay73 x.v) x.qt x.dot x.lse x.del b a

/-- and after `n` pairs of undivided blocks from block `b` on. -/
def fulls (x : Ins F) (b n : ℕ) (a : Acc F) : Acc F :=
  pairs (k0_pay71 x.k) (k0_pay72 x.kt) (k0_pay73 x.v) x.qt x.dot x.lse x.del b n a

/-- What a grid point starts from: the queries' gradient as found, the others at zero. -/
def start (dq : Vec F S1x192x8192 .f32) : Acc F := ⟨dq, k0_pay69, k0_pay70⟩

/-- The point's work from there, at key block `j`. -/
def work (x : Ins F) (j : ℕ) (dq : Vec F S1x192x8192 .f32) : Acc F :=
  fulls x (base j) ((15 - j) / 2) (if (15 - j) % 2 = 1 then full x (j + 1) (diag x j (start dq)) else diag x j (start dq))

variable (c : Dev nD) (i : grid0.Coords)
  (arg2 : Memref sig .tc .vmem S1x192x8192 .bf16) (harg2 : arg2.IsWhole) (arg3 : Memref sig .tc .vmem S1x512x192 .bf16) (harg3 : arg3.IsWhole)
  (arg4 : Memref sig .tc .vmem S1x192x512 .bf16) (harg4 : arg4.IsWhole) (arg5 : Memref sig .tc .vmem S1x512x128 .bf16) (harg5 : arg5.IsWhole)
  (arg6 : Memref sig .tc .vmem S1x128x8192 .bf16) (harg6 : arg6.IsWhole) (arg7 : Memref sig .tc .vmem S1x1x8192 .f32) (harg7 : arg7.IsWhole)
  (arg8 : Memref sig .tc .vmem S1x1x8192 .f32) (harg8 : arg8.IsWhole) (arg9 : Memref sig .tc .vmem S1x192x8192 .f32) (harg9 : arg9.IsWhole)
  (arg10 : Memref sig .tc .vmem S1x192x512 .f32) (harg10 : arg10.IsWhole) (arg11 : Memref sig .tc .vmem S1x128x512 .f32) (harg11 : arg11.IsWhole)

/-- The buffers of a point. -/
abbrev Whole (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (f9 : BufTy.Contents (Elt F) arg9.view.ty) (f10 : BufTy.Contents (Elt F) arg10.view.ty)
    (f11 : BufTy.Contents (Elt F) arg11.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7) ∗ (arg8.view.loc (c : Thread nD τ) ↦[arg8.view.set]{fullShare} X8)
    ∗ (arg9.view.loc (c : Thread nD τ) ↦[arg9.view.set]{fullShare} f9) ∗ (arg10.view.loc (c : Thread nD τ) ↦[arg10.view.set]{fullShare} f10)
    ∗ (arg11.view.loc (c : Thread nD τ) ↦[arg11.view.set]{fullShare} f11))

/-- What the seven arrays read. -/
abbrev insOf (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) : Ins F :=
  ⟨arg2.view.read (Elt F) X2, arg3.view.read (Elt F) X3, arg4.view.read (Elt F) X4, arg5.view.read (Elt F) X5, arg6.view.read (Elt F) X6,
    arg7.view.read (Elt F) X7, arg8.view.read (Elt F) X8⟩

set_option maxHeartbeats 8000000 in
/-- A head's first key block: the queries' gradient starts at zero; the diagonal block and the one after it, then pairs. -/
theorem runA (hc1 : cond1 i = 1#1) (hc2 : k0_cond2 i = 1#1) (hc3 : ¬ k0_cond3 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (f9 : BufTy.Contents (Elt F) arg9.view.ty) (f10 : BufTy.Contents (Elt F) arg10.view.ty)
    (f11 : BufTy.Contents (Elt F) arg11.view.ty) (E : Set ℕ) :
    Whole (F := F) c arg2 arg3 arg4 arg5 arg6 arg7 arg8 arg9 arg10 arg11 X2 X3 X4 X5 X6 X7 X8 f9 f10 f11
      ⊢ wp frame (wpE (defs₀ (F := F)) Variants.none (c : Thread nD τ) none) E (cc0_attn_mla_bwd (F := F) i arg2 harg2 arg3 harg3 arg4 harg4 arg5 harg5 arg6 harg6 arg7 harg7 arg8 harg8 arg9 harg9 arg10 harg10 arg11 harg11)
          (fun _ => iprop(∃ g9 g10 g11, Whole (F := F) c arg2 arg3 arg4 arg5 arg6 arg7 arg8 arg9 arg10 arg11 X2 X3 X4 X5 X6 X7 X8 g9 g10 g11
            ∗ ⌜accOf arg9 arg10 arg11 g9 g10 g11 = work (insOf arg2 arg3 arg4 arg5 arg6 arg7 arg8 X2 X3 X4 X5 X6 X7 X8) (i 1).val k0_pay68⌝)) := by
  letI : ClosedOff (k0_off1 i) := ⟨_, off1_closed i hc2⟩
  letI : ClosedOff (k0_off2 i) := ⟨_, off2_closed i hc2⟩
  have htr := trips2 i
  simp only [cc0_attn_mla_bwd_eq_skeleton]; unfold cc0_attn_mla_bwd_skel
  simp only [k0_part8_eq_skeleton, k0_part1_eq_skeleton, k0_part2_eq_skeleton, k0_part3_eq_skeleton]
  iintro ⟨H2, H3, H4, H5, H6, H7, H8, H9, H10, H11⟩
  sl_exec (disch := first | sl_exact hc1 | sl_exact hc2 | sl_exact hc3)
  sl_step
  iexists _; iexists _; iexists _
  isplitl [H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  ipureintro
  have e2a := fun h => View.readAt_unit (Val := Elt F) arg2.view X2 (size := S1x192x512.size) h (off1_eq i) (qoff_192 _)
  have e2b := fun h => View.readAt_unit (Val := Elt F) arg2.view X2 (size := S1x192x512.size) h (off2_eq i hc2) (qoff_192 _)
  have e6a := fun h => View.readAt_unit (Val := Elt F) arg6.view X6 (size := S1x128x512.size) h (off3_eq i) (qoff_128 _)
  have e6b := fun h => View.readAt_unit (Val := Elt F) arg6.view X6 (size := S1x128x512.size) h (off4_eq i hc2) (qoff_128 _)
  have e7a := fun h => View.readAt_unit (Val := Elt F) arg7.view X7 (size := S1x1x512.size) h (off5_eq i) (qoff_1 _)
  have e7b := fun h => View.readAt_unit (Val := Elt F) arg7.view X7 (size := S1x1x512.size) h (off6_eq i hc2) (qoff_1 _)
  have e8a := fun h => View.readAt_unit (Val := Elt F) arg8.view X8 (size := S1x1x512.size) h (off5_eq i) (qoff_1 _)
  have e8b := fun h => View.readAt_unit (Val := Elt F) arg8.view X8 (size := S1x1x512.size) h (off6_eq i hc2) (qoff_1 _)
  have e9a := fun f h => View.readAt_unit (Val := Elt F) arg9.view f (size := S1x192x512.size) h (off1_eq i) (qoff_192 _)
  have e9b := fun f h => View.readAt_unit (Val := Elt F) arg9.view f (size := S1x192x512.size) h (off2_eq i hc2) (qoff_192 _)
  have p9 := fun f h L w => View.read_writes_cons_put (Val := Elt F) arg9.view f (size := S1x192x512.size) h w L (off2_eq i hc2)
  have p9' := fun f h L w => View.read_writes_cons_put (Val := Elt F) arg9.view f (size := S1x192x512.size) h w L (off1_eq i)
  have r3 := fun h => View.readAt_full (Val := Elt F) arg3.view X3 (off := ![0, 0, 0]) h
  have r4 := fun h => View.readAt_full (Val := Elt F) arg4.view X4 (off := ![0, 0, 0]) h
  have r5 := fun h => View.readAt_full (Val := Elt F) arg5.view X5 (off := ![0, 0, 0]) h
  have w9 := fun f h L w => View.read_writes_full (Val := Elt F) arg9.view f (off := ![0, 0, 0]) h w L
  have w10 := fun f h L w => View.read_writes_full (Val := Elt F) arg10.view f (off := ![0, 0, 0]) h w L
  have w11 := fun f h L w => View.read_writes_full (Val := Elt F) arg11.view f (off := ![0, 0, 0]) h w L
  have c10 := fun h h' L w => View.readCov_full (Val := Elt F) arg10.view (off := ![0, 0, 0]) (off' := ![0, 0, 0]) h h' w L
  have c11 := fun h h' L w => View.readCov_full (Val := Elt F) arg11.view (off := ![0, 0, 0]) (off' := ![0, 0, 0]) h h' w L
  have hj : (15 - (i 1).val) % 2 = 1 := odd_of_cond2 i hc2
  rw [hL7]
  delta runA.sl.H10_3 runA.sl.H11_3 runA.sl.H9_2 runA.sl.r runA.sl.r_1 runA.sl.r_11 runA.sl.r_2 runA.sl.r_9
  delta runA.sl.H9_1 runA.sl.r_10 runA.sl.r_4 runA.sl.r_6 runA.sl.r_7 runA.sl.r_8 runA.sl.v134 runA.sl.v149
  delta runA.sl.H10_2 runA.sl.H11_2 runA.sl.r
  delta runA.sl.r_10 runA.sl.r_3 runA.sl.r_5 runA.sl.r_8 runA.sl.v112 runA.sl.v97
  delta runA.sl.H10_1 runA.sl.H11_1 runA.sl.r runA.sl.r_2
  unfold work fulls
  rw [if_pos hj, show Scf.trips (k0_t1_loop i).lb (k0_t1_loop i).ub (k0_t1_loop i).st = (15 - (i 1).val) / 2 from trips1 i]
  unfold full diag step stepM
  unfold stepAt
  simp only [accOf, e2a, e2b, e6a, e6b, e7a, e7b, e8a, e8b, e9a, e9b, p9, p9', r3, r4, r5, w9, w10, w11, c10, c11, View.writes_nil]
  clear e2a e2b e6a e6b e7a e7b e8a e8b e9a e9b p9 p9' w9 w10 w11 r3 r4 r5 c10 c11
  dsimp only [start]
  generalize (k0_pay68 : FVec F S1x192x8192 .f32) = z
  refine congrArg (pairs (F := F) _ _ _ _ _ _ _ _ _) (Acc.mk_congr ?_ rfl rfl)
  rfl

set_option maxHeartbeats 8000000 in
/-- An even key block that is not a head's first: the diagonal block and the one after it, then pairs. -/
theorem runB (hc1 : ¬ cond1 i = 1#1) (hc2 : k0_cond2 i = 1#1) (hc3 : ¬ k0_cond3 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (f9 : BufTy.Contents (Elt F) arg9.view.ty) (f10 : BufTy.Contents (Elt F) arg10.view.ty)
    (f11 : BufTy.Contents (Elt F) arg11.view.ty) (E : Set ℕ) :
    Whole (F := F) c arg2 arg3 arg4 arg5 arg6 arg7 arg8 arg9 arg10 arg11 X2 X3 X4 X5 X6 X7 X8 f9 f10 f11
      ⊢ wp frame (wpE (defs₀ (F := F)) Variants.none (c : Thread nD τ) none) E (cc0_attn_mla_bwd (F := F) i arg2 harg2 arg3 harg3 arg4 harg4 arg5 harg5 arg6 harg6 arg7 harg7 arg8 harg8 arg9 harg9 arg10 harg10 arg11 harg11)
          (fun _ => iprop(∃ g9 g10 g11, Whole (F := F) c arg2 arg3 arg4 arg5 arg6 arg7 arg8 arg9 arg10 arg11 X2 X3 X4 X5 X6 X7 X8 g9 g10 g11
            ∗ ⌜accOf arg9 arg10 arg11 g9 g10 g11 = work (insOf arg2 arg3 arg4 arg5 arg6 arg7 arg8 X2 X3 X4 X5 X6 X7 X8) (i 1).val (arg9.view.read (Elt F) f9)⌝)) := by
  letI : ClosedOff (k0_off1 i) := ⟨_, off1_closed i hc2⟩
  letI : ClosedOff (k0_off2 i) := ⟨_, off2_closed i hc2⟩
  have htr := trips2 i
  simp only [cc0_attn_mla_bwd_eq_skeleton]; unfold cc0_attn_mla_bwd_skel
  simp only [k0_part8_eq_skeleton, k0_part1_eq_skeleton, k0_part2_eq_skeleton, k0_part3_eq_skeleton]
  iintro ⟨H2, H3, H4, H5, H6, H7, H8, H9, H10, H11⟩
  sl_exec (disch := first | sl_exact hc1 | sl_exact hc2 | sl_exact hc3)
  sl_step
  iexists _; iexists _; iexists _
  isplitl [H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  ipureintro
  have e2a := fun h => View.readAt_unit (Val := Elt F) arg2.view X2 (size := S1x192x512.size) h (off1_eq i) (qoff_192 _)
  have e2b := fun h => View.readAt_unit (Val := Elt F) arg2.view X2 (size := S1x192x512.size) h (off2_eq i hc2) (qoff_192 _)
  have e6a := fun h => View.readAt_unit (Val := Elt F) arg6.view X6 (size := S1x128x512.size) h (off3_eq i) (qoff_128 _)
  have e6b := fun h => View.readAt_unit (Val := Elt F) arg6.view X6 (size := S1x128x512.size) h (off4_eq i hc2) (qoff_128 _)
  have e7a := fun h => View.readAt_unit (Val := Elt F) arg7.view X7 (size := S1x1x512.size) h (off5_eq i) (qoff_1 _)
  have e7b := fun h => View.readAt_unit (Val := Elt F) arg7.view X7 (size := S1x1x512.size) h (off6_eq i hc2) (qoff_1 _)
  have e8a := fun h => View.readAt_unit (Val := Elt F) arg8.view X8 (size := S1x1x512.size) h (off5_eq i) (qoff_1 _)
  have e8b := fun h => View.readAt_unit (Val := Elt F) arg8.view X8 (size := S1x1x512.size) h (off6_eq i hc2) (qoff_1 _)
  have e9a := fun h => View.readAt_unit (Val := Elt F) arg9.view f9 (size := S1x192x512.size) h (off1_eq i) (qoff_192 _)
  have e9b := fun h => View.readAt_unit (Val := Elt F) arg9.view f9 (size := S1x192x512.size) h (off2_eq i hc2) (qoff_192 _)
  have p9 := fun h L w => View.read_writes_cons_put (Val := Elt F) arg9.view f9 (size := S1x192x512.size) h w L (off2_eq i hc2)
  have p9' := fun h L w => View.read_writes_cons_put (Val := Elt F) arg9.view f9 (size := S1x192x512.size) h w L (off1_eq i)
  have r3 := fun h => View.readAt_full (Val := Elt F) arg3.view X3 (off := ![0, 0, 0]) h
  have r4 := fun h => View.readAt_full (Val := Elt F) arg4.view X4 (off := ![0, 0, 0]) h
  have r5 := fun h => View.readAt_full (Val := Elt F) arg5.view X5 (off := ![0, 0, 0]) h
  have w10 := fun f h L w => View.read_writes_full (Val := Elt F) arg10.view f (off := ![0, 0, 0]) h w L
  have w11 := fun f h L w => View.read_writes_full (Val := Elt F) arg11.view f (off := ![0, 0, 0]) h w L
  have c10 := fun h h' L w => View.readCov_full (Val := Elt F) arg10.view (off := ![0, 0, 0]) (off' := ![0, 0, 0]) h h' w L
  have c11 := fun h h' L w => View.readCov_full (Val := Elt F) arg11.view (off := ![0, 0, 0]) (off' := ![0, 0, 0]) h h' w L
  have hj : (15 - (i 1).val) % 2 = 1 := odd_of_cond2 i hc2
  rw [hL7]
  delta runB.sl.r_9 runB.sl.r_8 runB.sl.r_10 runB.sl.r_11 runB.sl.v157 runB.sl.H10_3 runB.sl.H11_3
  delta runB.sl.r runB.sl.r_1 runB.sl.r_2
  delta runB.sl.r_4 runB.sl.r_6 runB.sl.r_7 runB.sl.v134 runB.sl.v149
  delta runB.sl.H10_2 runB.sl.H11_2 runB.sl.r
  delta runB.sl.r_10 runB.sl.r_3 runB.sl.r_5 runB.sl.r_8 runB.sl.v112 runB.sl.v97
  delta runB.sl.H10_1 runB.sl.H11_1 runB.sl.r runB.sl.r_2
  unfold work fulls
  rw [if_pos hj, show Scf.trips (k0_t1_loop i).lb (k0_t1_loop i).ub (k0_t1_loop i).st = (15 - (i 1).val) / 2 from trips1 i]
  unfold full diag step stepM
  rw [stepAt_stepAt (F := F)]
  simp only [accOf, e2a, e2b, e6a, e6b, e7a, e7b, e8a, e8b, e9a, e9b, p9, p9', r3, r4, r5, w10, w11, c10, c11, View.writes_nil]
  clear e2a e2b e6a e6b e7a e7b e8a e8b e9a e9b p9 p9' w10 w11 r3 r4 r5 c10 c11
  rfl

set_option maxHeartbeats 8000000 in
/-- An odd key block: the diagonal block, then pairs. -/
theorem runC (hc1 : ¬ cond1 i = 1#1) (hc2 : ¬ k0_cond2 i = 1#1) (hc3 : k0_cond3 i = 1#1)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (f9 : BufTy.Contents (Elt F) arg9.view.ty) (f10 : BufTy.Contents (Elt F) arg10.view.ty)
    (f11 : BufTy.Contents (Elt F) arg11.view.ty) (E : Set ℕ) :
    Whole (F := F) c arg2 arg3 arg4 arg5 arg6 arg7 arg8 arg9 arg10 arg11 X2 X3 X4 X5 X6 X7 X8 f9 f10 f11
      ⊢ wp frame (wpE (defs₀ (F := F)) Variants.none (c : Thread nD τ) none) E (cc0_attn_mla_bwd (F := F) i arg2 harg2 arg3 harg3 arg4 harg4 arg5 harg5 arg6 harg6 arg7 harg7 arg8 harg8 arg9 harg9 arg10 harg10 arg11 harg11)
          (fun _ => iprop(∃ g9 g10 g11, Whole (F := F) c arg2 arg3 arg4 arg5 arg6 arg7 arg8 arg9 arg10 arg11 X2 X3 X4 X5 X6 X7 X8 g9 g10 g11
            ∗ ⌜accOf arg9 arg10 arg11 g9 g10 g11 = work (insOf arg2 arg3 arg4 arg5 arg6 arg7 arg8 X2 X3 X4 X5 X6 X7 X8) (i 1).val (arg9.view.read (Elt F) f9)⌝)) := by
  letI : ClosedOff (k0_off7 i) := ⟨_, off7_closed i⟩
  have htr := trips2 i
  simp only [cc0_attn_mla_bwd_eq_skeleton]; unfold cc0_attn_mla_bwd_skel
  simp only [k0_part8_eq_skeleton, k0_part1_eq_skeleton, k0_part2_eq_skeleton, k0_part3_eq_skeleton]
  iintro ⟨H2, H3, H4, H5, H6, H7, H8, H9, H10, H11⟩
  sl_exec (disch := first | sl_exact hc1 | sl_exact hc2 | sl_exact hc3)
  sl_step
  iexists _; iexists _; iexists _
  isplitl [H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  ipureintro
  have e2a := fun h => View.readAt_unit (Val := Elt F) arg2.view X2 (size := S1x192x512.size) h (off7_eq i) (qoff_192 _)
  have e6a := fun h => View.readAt_unit (Val := Elt F) arg6.view X6 (size := S1x128x512.size) h (off8_eq i) (qoff_128 _)
  have e7a := fun h => View.readAt_unit (Val := Elt F) arg7.view X7 (size := S1x1x512.size) h (off9_eq i) (qoff_1 _)
  have e8a := fun h => View.readAt_unit (Val := Elt F) arg8.view X8 (size := S1x1x512.size) h (off9_eq i) (qoff_1 _)
  have e9a := fun h => View.readAt_unit (Val := Elt F) arg9.view f9 (size := S1x192x512.size) h (off7_eq i) (qoff_192 _)
  have p9 := fun h L w => View.read_writes_cons_put (Val := Elt F) arg9.view f9 (size := S1x192x512.size) h w L (off7_eq i)
  have r3 := fun h => View.readAt_full (Val := Elt F) arg3.view X3 (off := ![0, 0, 0]) h
  have r4 := fun h => View.readAt_full (Val := Elt F) arg4.view X4 (off := ![0, 0, 0]) h
  have r5 := fun h => View.readAt_full (Val := Elt F) arg5.view X5 (off := ![0, 0, 0]) h
  have w10 := fun f h L w => View.read_writes_full (Val := Elt F) arg10.view f (off := ![0, 0, 0]) h w L
  have w11 := fun f h L w => View.read_writes_full (Val := Elt F) arg11.view f (off := ![0, 0, 0]) h w L
  have c10 := fun h h' L w => View.readCov_full (Val := Elt F) arg10.view (off := ![0, 0, 0]) (off' := ![0, 0, 0]) h h' w L
  have c11 := fun h h' L w => View.readCov_full (Val := Elt F) arg11.view (off := ![0, 0, 0]) (off' := ![0, 0, 0]) h h' w L
  have hj := even_of_not_cond2 i hc2
  rw [hL7]
  delta runC.sl.H10_2 runC.sl.H11_2 runC.sl.r runC.sl.r_1 runC.sl.r_2 runC.sl.r_4 runC.sl.r_5 runC.sl.r_6
  delta runC.sl.H10_2 runC.sl.H11_2 runC.sl.r runC.sl.r_1 runC.sl.r_2 runC.sl.r_3 runC.sl.r_4 runC.sl.r_5 runC.sl.r_6 runC.sl.v101 runC.sl.v86
  delta runC.sl.H10_1 runC.sl.H10_2 runC.sl.H11_1 runC.sl.H11_2 runC.sl.r runC.sl.r_1 runC.sl.r_2 runC.sl.r_4 runC.sl.r_5 runC.sl.r_6
  unfold work fulls
  rw [if_neg hj, show Scf.trips (k0_t1_loop i).lb (k0_t1_loop i).ub (k0_t1_loop i).st = (15 - (i 1).val) / 2 from trips1 i]
  unfold diag stepM stepAt
  simp only [accOf, e2a, e6a, e7a, e8a, e9a, p9, r3, r4, r5, w10, w11, c10, c11, View.writes_nil]
  clear e2a e6a e7a e8a e9a p9 w10 w11 r3 r4 r5 c10 c11
  rfl

end Cert.KernelIdeal.Bwd

end
-- ==== Proof.Main.lean ====
/-
  The body at any grid point over whole staging buffers, the accumulators along the grid, and the run of the whole program.
-/
module

public import proofs.«01_k».proof.Proof.Run
public import Idealize.ShloMosaic.Lib.Claim

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.KernelIdeal

variable {F : FTy → Type} [FloatOps F] [Named F]

local notation "𝕄" => MT nD τ sig Unit (Elt F) ℕ (UR sig nD τ) ℕ

theorem cond2_of_cond1 : ∀ i : grid0.Coords, cond1 i = 1#1 → k0_cond2 i = 1#1 := by decide +kernel
theorem not_cond3_of_cond2 : ∀ i : grid0.Coords, k0_cond2 i = 1#1 → ¬ k0_cond3 i = 1#1 := by decide +kernel
theorem cond3_of_not_cond2 : ∀ i : grid0.Coords, ¬ k0_cond2 i = 1#1 → k0_cond3 i = 1#1 := by decide +kernel

/-- What a point starts the queries' gradient from. -/
def dqFrom (i : grid0.Coords) (dq : Vec F S1x192x8192 .f32) : Vec F S1x192x8192 .f32 := if cond1 i = 1#1 then k0_pay68 else dq

section
variable (c : Dev nD) (i : grid0.Coords)
  (arg2 : Memref sig .tc .vmem S1x192x8192 .bf16) (harg2 : arg2.IsWhole) (arg3 : Memref sig .tc .vmem S1x512x192 .bf16) (harg3 : arg3.IsWhole)
  (arg4 : Memref sig .tc .vmem S1x192x512 .bf16) (harg4 : arg4.IsWhole) (arg5 : Memref sig .tc .vmem S1x512x128 .bf16) (harg5 : arg5.IsWhole)
  (arg6 : Memref sig .tc .vmem S1x128x8192 .bf16) (harg6 : arg6.IsWhole) (arg7 : Memref sig .tc .vmem S1x1x8192 .f32) (harg7 : arg7.IsWhole)
  (arg8 : Memref sig .tc .vmem S1x1x8192 .f32) (harg8 : arg8.IsWhole) (arg9 : Memref sig .tc .vmem S1x192x8192 .f32) (harg9 : arg9.IsWhole)
  (arg10 : Memref sig .tc .vmem S1x192x512 .f32) (harg10 : arg10.IsWhole) (arg11 : Memref sig .tc .vmem S1x128x512 .f32) (harg11 : arg11.IsWhole)

/-- The body at any point, the three cases together. -/
theorem runAny (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (f9 : BufTy.Contents (Elt F) arg9.view.ty) (f10 : BufTy.Contents (Elt F) arg10.view.ty)
    (f11 : BufTy.Contents (Elt F) arg11.view.ty) (E : Set ℕ) :
    Whole (F := F) c arg2 arg3 arg4 arg5 arg6 arg7 arg8 arg9 arg10 arg11 X2 X3 X4 X5 X6 X7 X8 f9 f10 f11
      ⊢ wp frame (wpE (defs₀ (F := F)) Variants.none (c : Thread nD τ) none) E (cc0_attn_mla_bwd (F := F) i arg2 harg2 arg3 harg3 arg4 harg4 arg5 harg5 arg6 harg6 arg7 harg7 arg8 harg8 arg9 harg9 arg10 harg10 arg11 harg11)
          (fun _ => iprop(∃ g9 g10 g11, Whole (F := F) c arg2 arg3 arg4 arg5 arg6 arg7 arg8 arg9 arg10 arg11 X2 X3 X4 X5 X6 X7 X8 g9 g10 g11
            ∗ ⌜accOf arg9 arg10 arg11 g9 g10 g11 = work (insOf arg2 arg3 arg4 arg5 arg6 arg7 arg8 X2 X3 X4 X5 X6 X7 X8) (i 1).val
                (dqFrom i (arg9.view.read (Elt F) f9))⌝)) := by
  unfold dqFrom
  by_cases hc1 : cond1 i = 1#1
  · rw [if_pos hc1]
    exact runA (F := F) c i arg2 harg2 arg3 harg3 arg4 harg4 arg5 harg5 arg6 harg6 arg7 harg7 arg8 harg8 arg9 harg9 arg10 harg10 arg11 harg11 hc1 (cond2_of_cond1 i hc1) (not_cond3_of_cond2 i (cond2_of_cond1 i hc1)) X2 X3 X4 X5 X6 X7 X8 f9 f10 f11 E
  · rw [if_neg hc1]
    by_cases hc2 : k0_cond2 i = 1#1
    · exact runB (F := F) c i arg2 harg2 arg3 harg3 arg4 harg4 arg5 harg5 arg6 harg6 arg7 harg7 arg8 harg8 arg9 harg9 arg10 harg10 arg11 harg11 hc1 hc2 (not_cond3_of_cond2 i hc2) X2 X3 X4 X5 X6 X7 X8 f9 f10 f11 E
    · exact runC (F := F) c i arg2 harg2 arg3 harg3 arg4 harg4 arg5 harg5 arg6 harg6 arg7 harg7 arg8 harg8 arg9 harg9 arg10 harg10 arg11 harg11 hc1 hc2 (cond3_of_not_cond2 i hc2) X2 X3 X4 X5 X6 X7 X8 f9 f10 f11 E

/-- The body's triple on what the staging buffers hold. -/
theorem runOwns (x : Ins F) (d9 : Vec F S1x192x8192 .f32) (d10 : Vec F S1x192x512 .f32) (d11 : Vec F S1x128x512 .f32) (E : Set ℕ) :
    (iprop(owns (c : Thread nD τ) arg2 fullShare x.qt ∗ owns (c : Thread nD τ) arg3 fullShare x.k ∗ owns (c : Thread nD τ) arg4 fullShare x.kt ∗ owns (c : Thread nD τ) arg5 fullShare x.v ∗ owns (c : Thread nD τ) arg6 fullShare x.dot ∗ owns (c : Thread nD τ) arg7 fullShare x.lse ∗ owns (c : Thread nD τ) arg8 fullShare x.del ∗ owns (c : Thread nD τ) arg9 fullShare d9 ∗ owns (c : Thread nD τ) arg10 fullShare d10 ∗ owns (c : Thread nD τ) arg11 fullShare d11) : sProp 𝕄)
      ⊢ wp frame (wpE (defs₀ (F := F)) Variants.none (c : Thread nD τ) none) E (cc0_attn_mla_bwd (F := F) i arg2 harg2 arg3 harg3 arg4 harg4 arg5 harg5 arg6 harg6 arg7 harg7 arg8 harg8 arg9 harg9 arg10 harg10 arg11 harg11)
          (fun _ => (iprop(owns (c : Thread nD τ) arg2 fullShare x.qt ∗ owns (c : Thread nD τ) arg3 fullShare x.k ∗ owns (c : Thread nD τ) arg4 fullShare x.kt ∗ owns (c : Thread nD τ) arg5 fullShare x.v ∗ owns (c : Thread nD τ) arg6 fullShare x.dot ∗ owns (c : Thread nD τ) arg7 fullShare x.lse ∗ owns (c : Thread nD τ) arg8 fullShare x.del ∗ owns (c : Thread nD τ) arg9 fullShare (work x (i 1).val (dqFrom i d9)).dq
            ∗ owns (c : Thread nD τ) arg10 fullShare (work x (i 1).val (dqFrom i d9)).dk
            ∗ owns (c : Thread nD τ) arg11 fullShare (work x (i 1).val (dqFrom i d9)).dv) : sProp 𝕄)) := by
  obtain ⟨x2, x3, x4, x5, x6, x7, x8⟩ := x
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%f9, %h9, H9⟩, ⟨%f10, %h10, H10⟩, ⟨%f11, %h11, H11⟩⟩
  subst h2 h3 h4 h5 h6 h7 h8 h9 h10 h11
  iapply (wp_wand_r Idealize.ShloMosaic.frame (wpE (defs₀ (F := F)) Variants.none (c : Thread nD τ) none) E)
  isplitl [H2 H3 H4 H5 H6 H7 H8 H9 H10 H11]
  · iapply (runAny (F := F) c i arg2 harg2 arg3 harg3 arg4 harg4 arg5 harg5 arg6 harg6 arg7 harg7 arg8 harg8 arg9 harg9 arg10 harg10 arg11 harg11 X2 X3 X4 X5 X6 X7 X8 f9 f10 f11 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨%g9, %g10, %g11, ⟨H2, H3, H4, H5, H6, H7, H8, H9, H10, H11⟩, %hg⟩
    rw [← hg]
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    iexists _; isplitr; swap; · iexact H11
    ipureintro; rfl

end

variable (m : (ℓ : Loc nD τ sig) → Buf (Elt F) ℓ) (ρ : Dev nD → PrngReg)

/-- What point `t` reads. -/
def ins (c : Dev nD) (t : Fin cfg0.N) : Ins F :=
  ⟨iblk m c 0 t, iblk m c 1 t, iblk m c 2 t, iblk m c 3 t, iblk m c 4 t, iblk m c 5 t, iblk m c 6 t⟩

/-- The accumulators after point `n`: a head's queries' gradient goes on from one key block to the next. -/
def accAt (c : Dev nD) : (n : ℕ) → n < cfg0.N → Acc F
  | 0, h => work (ins m c ⟨0, h⟩) ((grid0.coords (⟨0, h⟩ : Fin cfg0.N)) 1).val (dqFrom (grid0.coords (⟨0, h⟩ : Fin cfg0.N)) k0_pay68)
  | n + 1, h => work (ins m c ⟨n + 1, h⟩) ((grid0.coords (⟨n + 1, h⟩ : Fin cfg0.N)) 1).val
      (dqFrom (grid0.coords (⟨n + 1, h⟩ : Fin cfg0.N)) (accAt c n (Nat.lt_of_succ_lt h)).dq)

/-- The proof data: the arrays as the region finds them, each input's buffer at its block, the outputs at the accumulators. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (accAt m c t.val t.isLt).dq
    | ⟨8, _⟩ => (accAt m c t.val t.isLt).dk
    | ⟨9, _⟩ => (accAt m c t.val t.isLt).dv
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (accAt m c t.val t.isLt).dq := by dsimp only [dats]
theorem after0_8 (c : Dev nD) (t : Fin cfg0.N) : (dats m 0 c).after 8 t = (accAt m c t.val t.isLt).dk := by dsimp only [dats]
theorem after0_9 (c : Dev nD) (t : Fin cfg0.N) : (dats m 0 c).after 9 t = (accAt m c t.val t.isLt).dv := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- A point's key block. -/
theorem coords_one (t : Fin cfg0.N) : ((grid0.coords t) 1).val = t.val % 16 := by
  have e1 : (grid0.coords t 1).val = t.val / 1 % 16 := Pipeline.Grid.coords_val t 1 (by decide) rfl
  simpa using e1

theorem cond1_first : ∀ t : Fin cfg0.N, cond1 (grid0.coords t) = 1#1 ↔ t.val % 16 = 0 := by
  intro t
  have e1 : ((grid0.coords t) 1).val = t.val % 16 := coords_one t
  have hlt := Nat.mod_lt t.val (show 0 < 16 by decide)
  have key : ∀ n : Fin 16, (Scalar.cmpi .ne (Scalar.extui (Scalar.cmpi .eq (BitVec.ofNat 32 n.val) 0#32) : BitVec 32) 0#32 = 1#1) ↔ n.val = 0 := by
    decide +kernel
  unfold cond1
  rw [e1]
  exact key ⟨t.val % 16, hlt⟩

/-- The accumulators after a point from what its buffer of the queries' gradient held before. -/
theorem accAt_eq (c : Dev nD) (t : Fin cfg0.N) (d) :
    accAt m c t.val t.isLt = work (ins m c t) ((grid0.coords t) 1).val (dqFrom (grid0.coords t) ((dats m 0 c).before 7 t d)) := by
  obtain ⟨n, hn⟩ := t
  by_cases h0 : n % 16 = 0
  · have hc : cond1 (grid0.coords (⟨n, hn⟩ : Fin cfg0.N)) = 1#1 := (cond1_first ⟨n, hn⟩).mpr h0
    cases n with
    | zero => rw [accAt]; unfold dqFrom; rw [if_pos hc, if_pos hc]
    | succ n => rw [accAt]; unfold dqFrom; rw [if_pos hc, if_pos hc]
  · cases n with
    | zero => exact absurd rfl h0
    | succ n =>
      have hfl : (cfg0.win 7).flush ⟨n, Nat.lt_of_succ_lt hn⟩ = false := by
        rw [Bool.eq_false_iff]; intro hf
        have := (flush0_7 ⟨n, Nat.lt_of_succ_lt hn⟩).mp hf
        have h2 : n % 16 = 15 := this
        omega
      have hb := (dats m 0 c).before_out_kept 7 rfl ⟨n + 1, hn⟩ (Nat.succ_ne_zero n) hfl (fun _ => rfl) (fun _ _ => rfl) d
      rw [accAt, hb, after0_7]
      rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1600000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [accAt_eq m c t d7]
  iapply (wp_wand_r Idealize.ShloMosaic.frame (wpE (defs₀ (F := F)) Variants.none (c : Thread nD τ) none) Set.univ)
  isplitl [H0 H1 H2 H3 H4 H5 H6 H7 H8 H9]
  · iapply (runOwns (F := F) c (grid0.coords t) _ _ _ _ _ _ _ _ _ _ _ _ _ _ _ _ _ _ _ _ (ins m c t) _ _ _ Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %_ ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

/-- The library's obligation for the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution ends with the arrays as the grid leaves them and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as launched, the counters at zero. -/
theorem frame' : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Bwd

end
-- ==== Proof.Ref.lean ====
/-
  The reference's run: what each of its buffers holds, from the arguments.
-/
module

public import proofs.«01_k».proof.Proof.Gen.ReferenceIdeal.Run
public import proofs.«01_k».proof.Proof.Gen.ReferenceIdeal.Read

@[expose] public section

set_option maxRecDepth 16384

namespace Cert.ReferenceIdeal.Bwd

open Idealize.ShloMosaic Idealize.SL.Sem Cert.ReferenceIdeal.Gen Cert.ReferenceIdeal

/-- The reference leaves its arguments as launched, and has no semaphore. -/
theorem frame' (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems (by decide) r.2⟩) (Value.run m ρ)

end Cert.ReferenceIdeal.Bwd

end
-- ==== Proof.Tile.lean ====
/-
  One block of the gradient read at an element, over the extended reals.
-/
module

public import proofs.«01_k».proof.Proof.Steps
public import Idealize.ShloMosaic.Lib.Pointwise
public import Idealize.ShloMosaic.PureOps.IdealRules

@[expose] public section

set_option maxRecDepth 16384

noncomputable section

namespace Cert.KernelIdeal.Bwd

open Idealize.ShloMosaic Idealize.ShloMosaic.Pointwise Cert.KernelIdeal.Gen Cert.KernelIdeal

/-- Query `s` of block `b`. -/
def qi (b : ℕ) (s : Fin 512) : Fin 8192 := ⟨512 * (b % 16) + s.val, by omega⟩

theorem qblk_apply (x : Vec Ideal S1x192x8192 .bf16) (b : ℕ) (d : Fin 192) (s : Fin 512) :
    qblk (F := Ideal) x b (ix3 0 d s) = x (ix3 0 d (qi b s)) :=
  congrArg x (funext fun a => Fin.ext (by
    fin_cases a
    · rfl
    · show 0 + 1 * d.val = d.val; omega
    · show 512 * (b % 16) + 1 * s.val = 512 * (b % 16) + s.val; omega))

theorem gblk_apply (x : Vec Ideal S1x192x8192 .f32) (b : ℕ) (d : Fin 192) (s : Fin 512) :
    gblk (F := Ideal) x b (ix3 0 d s) = x (ix3 0 d (qi b s)) :=
  congrArg x (funext fun a => Fin.ext (by
    fin_cases a
    · rfl
    · show 0 + 1 * d.val = d.val; omega
    · show 512 * (b % 16) + 1 * s.val = 512 * (b % 16) + s.val; omega))

theorem oblk_apply (x : Vec Ideal S1x128x8192 .bf16) (b : ℕ) (d : Fin 128) (s : Fin 512) :
    oblk (F := Ideal) x b (ix3 0 d s) = x (ix3 0 d (qi b s)) :=
  congrArg x (funext fun a => Fin.ext (by
    fin_cases a
    · rfl
    · show 0 + 1 * d.val = d.val; omega
    · show 512 * (b % 16) + 1 * s.val = 512 * (b % 16) + s.val; omega))

theorem rblk_apply (x : Vec Ideal S1x1x8192 .f32) (b : ℕ) (s : Fin 512) :
    rblk (F := Ideal) x b (ix3 0 0 s) = x (ix3 0 0 (qi b s)) :=
  congrArg x (funext fun a => Fin.ext (by
    fin_cases a
    · rfl
    · rfl
    · show 512 * (b % 16) + 1 * s.val = 512 * (b % 16) + s.val; omega))

theorem scores_apply (k : FVec Ideal S512x192 .bf16) (q : Vec Ideal S1x192x512 .bf16) (r s : Fin 512) :
    scores (F := Ideal) k q (ix2 r s) = ∑ d : Fin 192, k (ix2 r d) * q (ix3 0 d s) := by
  pointwise [scores]

theorem masked_apply (j : ℕ) (hj : j < 16) (x : FVec Ideal S512x512 .f32) (r s : Fin 512) :
    masked (F := Ideal) (BitVec.ofNat 32 j) x (ix2 r s) = if r.val ≤ s.val then x (ix2 r s) else ⊥ := by
  pointwise [masked]
  have key : ∀ (a b : ℕ), a < 512 → b < 512 → ((BitVec.ofNat 32 j * 512#32 + BitVec.ofNat 32 a).toInt ≤ (BitVec.ofNat 32 j * 512#32 + BitVec.ofNat 32 b).toInt ↔ a ≤ b) := by
    intro a b ha hb
    have e : ∀ c : ℕ, c < 512 → (BitVec.ofNat 32 j * 512#32 + BitVec.ofNat 32 c).toInt = (j * 512 + c : ℕ) := by
      intro c hc
      have h1 : (BitVec.ofNat 32 j * 512#32 + BitVec.ofNat 32 c).toNat = j * 512 + c := by
        simp only [BitVec.toNat_add, BitVec.toNat_mul, BitVec.toNat_ofNat]; omega
      rw [BitVec.toInt_eq_toNat_of_lt (by rw [h1]; omega), h1]
    rw [e a ha, e b hb]; omega
  rw [IdealRules.named_const.ideal_named_scalar _ _ _ _ rfl]
  have hk := key r.val s.val r.isLt s.isLt
  show (if BitVec.ofBool (decide ((BitVec.ofNat 32 j * 512#32 + BitVec.ofNat 32 r.val).toInt
      ≤ (BitVec.ofNat 32 j * 512#32 + BitVec.ofNat 32 s.val).toInt)) = 1 then x (ix2 r s) else ⊥) = _
  simp only [hk]
  by_cases h : r.val ≤ s.val
  · rw [if_pos h, decide_eq_true h]; rfl
  · rw [if_neg h, decide_eq_false h]; rfl

theorem weights_apply (x : FVec Ideal S512x512 .f32) (l : Vec Ideal S1x1x512 .f32) (r s : Fin 512) :
    weights (F := Ideal) x l (ix2 r s) = Ideal.exp2 (x (ix2 r s) - l (ix3 0 0 s)) := by
  pointwise [weights]
  rfl

theorem dscores_apply (v : FVec Ideal S512x128 .bf16) (p : FVec Ideal S512x512 .f32) (d : Vec Ideal S1x128x512 .bf16) (l : Vec Ideal S1x1x512 .f32) (r s : Fin 512) :
    dscores (F := Ideal) v p d l (ix2 r s) = p (ix2 r s) * ((∑ e : Fin 128, v (ix2 r e) * d (ix3 0 e s)) - l (ix3 0 0 s)) := by
  pointwise [dscores]

theorem dvAdd_apply (p : FVec Ideal S512x512 .f32) (d : Vec Ideal S1x128x512 .bf16) (x : Vec Ideal S1x128x512 .f32) (e : Fin 128) (r : Fin 512) :
    dvAdd (F := Ideal) p d x (ix3 0 e r) = x (ix3 0 e r) + ∑ s : Fin 512, d (ix3 0 e s) * p (ix2 r s) := by
  pointwise [dvAdd]

theorem dkAdd_apply (q : Vec Ideal S1x192x512 .bf16) (ds : FVec Ideal S512x512 .bf16) (x : Vec Ideal S1x192x512 .f32) (e : Fin 192) (r : Fin 512) :
    dkAdd (F := Ideal) q ds x (ix3 0 e r) = x (ix3 0 e r) + ∑ s : Fin 512, q (ix3 0 e s) * ds (ix2 r s) := by
  pointwise [dkAdd]

theorem dqAdd_apply (kt : FVec Ideal S192x512 .bf16) (ds : FVec Ideal S512x512 .bf16) (x : Vec Ideal S1x192x512 .f32) (e : Fin 192) (s : Fin 512) :
    dqAdd (F := Ideal) kt ds x (ix3 0 e s) = x (ix3 0 e s) + ∑ r : Fin 512, kt (ix2 e r) * ds (ix2 r s) := by
  pointwise [dqAdd]

/-- A block put over the queries' gradient, read at a query: the payload inside, the rest as before. -/
theorem put_apply (x : Vec Ideal S1x192x8192 .f32) (b : ℕ) (w : FVec Ideal S1x192x512 .f32) (d : Fin 192) (b' : ℕ) (s : Fin 512) :
    VecWindow.put (s := S1x192x8192) x (qoff b) S1x192x512.size w (ix3 0 d (qi b' s)) = if b % 16 = b' % 16 then w (ix3 0 d s) else x (ix3 0 d (qi b' s)) := by
  unfold VecWindow.put
  by_cases hb : b % 16 = b' % 16
  · have h : ∀ a : Fin 3, qoff b a ≤ ((ix3 0 d (qi b' s) : S1x192x8192.Idx) a).val ∧ ((ix3 0 d (qi b' s) : S1x192x8192.Idx) a).val < qoff b a + S1x192x512.size a := by
      intro a; fin_cases a
      · exact ⟨Nat.le_refl 0, Nat.one_pos⟩
      · exact ⟨Nat.zero_le _, (Nat.zero_add _).symm ▸ d.isLt⟩
      · have := s.isLt
        show 512 * (b % 16) ≤ 512 * (b' % 16) + s.val ∧ 512 * (b' % 16) + s.val < 512 * (b % 16) + 512
        omega
    rw [dif_pos h, if_pos hb]
    exact congrArg w (funext fun a => Fin.ext (by
      fin_cases a
      · rfl
      · rfl
      · show 512 * (b' % 16) + s.val - 512 * (b % 16) = s.val
        omega))
  · rw [dif_neg, if_neg hb]
    intro h
    have h2 := h 2
    have := s.isLt
    have h3 : 512 * (b % 16) ≤ 512 * (b' % 16) + s.val ∧ 512 * (b' % 16) + s.val < 512 * (b % 16) + 512 := h2
    omega

end Cert.KernelIdeal.Bwd

end
-- ==== Proof.Block.lean ====
/-
  What one grid point leaves: over real data, each accumulator as a sum over the queries.
-/
module

public import proofs.«01_k».proof.Proof.Tile
public import proofs.«01_k».proof.Proof.Run

@[expose] public section

set_option maxRecDepth 16384

noncomputable section

namespace Cert.KernelIdeal.Bwd

open Idealize.ShloMosaic Idealize.ShloMosaic.Pointwise Cert.KernelIdeal.Gen Cert.KernelIdeal

/-- One head's arrays as real numbers: queries, keys, values, output gradients, the rows' log-sums and products. -/
structure Head where
  q : Fin 192 → Fin 8192 → ℝ
  k : Fin 8192 → Fin 192 → ℝ
  v : Fin 8192 → Fin 128 → ℝ
  o : Fin 128 → Fin 8192 → ℝ
  lse : Fin 8192 → ℝ
  del : Fin 8192 → ℝ

/-- The weight of key `k` for query `i`: none for a later key. -/
def Head.w (x : Head) (i k : Fin 8192) : ℝ :=
  if k.val ≤ i.val then Real.rpow 2 ((∑ d, x.k k d * x.q d i) - x.lse i) else 0

/-- The gradient of the score. -/
def Head.ds (x : Head) (i k : Fin 8192) : ℝ := x.w i k * ((∑ e, x.v k e * x.o e i) - x.del i)

theorem Head.w_late (x : Head) {i k : Fin 8192} (h : i.val < k.val) : x.w i k = 0 := if_neg (Nat.not_le.mpr h)
theorem Head.ds_late (x : Head) {i k : Fin 8192} (h : i.val < k.val) : x.ds i k = 0 := by rw [Head.ds, x.w_late h, zero_mul]

theorem qi_lt {b j : ℕ} (s r : Fin 512) (hb : b < j) (hj : j < 16) : (qi b s).val < (qi j r).val := by
  have := s.isLt
  show 512 * (b % 16) + s.val < 512 * (j % 16) + r.val
  omega

/-- A finite sum of real numbers, as an extended real. -/
theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- What a grid point's buffers hold, at key block `j`. -/
structure Reads (x : Head) (j : ℕ) (y : Ins Ideal) : Prop where
  qt : ∀ d i, y.qt (ix3 0 d i) = ((x.q d i : ℝ) : EReal)
  k : ∀ r d, y.k (ix3 0 r d) = ((x.k (qi j r) d : ℝ) : EReal)
  kt : ∀ d r, y.kt (ix3 0 d r) = ((x.k (qi j r) d : ℝ) : EReal)
  v : ∀ r e, y.v (ix3 0 r e) = ((x.v (qi j r) e : ℝ) : EReal)
  dot : ∀ e i, y.dot (ix3 0 e i) = ((x.o e i : ℝ) : EReal)
  lse : ∀ i, y.lse (ix3 0 0 i) = ((x.lse i : ℝ) : EReal)
  del : ∀ i, y.del (ix3 0 0 i) = ((x.del i : ℝ) : EReal)

/-- The accumulators after the query blocks below `m`, the queries' gradient having started at `g`. -/
structure Done (x : Head) (g : Fin 192 → Fin 8192 → ℝ) (j m : ℕ) (a : Acc Ideal) : Prop where
  dq : ∀ d b s, b < 16 → a.dq (ix3 0 d (qi b s))
    = ((g d (qi b s) + if b < m then ∑ r, x.k (qi j r) d * x.ds (qi b s) (qi j r) else 0 : ℝ) : EReal)
  dk : ∀ d r, a.dk (ix3 0 d r) = ((∑ b ∈ Finset.range m, ∑ s, x.q d (qi b s) * x.ds (qi b s) (qi j r) : ℝ) : EReal)
  dv : ∀ e r, a.dv (ix3 0 e r) = ((∑ b ∈ Finset.range m, ∑ s, x.o e (qi b s) * x.w (qi b s) (qi j r) : ℝ) : EReal)

variable {x : Head} {g : Fin 192 → Fin 8192 → ℝ} {j m : ℕ} {y : Ins Ideal} {a : Acc Ideal}

theorem pay71_apply (k : Vec Ideal S1x512x192 .bf16) (r : Fin 512) (d : Fin 192) : k0_pay71 (F := Ideal) k (ix2 r d) = k (ix3 0 r d) := by
  pointwise [k0_pay71]
theorem pay72_apply (k : Vec Ideal S1x192x512 .bf16) (d : Fin 192) (r : Fin 512) : k0_pay72 (F := Ideal) k (ix2 d r) = k (ix3 0 d r) := by
  pointwise [k0_pay72]
theorem pay73_apply (k : Vec Ideal S1x512x128 .bf16) (r : Fin 512) (d : Fin 128) : k0_pay73 (F := Ideal) k (ix2 r d) = k (ix3 0 r d) := by
  pointwise [k0_pay73]

theorem stepAt_done (hy : Reads x j y) {b : ℕ} (hb : b < 16) (h : Done x g j b a) (p : FVec Ideal S512x512 .f32)
    (hp : ∀ r s, p (ix2 r s) = ((x.w (qi b s) (qi j r) : ℝ) : EReal)) :
    Done x g j (b + 1) (stepAt (k0_pay72 y.kt) (k0_pay73 y.v) y.qt y.dot y.del b p a) := by
  have hds : ∀ r s, dscores (F := Ideal) (k0_pay73 y.v) p (oblk y.dot b) (rblk y.del b) (ix2 r s) = ((x.ds (qi b s) (qi j r) : ℝ) : EReal) := by
    intro r s
    rw [dscores_apply, hp, rblk_apply, hy.del, Head.ds, EReal.coe_mul, EReal.coe_sub, coe_sum']
    congr 2
    refine Finset.sum_congr rfl fun e _ => ?_
    rw [pay73_apply, oblk_apply, hy.v, hy.dot, EReal.coe_mul]
  constructor
  · intro d b' s hb'
    show VecWindow.put (s := S1x192x8192) a.dq (qoff b) S1x192x512.size _ (ix3 0 d (qi b' s)) = _
    rw [put_apply]
    by_cases e : b = b'
    · subst e
      rw [if_pos rfl, dqAdd_apply, gblk_apply, h.dq d b s hb, if_neg (Nat.lt_irrefl b), if_pos (Nat.lt_succ_self b), add_zero,
        EReal.coe_add, coe_sum']
      congr 1
      refine Finset.sum_congr rfl fun r _ => ?_
      rw [pay72_apply, hds, hy.kt, EReal.coe_mul]
    · rw [if_neg (by omega), h.dq d b' s hb']
      by_cases hlt : b' < b
      · rw [if_pos hlt, if_pos (by omega)]
      · rw [if_neg hlt, if_neg (by omega)]
  · intro d r
    show dkAdd (F := Ideal) _ _ _ (ix3 0 d r) = _
    rw [dkAdd_apply, h.dk, Finset.sum_range_succ, EReal.coe_add, coe_sum' (Finset.univ : Finset (Fin 512))]
    congr 1
    refine Finset.sum_congr rfl fun s _ => ?_
    rw [hds, qblk_apply, hy.qt, EReal.coe_mul]
  · intro e r
    show dvAdd (F := Ideal) _ _ _ (ix3 0 e r) = _
    rw [dvAdd_apply, h.dv, Finset.sum_range_succ, EReal.coe_add, coe_sum' (Finset.univ : Finset (Fin 512))]
    congr 1
    refine Finset.sum_congr rfl fun s _ => ?_
    rw [hp, oblk_apply, hy.dot, EReal.coe_mul]

theorem score_coe (hy : Reads x j y) (b : ℕ) (r s : Fin 512) :
    scores (F := Ideal) (k0_pay71 y.k) (qblk y.qt b) (ix2 r s) = ((∑ d, x.k (qi j r) d * x.q d (qi b s) : ℝ) : EReal) := by
  rw [scores_apply, coe_sum']
  refine Finset.sum_congr rfl fun d _ => ?_
  rw [pay71_apply, qblk_apply, hy.k, hy.qt, EReal.coe_mul]

theorem full_done (hy : Reads x j y) {b : ℕ} (hb : b < 16) (hj : j < b) (h : Done x g j b a) : Done x g j (b + 1) (full y b a) := by
  refine stepAt_done hy hb h _ fun r s => ?_
  rw [weights_apply, score_coe hy, rblk_apply, hy.lse, Head.w, if_pos (Nat.le_of_lt (qi_lt r s hj hb)), ← EReal.coe_sub, Ideal.exp2_coe]

theorem diag_done (hy : Reads x j y) (hj : j < 16) (h : Done x g j j a) : Done x g j (j + 1) (diag y j a) := by
  refine stepAt_done hy hj h _ fun r s => ?_
  rw [weights_apply, masked_apply j hj, score_coe hy, rblk_apply, hy.lse, Head.w]
  have e : (qi j r).val ≤ (qi j s).val ↔ r.val ≤ s.val := by
    show 512 * (j % 16) + r.val ≤ 512 * (j % 16) + s.val ↔ _
    omega
  by_cases hrs : r.val ≤ s.val
  · rw [if_pos hrs, if_pos (e.mpr hrs), ← EReal.coe_sub, Ideal.exp2_coe]
  · rw [if_neg hrs, if_neg (fun h' => hrs (e.mp h')), EReal.bot_sub, Ideal.exp2_bot, EReal.coe_zero]

theorem fulls_done (hy : Reads x j y) {b : ℕ} (hj : j < b) : ∀ n, b + 2 * n ≤ 16 → Done x g j b a → Done x g j (b + 2 * n) (fulls y b n a)
  | 0, _, h => h
  | n + 1, hn, h => full_done hy (b := b + 2 * n + 1) (by omega) (by omega)
      (full_done hy (b := b + 2 * n) (by omega) (by omega) (fulls_done hy hj n (by omega) h))

theorem start_done (hj : j < 16) (dq : Vec Ideal S1x192x8192 .f32) (hq : ∀ d i, dq (ix3 0 d i) = ((g d i : ℝ) : EReal)) :
    Done x g j j (start dq) := by
  constructor
  · intro d b s hb
    show dq (ix3 0 d (qi b s)) = _
    rw [hq]
    by_cases hbj : b < j
    · rw [if_pos hbj, Finset.sum_eq_zero (fun r _ => by rw [x.ds_late (qi_lt s r hbj hj), mul_zero]), add_zero]
    · rw [if_neg hbj, add_zero]
  · intro d r
    show k0_pay69 (F := Ideal) (ix3 0 d r) = _
    rw [Finset.sum_eq_zero (fun b hb => Finset.sum_eq_zero fun s _ => by
      rw [x.ds_late (qi_lt s r (Finset.mem_range.mp hb) hj), mul_zero]), EReal.coe_zero]
    pointwise [k0_pay69]
  · intro e r
    show k0_pay70 (F := Ideal) (ix3 0 e r) = _
    rw [Finset.sum_eq_zero (fun b hb => Finset.sum_eq_zero fun s _ => by
      rw [x.w_late (qi_lt s r (Finset.mem_range.mp hb) hj), mul_zero]), EReal.coe_zero]
    pointwise [k0_pay70]

/-- A whole point. -/
theorem work_done (hy : Reads x j y) (hj : j < 16) (dq : Vec Ideal S1x192x8192 .f32) (hq : ∀ d i, dq (ix3 0 d i) = ((g d i : ℝ) : EReal)) :
    Done x g j 16 (work y j dq) := by
  have h0 := diag_done (g := g) hy hj (start_done (x := x) hj dq hq)
  unfold work
  by_cases h : (15 - j) % 2 = 1
  · rw [if_pos h]
    have := fulls_done hy (b := base j) (by unfold base; omega) ((15 - j) / 2) (by unfold base; omega)
      (by have := full_done hy (b := j + 1) (by omega) (by omega) h0
          have e : base j = j + 1 + 1 := by unfold base; omega
          rw [e]; exact this)
    have e : base j + 2 * ((15 - j) / 2) = 16 := by unfold base; omega
    rw [e] at this; exact this
  · rw [if_neg h]
    have := fulls_done hy (b := base j) (by unfold base; omega) ((15 - j) / 2) (by unfold base; omega)
      (by have e : base j = j + 1 := by unfold base; omega
          rw [e]; exact h0)
    have e : base j + 2 * ((15 - j) / 2) = 16 := by unfold base; omega
    rw [e] at this; exact this

end Cert.KernelIdeal.Bwd

end
-- ==== Proof.Spec.lean ====
/-
  The gradient of causal attention over the real numbers, the way the kernel takes it: from each row's log-sum.
-/
module

public import proofs.«01_k».proof.Proof.Block

@[expose] public section

set_option maxRecDepth 16384

noncomputable section

namespace Cert.KernelIdeal.Bwd

open Idealize.ShloMosaic Idealize.ShloMosaic.Pointwise

/-- The arguments as real numbers (position, head, feature), and the scores' scale. -/
structure Args where
  q : Fin 8192 → Fin 8 → Fin 192 → ℝ
  k : Fin 8192 → Fin 8 → Fin 192 → ℝ
  v : Fin 8192 → Fin 8 → Fin 128 → ℝ
  o : Fin 8192 → Fin 8 → Fin 128 → ℝ
  sc : ℝ

namespace Args

variable (x : Args) (h : Fin 8)

/-- The score of key `k` for query `i`, -/
def score (i k : Fin 8192) : ℝ := (∑ d, x.q i h d * x.k k h d) * x.sc
/-- the row's greatest, -/
def top (i : Fin 8192) : ℝ := (Finset.univ.fold max ⊥ fun k : Fin 8192 => if k.val ≤ i.val then ((x.score h i k : ℝ) : EReal) else ⊥).toReal
/-- its exponential, none for a later key, -/
def ex (i k : Fin 8192) : ℝ := if k.val ≤ i.val then Real.exp (x.score h i k - x.top h i) else 0
/-- a row's sum, -/
def total (i : Fin 8192) : ℝ := ∑ k, x.ex h i k
/-- the weight. -/
def wt (i k : Fin 8192) : ℝ := x.ex h i k / x.total h i
/-- The gradient of the weight, -/
def dwt (i k : Fin 8192) : ℝ := ∑ e, x.o i h e * x.v k h e
/-- a row's product, -/
def row (i : Fin 8192) : ℝ := ∑ e, x.o i h e * ∑ k, x.v k h e * x.wt h i k
/-- the gradient of the score. -/
def dsc (i k : Fin 8192) : ℝ := x.wt h i k * (x.dwt h i k - x.row h i)
/-- A row's log-sum in base two. -/
def lse (i : Fin 8192) : ℝ := (x.top h i + Real.log (x.total h i)) / Real.log 2

theorem ex_nonneg (i k : Fin 8192) : 0 ≤ x.ex h i k := by
  unfold ex; split
  · exact (Real.exp_pos _).le
  · exact le_refl _

theorem total_pos (i : Fin 8192) : 0 < x.total h i := by
  have h1 : x.ex h i i ≤ x.total h i := Finset.single_le_sum (f := fun k => x.ex h i k) (fun k _ => x.ex_nonneg h i k) (Finset.mem_univ i)
  have h2 : 0 < x.ex h i i := by unfold ex; rw [if_pos (Nat.le_refl _)]; exact Real.exp_pos _
  exact lt_of_lt_of_le h2 h1

theorem log_two_pos : 0 < Real.log 2 := Real.log_pos (by norm_num)

/-- The row's product is the sum of the weights times their gradients. -/
theorem row_eq (i : Fin 8192) : x.row h i = ∑ k, x.dwt h i k * x.wt h i k := by
  unfold row dwt
  simp only [Finset.mul_sum, Finset.sum_mul]
  rw [Finset.sum_comm]
  exact Finset.sum_congr rfl fun k _ => Finset.sum_congr rfl fun e _ => by ring

/-- What one head's grid points read. -/
def head : Head where
  q d i := x.q i h d * x.sc / Real.log 2
  k k d := x.k k h d
  v k e := x.v k h e
  o e i := x.o i h e
  lse i := x.lse h i
  del i := x.row h i

theorem head_w (i k : Fin 8192) : (x.head h).w i k = x.wt h i k := by
  unfold Head.w wt ex
  by_cases hk : k.val ≤ i.val
  · rw [if_pos hk, if_pos hk]
    have hL := x.total_pos h i
    have h2 := log_two_pos
    show (2 : ℝ) ^ ((∑ d, x.k k h d * (x.q i h d * x.sc / Real.log 2)) - x.lse h i) = _
    rw [Real.rpow_def_of_pos (by norm_num : (0 : ℝ) < 2)]
    have e : Real.log 2 * ((∑ d, x.k k h d * (x.q i h d * x.sc / Real.log 2)) - x.lse h i)
        = (x.score h i k - x.top h i) - Real.log (x.total h i) := by
      have e1 : (∑ d, x.k k h d * (x.q i h d * x.sc / Real.log 2)) = x.score h i k / Real.log 2 := by
        unfold score
        rw [Finset.sum_mul, Finset.sum_div]
        exact Finset.sum_congr rfl fun d _ => by ring
      rw [e1]; unfold lse
      field_simp
      ring
    rw [e, Real.exp_sub, Real.exp_log hL]
  · rw [if_neg hk, if_neg hk, zero_div]

theorem head_ds (i k : Fin 8192) : (x.head h).ds i k = x.dsc h i k := by
  unfold Head.ds dsc
  rw [head_w]
  congr 2
  exact Finset.sum_congr rfl fun e _ => mul_comm _ _

/-- The first result: the gradient of `q` over the scale, -/
def outQ (d : Fin 192) (i : Fin 8192) : ℝ := ∑ k, x.k k h d * x.dsc h i k
/-- the second: that of `k` over the logarithm of two, -/
def outK (d : Fin 192) (k : Fin 8192) : ℝ := ∑ i, (x.q i h d * x.sc / Real.log 2) * x.dsc h i k
/-- the third: that of `v`. -/
def outV (e : Fin 128) (k : Fin 8192) : ℝ := ∑ i, x.o i h e * x.wt h i k

/-- The gradient of the score as the reference writes it. -/
theorem dsc_ref (i k : Fin 8192) :
    (x.dwt h i k / x.total h i + -(∑ k', x.dwt h i k' * (1 / (x.total h i * x.total h i)) * x.ex h i k')) * x.ex h i k = x.dsc h i k := by
  have hL := (x.total_pos h i).ne'
  have e : (∑ k', x.dwt h i k' * (1 / (x.total h i * x.total h i)) * x.ex h i k') = x.row h i / x.total h i := by
    rw [row_eq, Finset.sum_div]
    refine Finset.sum_congr rfl fun k' _ => ?_
    unfold wt; field_simp
  rw [e]; unfold dsc wt
  field_simp
  ring

end Args

/-- A sum over all positions, block by block. -/
theorem sum_blocks (f : Fin 8192 → ℝ) : ∑ b ∈ Finset.range 16, ∑ s, f (qi b s) = ∑ i, f i := by
  rw [Finset.sum_range, Fin.sum_univ_tiles 16 512 rfl f]
  refine Finset.sum_congr rfl fun b _ => Finset.sum_congr rfl fun s _ => congrArg f (Fin.ext ?_)
  have := b.isLt
  show 512 * (b.val % 16) + s.val = b.val * 512 + s.val
  omega

end Cert.KernelIdeal.Bwd

end
-- ==== Proof.Consts.lean ====
/-
  The constants of both programs as extended reals, and the greatest of a row.
-/
module

public import proofs.«01_k».proof.Proof.Spec

@[expose] public section

set_option maxRecDepth 16384

noncomputable section

namespace Cert.KernelIdeal.Bwd

open Idealize.ShloMosaic Idealize.ShloMosaic.Pointwise

/-- The scores' scale: the number the constant of both programs is. -/
def scale : ℝ := 9686330 * (2 : ℝ) ^ (-27 : ℤ)

theorem scale_ne : scale ≠ 0 := by unfold scale; positivity

theorem scale_word : Ideal.ofBits .f32 0x3D93CD3A#32 = ((scale : ℝ) : EReal) := by
  unfold scale
  simp [Ideal.ofBits, Ideal.ieee, -EReal.coe_mul]

theorem two_word : Ideal.ofBits .f32 0x40000000#32 = ((2 : ℝ) : EReal) := by
  simp [Ideal.ofBits, Ideal.ieee, -EReal.coe_mul]
  norm_num

theorem neg_inf_word : Ideal.ofBits .f32 0xFF800000#32 = ⊥ := by
  simp [Ideal.ofBits, Ideal.ieee]

theorem pos_inf_word : Ideal.ofBits .f32 0x7F800000#32 = ⊤ := by
  simp [Ideal.ofBits, Ideal.ieee]

/-- The greatest of a row with no infinite entry above and some entry above minus infinity is a real number. -/
theorem fold_max_real {n : ℕ} (f : Fin n → EReal) (ht : ∀ k, f k ≠ ⊤) (i : Fin n) (hi : f i ≠ ⊥) :
    ((Finset.univ.fold max ⊥ f).toReal : EReal) = Finset.univ.fold max ⊥ f := by
  have h1 : Finset.univ.fold max ⊥ f < ⊤ := (Finset.fold_max_lt ⊤).mpr ⟨bot_lt_top, fun k _ => lt_top_iff_ne_top.mpr (ht k)⟩
  have h2 : f i ≤ Finset.univ.fold max ⊥ f := (Finset.le_fold_max (f i)).mpr (Or.inr ⟨i, Finset.mem_univ i, le_refl _⟩)
  exact EReal.coe_toReal h1.ne (lt_of_lt_of_le (bot_lt_iff_ne_bot.mpr hi) h2).ne'

theorem Args.top_coe (x : Args) (h : Fin 8) (i : Fin 8192) :
    ((x.top h i : ℝ) : EReal) = Finset.univ.fold max ⊥ fun k : Fin 8192 => if k.val ≤ i.val then ((x.score h i k : ℝ) : EReal) else ⊥ := by
  refine fold_max_real _ (fun k => ?_) i ?_
  · by_cases hk : k.val ≤ i.val
    · rw [if_pos hk]; exact EReal.coe_ne_top _
    · rw [if_neg hk]; exact bot_ne_top
  · rw [if_pos (Nat.le_refl _)]; exact EReal.coe_ne_bot _

/-- What the programs' arguments are, over the reals. -/
structure IsReal (x : Args) (x0 x1 : Shape.Idx ⟨3, ![8192, 8, 192]⟩ → EReal) (x2 x3 : Shape.Idx ⟨3, ![8192, 8, 128]⟩ → EReal) : Prop where
  q : ∀ i h d, x0 (ix3 i h d) = ((x.q i h d : ℝ) : EReal)
  k : ∀ i h d, x1 (ix3 i h d) = ((x.k i h d : ℝ) : EReal)
  v : ∀ i h e, x2 (ix3 i h e) = ((x.v i h e : ℝ) : EReal)
  o : ∀ i h e, x3 (ix3 i h e) = ((x.o i h e : ℝ) : EReal)
  sc : x.sc = scale

/-- Division of real numbers, as extended reals. -/
theorem div_real (x : ℝ) {y : ℝ} (hy : y ≠ 0) : Ideal.div (x : EReal) (y : EReal) = ((x / y : ℝ) : EReal) := by
  rw [Ideal.div, if_neg (fun e => hy (EReal.coe_eq_zero.mp e)), ← EReal.coe_inv, ← EReal.coe_mul, div_eq_mul_inv]

/-- The logarithm of a positive number. -/
theorem log_real {x : ℝ} (hx : 0 < x) : Ideal.log (x : EReal) = ((Real.log x : ℝ) : EReal) := if_neg (not_le.mpr hx)

/-- Numbers below 2 ^ 31 compare as words the way they do. -/
theorem word_le {a b : ℕ} (ha : a < 8192) (hb : b < 8192) : (BitVec.ofNat 32 a).toInt ≤ (BitVec.ofNat 32 b).toInt ↔ a ≤ b := by
  have e : ∀ c : ℕ, c < 8192 → (BitVec.ofNat 32 c).toInt = (c : ℤ) := by
    intro c hc
    have h1 : (BitVec.ofNat 32 c).toNat = c := by rw [BitVec.toNat_ofNat]; omega
    rw [BitVec.toInt_eq_toNat_of_lt (by rw [h1]; omega), h1]
  rw [e a ha, e b hb]; omega

end Cert.KernelIdeal.Bwd

end
-- ==== Proof.Host.lean ====
/-
  What the host operations before the kernel's call leave in the arrays it reads, over finite arguments, as real numbers.
-/
module

public import proofs.«01_k».proof.Proof.Consts
public import proofs.«01_k».proof.Proof.Gen.KernelIdeal.Frame
public import Idealize.ShloMosaic.Lib.StableHlo.RunRead

@[expose] public section

set_option maxRecDepth 16384

noncomputable section

namespace Cert.KernelIdeal.Bwd

open Idealize.ShloMosaic Idealize.ShloMosaic.TcCoe Idealize.ShloMosaic.Pointwise Cert.KernelIdeal.Gen Cert.KernelIdeal

abbrev Arr (s : Shape) (φ : EltTy) := (⟨s, φ⟩ : BufTy).Contents (Elt Ideal)

/-- The causal mask. -/
def hMask : Arr S1x8192x8192 .i1 :=
  broadcastInDim S1x8192x8192 ![1, 2] bcast_S8192x8192_S1x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The scaled scores. -/
def hDot (x0 x1 : Arr S8192x8x192 .f32) : Arr S8x8192x8192 .f32 :=
  mulf (F := Ideal) (φ := .f32) (Host.dotGeneral (F := Ideal) (φ₁ := .f32) (φ₂ := .f32) dot_S8192x8x192_S8192x8x192_S8x8192x8192_2_2_0_0_1_1 none x0 x1)
    (broadcastInDim S8x8192x8192 ![] bcast_S_S8x8192x8192 (constant (F := Ideal) S_ .f32 0x3D93CD3A#32))

/-- The masked scores. -/
def hScore (x0 x1 : Arr S8192x8x192 .f32) : Arr S8x8192x8192 .f32 :=
  select (broadcastInDim S8x8192x8192 ![0, 1, 2] bcast_S1x8192x8192_S8x8192x8192_0_1_2 hMask) (hDot x0 x1)
    (broadcastInDim S8x8192x8192 ![] bcast_S_S8x8192x8192 (id (constant (F := Ideal) S_ .f32 0xFF800000#32)))

/-- Each row's greatest score. -/
def hTop (x0 x1 : Arr S8192x8x192 .f32) : Arr S8x8192x1 .f32 :=
  broadcastInDim S8x8192x1 ![0, 1] bcast_S8x8192_S8x8192x1_0_1
    (Host.reduce (FloatOps.maximumf (F := Ideal) (φ := .f32)) (hScore x0 x1) (constant (F := Ideal) S_ .f32 0xFF800000#32) reducesTo_S8x8192x8192_S8x8192_d2 h_S_)

/-- The exponentials. -/
def hExp (x0 x1 : Arr S8192x8x192 .f32) : Arr S8x8192x8192 .f32 :=
  Host.exp (F := Ideal) (φ := .f32) (subf (F := Ideal) (φ := .f32) (hScore x0 x1) (broadcastInDim S8x8192x8192 ![0, 1, 2] bcast_S8x8192x1_S8x8192x8192_0_1_2 (hTop x0 x1)))

/-- Their sums. -/
def hTot (x0 x1 : Arr S8192x8x192 .f32) : Arr S8x8192x1 .f32 :=
  broadcastInDim S8x8192x1 ![0, 1] bcast_S8x8192_S8x8192x1_0_1
    (Host.reduceAdd (F := Ideal) (hExp x0 x1) (constant (F := Ideal) S_ .f32 0x00000000#32) reducesTo_S8x8192x8192_S8x8192_d2 h_S_)

/-- The rows' log-sums to the base two, before their relabelling, of the rows' greatest scores and sums. -/
def hLog (A B : Arr S8x8192x1 .f32) : Arr S8x8192x1 .f32 :=
  Host.divf (F := Ideal) (φ := .f32) (addf (F := Ideal) (φ := .f32) A (Host.log (F := Ideal) (φ := .f32) B))
    (broadcastInDim S8x8192x1 ![] bcast_S_S8x8192x1 (Host.log (F := Ideal) (φ := .f32) (constant (F := Ideal) S_ .f32 0x40000000#32)))

/-- The forward's output. -/
def hOut (x0 x1 : Arr S8192x8x192 .f32) (x2 : Arr S8192x8x128 .f32) : Arr S8x128x8192 .f32 :=
  Host.dotGeneral (F := Ideal) (φ₁ := .f32) (φ₂ := .f32) dot_S8192x8x128_S8x8192x8192_S8x128x8192_0_2_2_1_1_0 none x2
    (Host.divf (F := Ideal) (φ := .f32) (hExp x0 x1) (broadcastInDim S8x8192x8192 ![0, 1, 2] bcast_S8x8192x1_S8x8192x8192_0_1_2 (hTot x0 x1)))

/-- The rows' products of output and incoming gradient. -/
def hDel (x0 x1 : Arr S8192x8x192 .f32) (x2 x3 : Arr S8192x8x128 .f32) : Arr S8x1x8192 .f32 :=
  broadcastInDim S8x1x8192 ![0, 2] bcast_S8x8192_S8x1x8192_0_2
    (transpose S8x8192 [1, 0] (Host.reduceAdd (F := Ideal)
      (mulf (F := Ideal) (φ := .f32) x3 (transpose S8192x8x128 [2, 0, 1] (hOut x0 x1 x2) transposes_S8x128x8192_S8192x8x128_2_0_1))
      (constant (F := Ideal) S_ .f32 0x00000000#32) reducesTo_S8192x8x128_S8192x8_d2 h_S_) transposes_S8192x8_S8x8192_1_0)

/-- The scaled queries. -/
def hQ (x0 : Arr S8192x8x192 .f32) : Arr S8x192x8192 .f32 :=
  transpose S8x192x8192 [1, 2, 0]
    (Host.divf (F := Ideal) (φ := .f32) (mulf (F := Ideal) (φ := .f32) x0 (broadcastInDim S8192x8x192 ![] bcast_S_S8192x8x192 (constant (F := Ideal) S_ .f32 0x3D93CD3A#32)))
      (broadcastInDim S8192x8x192 ![] bcast_S_S8192x8x192 (Host.log (F := Ideal) (φ := .f32) (constant (F := Ideal) S_ .f32 0x40000000#32))))
    transposes_S8192x8x192_S8x192x8192_1_2_0

variable {a : Args} {x0 x1 : Arr S8192x8x192 .f32} {x2 x3 : Arr S8192x8x128 .f32} (hx : IsReal a x0 x1 x2 x3) (h : Fin 8)

theorem hLog_at (A B : Arr S8x8192x1 .f32) (i : Fin 8192) (z : Fin 1) :
    hLog A B (ix3 h i z) = Ideal.div (A (ix3 h i z) + Ideal.log (B (ix3 h i z))) (Ideal.log (Ideal.ofBits .f32 0x40000000#32)) := rfl

theorem hMask_at (z : Fin 1) (i k : Fin 8192) : hMask (ix3 z i k) = BitVec.ofBool (decide (k.val ≤ i.val)) := by
  pointwise [hMask]
  show BitVec.ofBool (decide ((BitVec.ofNat 32 k.val).toInt ≤ (BitVec.ofNat 32 i.val).toInt)) = _
  simp only [word_le k.isLt i.isLt]

include hx

theorem hDot_at (i k : Fin 8192) : hDot x0 x1 (ix3 h i k) = ((a.score h i k : ℝ) : EReal) := by
  pointwise [hDot]
  rw [scale_word, Args.score, hx.sc, EReal.coe_mul, coe_sum']
  congr 1
  exact Finset.sum_congr rfl fun d _ => by rw [hx.q, hx.k, EReal.coe_mul]

theorem hScore_at (i k : Fin 8192) : hScore x0 x1 (ix3 h i k) = if k.val ≤ i.val then ((a.score h i k : ℝ) : EReal) else ⊥ := by
  pointwise [hScore]
  rw [hMask_at, hDot_at hx]
  by_cases hk : k.val ≤ i.val
  · rw [if_pos hk, decide_eq_true hk]; rfl
  · rw [if_neg hk, decide_eq_false hk]
    show Ideal.ofBits .f32 0xFF800000#32 = ⊥
    exact neg_inf_word

theorem hTop_at (i : Fin 8192) (z : Fin 1) : hTop x0 x1 (ix3 h i z) = ((a.top h i : ℝ) : EReal) := by
  rw [Args.top_coe]
  pointwise [hTop]
  rw [neg_inf_word]
  congr 1
  funext k
  exact hScore_at hx h i k

theorem hExp_at (i k : Fin 8192) : hExp x0 x1 (ix3 h i k) = ((a.ex h i k : ℝ) : EReal) := by
  pointwise [hExp]
  rw [hScore_at hx, hTop_at hx]
  unfold Args.ex
  by_cases hk : k.val ≤ i.val
  · rw [if_pos hk, if_pos hk]
    show Ideal.exp (((a.score h i k : ℝ) : EReal) - ((a.top h i : ℝ) : EReal)) = _
    rw [← EReal.coe_sub]; rfl
  · rw [if_neg hk, if_neg hk]
    show Ideal.exp (⊥ - ((a.top h i : ℝ) : EReal)) = _
    rw [EReal.bot_sub]; rfl

theorem hTot_at (i : Fin 8192) (z : Fin 1) : hTot x0 x1 (ix3 h i z) = ((a.total h i : ℝ) : EReal) := by
  pointwise [hTot]
  rw [Args.total, coe_sum']
  exact Finset.sum_congr rfl fun k _ => hExp_at hx h i k

theorem hLse_at (i : Fin 8192) (z : Fin 1) : hLog (hTop x0 x1) (hTot x0 x1) (ix3 h i z) = ((a.lse h i : ℝ) : EReal) := by
  have f1 : Ideal.log (Ideal.ofBits .f32 0x40000000#32) = ((Real.log 2 : ℝ) : EReal) := by
    rw [two_word]; exact log_real two_pos
  have f2 : Ideal.log ((a.total h i : ℝ) : EReal) = ((Real.log (a.total h i) : ℝ) : EReal) := log_real (a.total_pos h i)
  rw [hLog_at, hTop_at hx, hTot_at hx, f1, f2, ← EReal.coe_add]
  exact div_real _ Args.log_two_pos.ne'

theorem hOut_at (e : Fin 128) (i : Fin 8192) : hOut x0 x1 x2 (ix3 h e i) = ((∑ k, a.v k h e * a.wt h i k : ℝ) : EReal) := by
  pointwise [hOut]
  rw [coe_sum']
  refine Finset.sum_congr rfl fun k _ => ?_
  rw [hExp_at hx, hTot_at hx, div_real _ (a.total_pos h i).ne', hx.v, ← EReal.coe_mul]; rfl

theorem hDel_at (i : Fin 8192) (z : Fin 1) : hDel x0 x1 x2 x3 (ix3 h z i) = ((a.row h i : ℝ) : EReal) := by
  pointwise [hDel]
  rw [Args.row, coe_sum']
  exact Finset.sum_congr rfl fun e _ => by rw [hOut_at hx, hx.o, EReal.coe_mul]

theorem hQ_at (d : Fin 192) (i : Fin 8192) : hQ x0 (ix3 h d i) = ((a.q i h d * a.sc / Real.log 2 : ℝ) : EReal) := by
  pointwise [hQ]
  rw [hx.q, two_word, log_real two_pos, scale_word, ← EReal.coe_mul, div_real _ Args.log_two_pos.ne', hx.sc]
end Cert.KernelIdeal.Bwd

end
-- ==== Proof.Entry.lean ====
/-
  The arrays the kernel's call finds, as the terms of the host operations before it.
-/
module

public import proofs.«01_k».proof.Proof.Host
public import Idealize.ShloMosaic.Lib.StableHlo.RunRead

@[expose] public section

set_option maxRecDepth 16384

noncomputable section

namespace Cert.KernelIdeal.Bwd

open Idealize.ShloMosaic Idealize.ShloMosaic.TcCoe Idealize.ShloMosaic.Pointwise Cert.KernelIdeal.Gen Cert.KernelIdeal

variable (m : (ℓ : Loc nD τ sig) → Buf (Elt Ideal) ℓ) (c : Dev nD)

theorem V_v38 : V m c main_v38 = truncf (F := Ideal) (φ := .f32) .bf16 (hQ (m ((c : Thread nD τ).loc main_arg0))) bitsLt_bf16_f32 := by
  dsimp only [V]
  after_reads_simp
  try simp -implicitDefEqProofs only [StableHlo.TRef.toBuf, StableHlo.TRef.ofBuf, cast_cast, cast_eq]
  try simp only [hQ, hDel, hOut, hLog, hTot, hExp, hTop, hScore, hDot, hMask]

theorem V_v40 : V m c main_v40 = truncf (F := Ideal) (φ := .f32) .bf16 (transpose S8x8192x192 [1, 0, 2] (m ((c : Thread nD τ).loc main_arg1)) transposes_S8192x8x192_S8x8192x192_1_0_2) bitsLt_bf16_f32 := by
  dsimp only [V]
  after_reads_simp
  try simp -implicitDefEqProofs only [StableHlo.TRef.toBuf, StableHlo.TRef.ofBuf, cast_cast, cast_eq]
  try simp only [hQ, hDel, hOut, hLog, hTot, hExp, hTop, hScore, hDot, hMask]

theorem V_v42 : V m c main_v42 = truncf (F := Ideal) (φ := .f32) .bf16 (transpose S8x192x8192 [1, 2, 0] (m ((c : Thread nD τ).loc main_arg1)) transposes_S8192x8x192_S8x192x8192_1_2_0) bitsLt_bf16_f32 := by
  dsimp only [V]
  after_reads_simp
  try simp -implicitDefEqProofs only [StableHlo.TRef.toBuf, StableHlo.TRef.ofBuf, cast_cast, cast_eq]
  try simp only [hQ, hDel, hOut, hLog, hTot, hExp, hTop, hScore, hDot, hMask]

theorem V_v44 : V m c main_v44 = truncf (F := Ideal) (φ := .f32) .bf16 (transpose S8x8192x128 [1, 0, 2] (m ((c : Thread nD τ).loc main_arg2)) transposes_S8192x8x128_S8x8192x128_1_0_2) bitsLt_bf16_f32 := by
  dsimp only [V]
  after_reads_simp
  try simp -implicitDefEqProofs only [StableHlo.TRef.toBuf, StableHlo.TRef.ofBuf, cast_cast, cast_eq]
  try simp only [hQ, hDel, hOut, hLog, hTot, hExp, hTop, hScore, hDot, hMask]

theorem V_v46 : V m c main_v46 = truncf (F := Ideal) (φ := .f32) .bf16 (transpose S8x128x8192 [1, 2, 0] (m ((c : Thread nD τ).loc main_arg3)) transposes_S8192x8x128_S8x128x8192_1_2_0) bitsLt_bf16_f32 := by
  dsimp only [V]
  after_reads_simp
  try simp -implicitDefEqProofs only [StableHlo.TRef.toBuf, StableHlo.TRef.ofBuf, cast_cast, cast_eq]
  try simp only [hQ, hDel, hOut, hLog, hTot, hExp, hTop, hScore, hDot, hMask]

theorem V_v22 : V m c main_v22 = hLog (hTop (m ((c : Thread nD τ).loc main_arg0)) (m ((c : Thread nD τ).loc main_arg1))) (hTot (m ((c : Thread nD τ).loc main_arg0)) (m ((c : Thread nD τ).loc main_arg1))) := by
  dsimp only [V]
  after_reads_simp
  try simp -implicitDefEqProofs only [StableHlo.TRef.toBuf, StableHlo.TRef.ofBuf, cast_cast, cast_eq]
  try simp only [hQ, hDel, hOut, hLog, hTot, hExp, hTop, hScore, hDot, hMask]

theorem V_v23_v22 : V m c main_v23 = shapeCast S8x1x8192 (V m c main_v22) shapeCasts_S8x8192x1_S8x1x8192 := by
  dsimp only [V]
  after_reads_simp
  try rfl

theorem V_v23 : V m c main_v23 = shapeCast S8x1x8192 (hLog (hTop (m ((c : Thread nD τ).loc main_arg0)) (m ((c : Thread nD τ).loc main_arg1))) (hTot (m ((c : Thread nD τ).loc main_arg0)) (m ((c : Thread nD τ).loc main_arg1)))) shapeCasts_S8x8192x1_S8x1x8192 := by
  rw [V_v23_v22, V_v22]

theorem V_v31 : V m c main_v31 = hDel (m ((c : Thread nD τ).loc main_arg0)) (m ((c : Thread nD τ).loc main_arg1)) (m ((c : Thread nD τ).loc main_arg2)) (m ((c : Thread nD τ).loc main_arg3)) := by
  dsimp only [V]
  after_reads_simp
  try simp -implicitDefEqProofs only [StableHlo.TRef.toBuf, StableHlo.TRef.ofBuf, cast_cast, cast_eq]
  try simp only [hQ, hDel, hOut, hLog, hTot, hExp, hTop, hScore, hDot, hMask]

variable {a : Args} (hx : IsReal a (m ((c : Thread nD τ).loc main_arg0)) (m ((c : Thread nD τ).loc main_arg1)) (m ((c : Thread nD τ).loc main_arg2)) (m ((c : Thread nD τ).loc main_arg3)))
include hx

theorem v38_at (h : Fin 8) (d : Fin 192) (i : Fin 8192) : V m c main_v38 (ix3 h d i) = (((a.head h).q d i : ℝ) : EReal) := by
  rw [V_v38]
  exact hQ_at hx h d i

theorem v40_at (h : Fin 8) (k : Fin 8192) (d : Fin 192) : V m c main_v40 (ix3 h k d) = (((a.head h).k k d : ℝ) : EReal) := by
  rw [V_v40]
  pointwise
  exact hx.k k h d

theorem v42_at (h : Fin 8) (d : Fin 192) (k : Fin 8192) : V m c main_v42 (ix3 h d k) = (((a.head h).k k d : ℝ) : EReal) := by
  rw [V_v42]
  pointwise
  exact hx.k k h d

theorem v44_at (h : Fin 8) (k : Fin 8192) (e : Fin 128) : V m c main_v44 (ix3 h k e) = (((a.head h).v k e : ℝ) : EReal) := by
  rw [V_v44]
  pointwise
  exact hx.v k h e

theorem v46_at (h : Fin 8) (e : Fin 128) (i : Fin 8192) : V m c main_v46 (ix3 h e i) = (((a.head h).o e i : ℝ) : EReal) := by
  rw [V_v46]
  pointwise
  exact hx.o i h e

theorem v23_at (h : Fin 8) (z : Fin 1) (i : Fin 8192) : V m c main_v23 (ix3 h z i) = (((a.head h).lse i : ℝ) : EReal) := by
  rw [V_v23]
  refine Eq.trans ?_ (hLse_at hx h i 0)
  generalize hLog (hTop (m ((c : Thread nD τ).loc main_arg0)) (m ((c : Thread nD τ).loc main_arg1))) (hTot (m ((c : Thread nD τ).loc main_arg0)) (m ((c : Thread nD τ).loc main_arg1))) = A
  pointwise

theorem v31_at (h : Fin 8) (z : Fin 1) (i : Fin 8192) : V m c main_v31 (ix3 h z i) = (((a.head h).del i : ℝ) : EReal) := by
  rw [V_v31]
  exact hDel_at hx h i z

end Cert.KernelIdeal.Bwd

end
-- ==== Proof.Grid.lean ====
/-
  The accumulators along the grid, over finite arguments, as real numbers.
-/
module

public import proofs.«01_k».proof.Proof.Entry
public import proofs.«01_k».proof.Proof.Main
public import Idealize.ShloMosaic.Lib.Pipeline.ValueKit.Geometry

@[expose] public section

set_option maxRecDepth 16384

noncomputable section

namespace Cert.KernelIdeal.Bwd

open Idealize.ShloMosaic Idealize.ShloMosaic.TcCoe Idealize.ShloMosaic.Pointwise Cert.KernelIdeal.Gen Cert.KernelIdeal

theorem index0 : ∀ t : Fin cfg0.N, win0_0.index t = ![t.val / 16, 0, 0] := (by decide +kernel : ∀ t : Fin grid0.N, _)
theorem index1 : ∀ t : Fin cfg0.N, win0_1.index t = ![t.val / 16, t.val % 16, 0] := (by decide +kernel : ∀ t : Fin grid0.N, _)
theorem index2 : ∀ t : Fin cfg0.N, win0_2.index t = ![t.val / 16, 0, t.val % 16] := (by decide +kernel : ∀ t : Fin grid0.N, _)
theorem index3 : ∀ t : Fin cfg0.N, win0_3.index t = ![t.val / 16, t.val % 16, 0] := (by decide +kernel : ∀ t : Fin grid0.N, _)
theorem index4 : ∀ t : Fin cfg0.N, win0_4.index t = ![t.val / 16, 0, 0] := (by decide +kernel : ∀ t : Fin grid0.N, _)
theorem index5 : ∀ t : Fin cfg0.N, win0_5.index t = ![t.val / 16, 0, 0] := (by decide +kernel : ∀ t : Fin grid0.N, _)
theorem index6 : ∀ t : Fin cfg0.N, win0_6.index t = ![t.val / 16, 0, 0] := (by decide +kernel : ∀ t : Fin grid0.N, _)
theorem index7 : ∀ t : Fin cfg0.N, win0_7.index t = ![t.val / 16, 0, 0] := (by decide +kernel : ∀ t : Fin grid0.N, _)
theorem index8 : ∀ t : Fin cfg0.N, win0_8.index t = ![t.val / 16, 0, t.val % 16] := (by decide +kernel : ∀ t : Fin grid0.N, _)
theorem index9 : ∀ t : Fin cfg0.N, win0_9.index t = ![t.val / 16, 0, t.val % 16] := (by decide +kernel : ∀ t : Fin grid0.N, _)

/-- A point's head. -/
def hd (t : Fin cfg0.N) : Fin 8 := ⟨t.val / 16, by have h : t.val < 128 := t.isLt; omega⟩

theorem blk0 (A : Arr S8x192x8192 .bf16) (t : Fin cfg0.N) (d : Fin 192) (i : Fin 8192) :
    ((cfg0.win 0).blk t).view.read (Elt Ideal) A (ix3 0 d i) = A (ix3 (hd t) d i) := by
  blk_ext [index0, hd, qi]

theorem blk1 (A : Arr S8x8192x192 .bf16) (t : Fin cfg0.N) (r : Fin 512) (d : Fin 192) :
    ((cfg0.win 1).blk t).view.read (Elt Ideal) A (ix3 0 r d) = A (ix3 (hd t) (qi (t.val % 16) r) d) := by
  blk_ext [index1, hd, qi]

theorem blk2 (A : Arr S8x192x8192 .bf16) (t : Fin cfg0.N) (d : Fin 192) (r : Fin 512) :
    ((cfg0.win 2).blk t).view.read (Elt Ideal) A (ix3 0 d r) = A (ix3 (hd t) d (qi (t.val % 16) r)) := by
  blk_ext [index2, hd, qi]

theorem blk3 (A : Arr S8x8192x128 .bf16) (t : Fin cfg0.N) (r : Fin 512) (e : Fin 128) :
    ((cfg0.win 3).blk t).view.read (Elt Ideal) A (ix3 0 r e) = A (ix3 (hd t) (qi (t.val % 16) r) e) := by
  blk_ext [index3, hd, qi]

theorem blk4 (A : Arr S8x128x8192 .bf16) (t : Fin cfg0.N) (e : Fin 128) (i : Fin 8192) :
    ((cfg0.win 4).blk t).view.read (Elt Ideal) A (ix3 0 e i) = A (ix3 (hd t) e i) := by
  blk_ext [index4, hd, qi]

theorem blk5 (A : Arr S8x1x8192 .f32) (t : Fin cfg0.N) (i : Fin 8192) :
    ((cfg0.win 5).blk t).view.read (Elt Ideal) A (ix3 0 0 i) = A (ix3 (hd t) 0 i) := by
  blk_ext [index5, hd, qi]

theorem blk6 (A : Arr S8x1x8192 .f32) (t : Fin cfg0.N) (i : Fin 8192) :
    ((cfg0.win 6).blk t).view.read (Elt Ideal) A (ix3 0 0 i) = A (ix3 (hd t) 0 i) := by
  blk_ext [index6, hd, qi]

/-- The windows' reads from the arrays. -/
theorem reads_of {x : Head} (t : Fin cfg0.N) (A0 : Arr S8x192x8192 .bf16) (A1 : Arr S8x8192x192 .bf16) (A2 : Arr S8x192x8192 .bf16) (A3 : Arr S8x8192x128 .bf16) (A4 : Arr S8x128x8192 .bf16) (A5 : Arr S8x1x8192 .f32) (A6 : Arr S8x1x8192 .f32)
    (h0 : ∀ d i, A0 (ix3 (hd t) d i) = ((x.q d i : ℝ) : EReal)) (h1 : ∀ k d, A1 (ix3 (hd t) k d) = ((x.k k d : ℝ) : EReal)) (h2 : ∀ d k, A2 (ix3 (hd t) d k) = ((x.k k d : ℝ) : EReal)) (h3 : ∀ k e, A3 (ix3 (hd t) k e) = ((x.v k e : ℝ) : EReal)) (h4 : ∀ e i, A4 (ix3 (hd t) e i) = ((x.o e i : ℝ) : EReal)) (h5 : ∀ z i, A5 (ix3 (hd t) z i) = ((x.lse i : ℝ) : EReal)) (h6 : ∀ z i, A6 (ix3 (hd t) z i) = ((x.del i : ℝ) : EReal)) :
    Reads x (t.val % 16) ⟨((cfg0.win 0).blk t).view.read (Elt Ideal) A0, ((cfg0.win 1).blk t).view.read (Elt Ideal) A1, ((cfg0.win 2).blk t).view.read (Elt Ideal) A2, ((cfg0.win 3).blk t).view.read (Elt Ideal) A3, ((cfg0.win 4).blk t).view.read (Elt Ideal) A4, ((cfg0.win 5).blk t).view.read (Elt Ideal) A5, ((cfg0.win 6).blk t).view.read (Elt Ideal) A6⟩ where
  qt d i := (blk0 A0 t d i).trans (h0 d i)
  k r d := (blk1 A1 t r d).trans (h1 (qi (t.val % 16) r) d)
  kt d r := (blk2 A2 t d r).trans (h2 d (qi (t.val % 16) r))
  v r e := (blk3 A3 t r e).trans (h3 (qi (t.val % 16) r) e)
  dot e i := (blk4 A4 t e i).trans (h4 e i)
  lse i := (blk5 A5 t i).trans (h5 0 i)
  del i := (blk6 A6 t i).trans (h6 0 i)

variable (m : (ℓ : Loc nD τ sig) → Buf (Elt Ideal) ℓ) (c : Dev nD)
variable {a : Args} (hx : IsReal a (m ((c : Thread nD τ).loc main_arg0)) (m ((c : Thread nD τ).loc main_arg1)) (m ((c : Thread nD τ).loc main_arg2)) (m ((c : Thread nD τ).loc main_arg3)))
include hx

theorem reads (t : Fin cfg0.N) : Reads (a.head (hd t)) (t.val % 16) (ins m c t) :=
  reads_of t _ _ _ _ _ _ _ (v38_at m c hx (hd t)) (v40_at m c hx (hd t)) (v42_at m c hx (hd t)) (v44_at m c hx (hd t)) (v46_at m c hx (hd t)) (v23_at m c hx (hd t)) (v31_at m c hx (hd t))

omit hx in
theorem pay68_apply (d : Fin 192) (i : Fin 8192) : k0_pay68 (F := Ideal) (ix3 0 d i) = ((0 : ℝ) : EReal) := by
  pointwise [k0_pay68]
  exact EReal.coe_zero.symm

/-- The queries' gradient from the key blocks below `J`. -/
def part (x : Head) (J : ℕ) (d : Fin 192) (i : Fin 8192) : ℝ := ∑ j ∈ Finset.range J, ∑ r, x.k (qi j r) d * x.ds i (qi j r)

omit hx in
theorem qi_block (i : Fin 8192) : qi (i.val / 512) ⟨i.val % 512, Nat.mod_lt _ (by decide)⟩ = i := by
  apply Fin.ext
  show 512 * (i.val / 512 % 16) + i.val % 512 = i.val
  have := i.isLt
  omega

omit hx in
theorem done_part {x : Head} {j : ℕ} {y : Acc Ideal} (h : Done x (part x j) j 16 y) (d : Fin 192) (i : Fin 8192) :
    y.dq (ix3 0 d i) = ((part x (j + 1) d i : ℝ) : EReal) := by
  have hi := i.isLt
  have hb : i.val / 512 < 16 := by omega
  have e := h.dq d (i.val / 512) ⟨i.val % 512, Nat.mod_lt _ (by decide)⟩ hb
  rw [qi_block, if_pos hb] at e
  rw [e, part, part, Finset.sum_range_succ]

theorem acc_done : ∀ (n : ℕ) (hn : n < cfg0.N), Done (a.head (hd ⟨n, hn⟩)) (part (a.head (hd ⟨n, hn⟩)) (n % 16)) (n % 16) 16 (accAt m c n hn) := by
  intro n
  induction n with
  | zero =>
    intro hn
    rw [accAt, coords_one]
    refine work_done (reads m c hx ⟨0, hn⟩) (Nat.mod_lt _ (by decide)) _ fun d i => ?_
    unfold dqFrom
    rw [if_pos ((cond1_first ⟨0, hn⟩).mpr rfl)]
    exact pay68_apply d i
  | succ n ih =>
    intro hn
    rw [accAt, coords_one]
    refine work_done (reads m c hx ⟨n + 1, hn⟩) (Nat.mod_lt _ (by decide)) _ fun d i => ?_
    unfold dqFrom
    by_cases h0 : (n + 1) % 16 = 0
    · rw [if_pos ((cond1_first ⟨n + 1, hn⟩).mpr h0), h0]
      exact pay68_apply d i
    · rw [if_neg fun hc => h0 ((cond1_first ⟨n + 1, hn⟩).mp hc)]
      have eh : hd ⟨n + 1, hn⟩ = hd ⟨n, Nat.lt_of_succ_lt hn⟩ := by
        apply Fin.ext
        show (n + 1) / 16 = n / 16
        omega
      have ej : (n + 1) % 16 = n % 16 + 1 := by omega
      rw [eh, ej]
      exact done_part (ih (Nat.lt_of_succ_lt hn)) d i

end Cert.KernelIdeal.Bwd

end
-- ==== Proof.Out.lean ====
/-
  The arrays the grid leaves, over finite arguments: the three gradients.
-/
module

public import proofs.«01_k».proof.Proof.Grid

@[expose] public section

set_option maxRecDepth 16384

noncomputable section

namespace Cert.KernelIdeal.Bwd

open Idealize.ShloMosaic Idealize.ShloMosaic.TcCoe Idealize.ShloMosaic.Pointwise Cert.KernelIdeal.Gen Cert.KernelIdeal

/-- The three results as arrays. -/
def arrQ (a : Args) : Arr S8x192x8192 .f32 := fun y => ((a.outQ (y 0) (y 1) (y 2) : ℝ) : EReal)
def arrK (a : Args) : Arr S8x192x8192 .f32 := fun y => ((a.outK (y 0) (y 1) (y 2) : ℝ) : EReal)
def arrV (a : Args) : Arr S8x128x8192 .f32 := fun y => ((a.outV (y 0) (y 1) (y 2) : ℝ) : EReal)

theorem blk7 (A : Arr S8x192x8192 .f32) (t : Fin cfg0.N) (d : Fin 192) (i : Fin 8192) :
    ((cfg0.win 7).blk t).view.read (Elt Ideal) A (ix3 0 d i) = A (ix3 (hd t) d i) := by
  blk_ext [index7, hd, qi]

theorem blk8 (A : Arr S8x192x8192 .f32) (t : Fin cfg0.N) (d : Fin 192) (r : Fin 512) :
    ((cfg0.win 8).blk t).view.read (Elt Ideal) A (ix3 0 d r) = A (ix3 (hd t) d (qi (t.val % 16) r)) := by
  blk_ext [index8, hd, qi]

theorem blk9 (A : Arr S8x128x8192 .f32) (t : Fin cfg0.N) (e : Fin 128) (r : Fin 512) :
    ((cfg0.win 9).blk t).view.read (Elt Ideal) A (ix3 0 e r) = A (ix3 (hd t) e (qi (t.val % 16) r)) := by
  blk_ext [index9, hd, qi]

/-- An index of a block of one head. -/
theorem head_index {n p : ℕ} (y : (⟨3, ![1, n, p]⟩ : Shape).Idx) : ∃ (d : Fin n) (i : Fin p), y = ix3 0 d i :=
  ⟨y 1, y 2, (ix3_eta (n0 := 1) (n1 := n) (n2 := p) y).symm.trans
    (congrArg (fun z : Fin 1 => ix3 (n0 := 1) (n1 := n) (n2 := p) z (y 1) (y 2)) (Subsingleton.elim (α := Fin 1) (y 0) 0))⟩

variable (m : (ℓ : Loc nD τ sig) → Buf (Elt Ideal) ℓ) (c : Dev nD)
variable {a : Args} (hx : IsReal a (m ((c : Thread nD τ).loc main_arg0)) (m ((c : Thread nD τ).loc main_arg1)) (m ((c : Thread nD τ).loc main_arg2)) (m ((c : Thread nD τ).loc main_arg3)))
include hx

theorem dq_last (t : Fin cfg0.N) (h : t.val % 16 = 15) (d : Fin 192) (i : Fin 8192) :
    (accAt m c t.val t.isLt).dq (ix3 0 d i) = ((a.outQ (hd t) d i : ℝ) : EReal) := by
  rw [done_part (acc_done m c hx t.val t.isLt) d i, h]
  congr 1
  show (∑ j ∈ Finset.range 16, ∑ r, (a.head (hd t)).k (qi j r) d * (a.head (hd t)).ds i (qi j r)) = _
  rw [sum_blocks fun k => (a.head (hd t)).k k d * (a.head (hd t)).ds i k]
  exact Finset.sum_congr rfl fun k _ => by rw [Args.head_ds]; rfl

theorem dk_at (t : Fin cfg0.N) (d : Fin 192) (r : Fin 512) :
    (accAt m c t.val t.isLt).dk (ix3 0 d r) = ((a.outK (hd t) d (qi (t.val % 16) r) : ℝ) : EReal) := by
  rw [(acc_done m c hx t.val t.isLt).dk d r]
  congr 1
  rw [sum_blocks fun i => (a.head (hd ⟨t.val, t.isLt⟩)).q d i * (a.head (hd ⟨t.val, t.isLt⟩)).ds i (qi (t.val % 16) r)]
  exact Finset.sum_congr rfl fun k _ => by rw [Args.head_ds]; rfl

theorem dv_at (t : Fin cfg0.N) (e : Fin 128) (r : Fin 512) :
    (accAt m c t.val t.isLt).dv (ix3 0 e r) = ((a.outV (hd t) e (qi (t.val % 16) r) : ℝ) : EReal) := by
  rw [(acc_done m c hx t.val t.isLt).dv e r]
  congr 1
  rw [sum_blocks fun i => (a.head (hd ⟨t.val, t.isLt⟩)).o e i * (a.head (hd ⟨t.val, t.isLt⟩)).w i (qi (t.val % 16) r)]
  exact Finset.sum_congr rfl fun k _ => by rw [Args.head_w]; rfl

theorem final_q : (dats m 0 c).arrAt 7 cfg0.N = arrQ a := by
  refine (dats m 0 c).arrAt_eq_of_covers 7 _ (by decide +kernel) fun t hf y => ?_
  have h15 : t.val % 16 = 15 := (flush0_7 t).mp hf
  blk_simp
  rw [after0_7]
  obtain ⟨d, i, rfl⟩ := head_index y
  exact (dq_last m c hx t h15 d i).trans (blk7 (arrQ a) t d i).symm

theorem final_k : (dats m 0 c).arrAt 8 cfg0.N = arrK a := by
  refine (dats m 0 c).arrAt_eq_of_covers 8 _ (by decide +kernel) fun t hf y => ?_
  blk_simp
  rw [after0_8]
  obtain ⟨d, r, rfl⟩ := head_index y
  exact (dk_at m c hx t d r).trans (blk8 (arrK a) t d r).symm

theorem final_v : (dats m 0 c).arrAt 9 cfg0.N = arrV a := by
  refine (dats m 0 c).arrAt_eq_of_covers 9 _ (by decide +kernel) fun t hf y => ?_
  blk_simp
  rw [after0_9]
  obtain ⟨e, r, rfl⟩ := head_index y
  exact (dv_at m c hx t e r).trans (blk9 (arrV a) t e r).symm

end Cert.KernelIdeal.Bwd

end
-- ==== Proof.RefVal.lean ====
/-
  The reference's buffers over finite arguments, as real numbers.
-/
module

public import proofs.«01_k».proof.Proof.Consts
public import proofs.«01_k».proof.Proof.Ref

@[expose] public section

set_option maxRecDepth 16384

noncomputable section

namespace Cert.ReferenceIdeal.Bwd

open Idealize.ShloMosaic Idealize.ShloMosaic.Pointwise Cert.ReferenceIdeal.Gen Cert.ReferenceIdeal Cert.ReferenceIdeal.Read
open Cert.KernelIdeal.Bwd

abbrev QArr := (⟨S8192x8x192, .f32⟩ : BufTy).Contents (Elt Ideal)
abbrev VArr := (⟨S8192x8x128, .f32⟩ : BufTy).Contents (Elt Ideal)

theorem mask_at (h : Fin 8) (i k : Fin 8192) : val_main_v10_1 (F := Ideal) (ix3 h i k) = BitVec.ofBool (decide (k.val ≤ i.val)) := by
  pointwise [val_main_v10_1, val_main_v9, val_main_v8, val_main_v7, val_main_v6, val_main_v5, val_main_v4, val_main_v3]
  show BitVec.ofBool (decide ((BitVec.ofNat 32 k.val).toInt ≤ (BitVec.ofNat 32 i.val).toInt)) = _
  simp only [word_le k.isLt i.isLt]

/-- A choice by the mask. -/
theorem select_mask {α : Type} (c : Prop) [Decidable c] (x y : α) : Scalar.select (BitVec.ofBool (decide c)) x y = if c then x else y := by
  by_cases h : c
  · rw [if_pos h, decide_eq_true h]; rfl
  · rw [if_neg h, decide_eq_false h]; rfl

variable {a : Args} {x0 x1 : QArr} {x2 x3 : VArr} (hx : IsReal a x0 x1 x2 x3) (h : Fin 8)
include hx

theorem v10_at (i k : Fin 8192) : val_main_v10_0 (F := Ideal) x0 x1 (ix3 h i k) = if k.val ≤ i.val then ((a.score h i k : ℝ) : EReal) else ⊥ := by
  rw [val_main_v10_0_apply, mask_at, select_mask]
  by_cases hk : k.val ≤ i.val
  · rw [if_pos hk, if_pos hk]
    pointwise [val_main_v2, val_main_v1, val_main_cst, val_main_v0]
    rw [scale_word, Args.score, hx.sc, EReal.coe_mul, coe_sum']
    congr 1
    exact Finset.sum_congr rfl fun d _ => by rw [hx.q, hx.k, EReal.coe_mul]
  · rw [if_neg hk, if_neg hk]
    pointwise [val_main_call0_v2, val_main_call0_v0, val_main_cst_0]
    exact neg_inf_word

theorem v11_at (i : Fin 8192) : val_main_v11 (F := Ideal) x0 x1 (ix2 h i) = ((a.top h i : ℝ) : EReal) := by
  rw [Args.top_coe]
  pointwise [val_main_v11, val_main_cst_1]
  rw [neg_inf_word]
  congr 1
  funext k
  exact v10_at hx h i k

theorem v29_at (i k : Fin 8192) : val_main_v29 (F := Ideal) x0 x1 (ix3 h i k) = ((a.top h i : ℝ) : EReal) := by
  pointwise [val_main_v29, val_main_v28]
  rw [val_main_v18_apply]
  pointwise [val_main_v17, val_main_cst_3]
  rw [neg_inf_word, v11_at hx]
  exact max_eq_right bot_le

theorem v31_at (i k : Fin 8192) : val_main_v31 (F := Ideal) x0 x1 (ix3 h i k) = ((a.ex h i k : ℝ) : EReal) := by
  rw [val_main_v31_apply, val_main_v30_apply, v10_at hx, v29_at hx]
  unfold Args.ex
  by_cases hk : k.val ≤ i.val
  · rw [if_pos hk, if_pos hk]
    show Ideal.exp (((a.score h i k : ℝ) : EReal) - ((a.top h i : ℝ) : EReal)) = _
    rw [← EReal.coe_sub]; rfl
  · rw [if_neg hk, if_neg hk]
    show Ideal.exp (⊥ - ((a.top h i : ℝ) : EReal)) = _
    rw [EReal.bot_sub]; rfl

theorem v33_at (i : Fin 8192) (z : Fin 1) : val_main_v33 (F := Ideal) x0 x1 (ix3 h i z) = ((a.total h i : ℝ) : EReal) := by
  pointwise [val_main_v33, val_main_v32, val_main_cst_9]
  rw [Args.total, coe_sum']
  exact Finset.sum_congr rfl fun k _ => v31_at hx h i k

theorem v35_at (i k : Fin 8192) : val_main_v35 (F := Ideal) x0 x1 (ix3 h i k) = ((a.wt h i k : ℝ) : EReal) := by
  rw [val_main_v35_apply, v31_at hx]
  pointwise [val_main_v34]
  rw [v33_at hx, div_real _ (a.total_pos h i).ne']
  rfl

theorem v42_at (i k : Fin 8192) : val_main_v42 (F := Ideal) x2 x3 (ix3 h i k) = ((a.dwt h i k : ℝ) : EReal) := by
  pointwise [val_main_v42, val_main_v41]
  rw [Args.dwt, coe_sum']
  exact Finset.sum_congr rfl fun e _ => by rw [hx.o, hx.v, EReal.coe_mul]

theorem v38_at (i : Fin 8192) (z : Fin 1) : val_main_v38 (F := Ideal) x0 x1 (ix3 h i z) = ((1 / (a.total h i * a.total h i) : ℝ) : EReal) := by
  pointwise [val_main_v38, val_main_v37, val_main_v36, val_main_cst_10]
  rw [v33_at hx, ← EReal.coe_mul, ← EReal.coe_one, div_real _ (mul_pos (a.total_pos h i) (a.total_pos h i)).ne']

theorem v47_at (i k : Fin 8192) : val_main_v47 (F := Ideal) x0 x1 x2 x3 (ix3 h i k)
    = ((a.dwt h i k * (1 / (a.total h i * a.total h i)) * a.ex h i k : ℝ) : EReal) := by
  pointwise [val_main_v47, val_main_v46, val_main_v45]
  rw [v42_at hx, v38_at hx, v31_at hx, EReal.coe_mul, EReal.coe_mul]

theorem v48_at (i : Fin 8192) : val_main_v48 (F := Ideal) x0 x1 x2 x3 (ix2 h i)
    = ((∑ k', a.dwt h i k' * (1 / (a.total h i * a.total h i)) * a.ex h i k' : ℝ) : EReal) := by
  pointwise [val_main_v48, val_main_cst_11]
  rw [coe_sum']
  exact Finset.sum_congr rfl fun k' _ => v47_at hx h i k'

theorem v50_at (i : Fin 8192) (z : Fin 1) : val_main_v50 (F := Ideal) x0 x1 x2 x3 (ix3 h i z)
    = ((-(∑ k', a.dwt h i k' * (1 / (a.total h i * a.total h i)) * a.ex h i k') : ℝ) : EReal) := by
  pointwise [val_main_v50, val_main_v49]
  rw [v48_at hx]
  exact (EReal.coe_neg _).symm

theorem v54_at (i k : Fin 8192) : val_main_v54 (F := Ideal) x0 x1 x2 x3 (ix3 h i k)
    = ((-(∑ k', a.dwt h i k' * (1 / (a.total h i * a.total h i)) * a.ex h i k') : ℝ) : EReal) := by
  pointwise [val_main_v54]
  pointwise [val_main_v53, val_main_cst_12]
  rw [Fin.sum_univ_one]
  exact v50_at hx h i 0

theorem v57_at (i k : Fin 8192) : val_main_v57 (F := Ideal) x0 x1 x2 x3 (ix3 h i k) = ((a.dsc h i k : ℝ) : EReal) := by
  rw [val_main_v57_apply, mask_at, select_mask]
  by_cases hk : k.val ≤ i.val
  · rw [if_pos hk, ← a.dsc_ref]
    pointwise [val_main_v56, val_main_v55, val_main_v52, val_main_v51]
    rw [v42_at hx, v33_at hx, v31_at hx, v54_at hx, div_real _ (a.total_pos h i).ne', EReal.coe_mul, EReal.coe_add]
  · rw [if_neg hk]
    have e : a.dsc h i k = 0 := by unfold Args.dsc Args.wt Args.ex; rw [if_neg hk, zero_div, zero_mul]
    rw [e]
    pointwise [val_main_call1_v0, val_main_call1_cst]
    exact EReal.coe_zero.symm

theorem v59_at (i k : Fin 8192) : val_main_v59 (F := Ideal) x0 x1 x2 x3 (ix3 h i k) = ((a.dsc h i k * a.sc : ℝ) : EReal) := by
  pointwise [val_main_v59, val_main_v58, val_main_cst_13]
  rw [v57_at hx, scale_word, hx.sc, EReal.coe_mul]

/-- The first result. -/
theorem v66_at (d : Fin 192) (i : Fin 8192) : val_main_v66 (F := Ideal) x0 x1 x2 x3 (ix3 h d i) = ((a.outQ h d i : ℝ) : EReal) := by
  pointwise [val_main_v66, val_main_v65, val_main_v64, val_main_v63, val_main_v62, val_main_cst_14]
  have e : (∑ k : Fin 8192, val_main_v59 (F := Ideal) x0 x1 x2 x3 (ix3 h i k) * x1 (ix3 k h d))
      = ((∑ k, a.dsc h i k * a.sc * a.k k h d : ℝ) : EReal) := by
    rw [coe_sum']
    exact Finset.sum_congr rfl fun k _ => by rw [v59_at hx, hx.k, EReal.coe_mul _ (a.k k h d)]
  rw [e, scale_word, div_real _ scale_ne, Args.outQ, ← hx.sc, Finset.sum_div]
  congr 1
  have hs : a.sc ≠ 0 := by rw [hx.sc]; exact scale_ne
  exact Finset.sum_congr rfl fun k _ => by field_simp

/-- The second. -/
theorem v70_at (d : Fin 192) (k : Fin 8192) : val_main_v70 (F := Ideal) x0 x1 x2 x3 (ix3 h d k) = ((a.outK h d k : ℝ) : EReal) := by
  pointwise [val_main_v70, val_main_v69, val_main_v68, val_main_v67, val_main_v61, val_main_v60, val_main_cst_15]
  have e : (∑ i : Fin 8192, val_main_v59 (F := Ideal) x0 x1 x2 x3 (ix3 h i k) * x0 (ix3 i h d))
      = ((∑ i, a.dsc h i k * a.sc * a.q i h d : ℝ) : EReal) := by
    rw [coe_sum']
    exact Finset.sum_congr rfl fun i _ => by rw [v59_at hx, hx.q, EReal.coe_mul _ (a.q i h d)]
  rw [e, two_word, log_real two_pos]
  rw [div_real _ Args.log_two_pos.ne', Args.outK, Finset.sum_div]
  congr 1
  exact Finset.sum_congr rfl fun i _ => by ring

/-- The third. -/
theorem v71_at (e : Fin 128) (k : Fin 8192) : val_main_v71 (F := Ideal) x0 x1 x3 (ix3 h e k) = ((a.outV h e k : ℝ) : EReal) := by
  pointwise [val_main_v71, val_main_v44, val_main_v43, val_main_v41]
  rw [Args.outV, coe_sum']
  exact Finset.sum_congr rfl fun i _ => by rw [v35_at hx, hx.o, EReal.coe_mul]

end Cert.ReferenceIdeal.Bwd

end
-- ==== Proof.Fin.lean ====
/-
  Finite arguments are real numbers.
-/
module

public import proofs.«01_k».proof.Pre_finite
public import proofs.«01_k».proof.Proof.Consts

@[expose] public section

set_option maxRecDepth 16384

noncomputable section

namespace Cert.KernelIdeal.Bwd

open Idealize.ShloMosaic Idealize.ShloMosaic.Pointwise

theorem pre_facts : Cert.Pre_finite.Facts := ⟨by decide, by decide⟩

theorem real_of (x : EReal) (e : BitVec.ofBool (decide ((FloatOps.absf (F := Ideal) (φ := .f32) x : EReal) < Ideal.ofBits .f32 0x7F800000#32)) = 1#1) :
    x = ((x.toReal : ℝ) : EReal) := by
  have hlt : max x (-x) < ⊤ := by
    by_contra hn
    have hn' : ¬ ((FloatOps.absf (F := Ideal) (φ := .f32) x : EReal) < Ideal.ofBits .f32 0x7F800000#32) := by
      rw [pos_inf_word]; exact hn
    rw [decide_eq_false hn'] at e
    exact absurd e (by decide)
  have h1 : x ≠ ⊤ := fun hx => by rw [hx] at hlt; exact absurd hlt (by simp)
  have h2 : x ≠ ⊥ := fun hx => by rw [hx] at hlt; exact absurd hlt (by simp)
  exact (EReal.coe_toReal h1 h2).symm

/-- The real numbers the arguments are. -/
def argsOf (x0 x1 : FVec Ideal ⟨3, ![8192, 8, 192]⟩ .f32) (x2 x3 : FVec Ideal ⟨3, ![8192, 8, 128]⟩ .f32) : Args where
  q i h d := EReal.toReal (x0 (ix3 i h d))
  k i h d := EReal.toReal (x1 (ix3 i h d))
  v i h e := EReal.toReal (x2 (ix3 i h e))
  o i h e := EReal.toReal (x3 (ix3 i h e))
  sc := scale

theorem isReal_of [Cert.Pre_finite.Facts] (x0 x1 : FVec Ideal ⟨3, ![8192, 8, 192]⟩ .f32) (x2 x3 : FVec Ideal ⟨3, ![8192, 8, 128]⟩ .f32)
    (h0 : (Cert.Pre_finite.fn (F := Ideal) x0 x1 x2 x3).1 = fun _ => 1#1) (h1 : (Cert.Pre_finite.fn (F := Ideal) x0 x1 x2 x3).2.1 = fun _ => 1#1)
    (h2 : (Cert.Pre_finite.fn (F := Ideal) x0 x1 x2 x3).2.2.1 = fun _ => 1#1) (h3 : (Cert.Pre_finite.fn (F := Ideal) x0 x1 x2 x3).2.2.2 = fun _ => 1#1) :
    IsReal (argsOf x0 x1 x2 x3) x0 x1 x2 x3 where
  q i h d := by
    have e := congrFun h0 (ix3 i h d)
    dsimp only [Cert.Pre_finite.fn] at e
    revert e
    pointwise
    exact real_of _
  k i h d := by
    have e := congrFun h1 (ix3 i h d)
    dsimp only [Cert.Pre_finite.fn] at e
    revert e
    pointwise
    exact real_of _
  v i h d := by
    have e := congrFun h2 (ix3 i h d)
    dsimp only [Cert.Pre_finite.fn] at e
    revert e
    pointwise
    exact real_of _
  o i h d := by
    have e := congrFun h3 (ix3 i h d)
    dsimp only [Cert.Pre_finite.fn] at e
    revert e
    pointwise
    exact real_of _
  sc := rfl

end Cert.KernelIdeal.Bwd

end
-- ==== Proof.Value.lean ====
/-
  The two programs' results, equal over finite arguments.
-/
module

public import proofs.«01_k».proof.Defs
public import proofs.«01_k».proof.Proof.Out
public import proofs.«01_k».proof.Proof.RefVal
public import proofs.«01_k».proof.Proof.Fin

@[expose] public section

set_option maxRecDepth 16384

noncomputable section

namespace Cert.ReferenceIdeal.Bwd

open Idealize.ShloMosaic Idealize.ShloMosaic.Pointwise Cert.KernelIdeal.Bwd Cert.ReferenceIdeal.Read

variable {a : Args} {x0 x1 : QArr} {x2 x3 : VArr} (hx : IsReal a x0 x1 x2 x3)
include hx

theorem v66_eq : val_main_v66 (F := Ideal) x0 x1 x2 x3 = arrQ a := funext fun y => by
  rw [← ix3_eta (n0 := 8) (n1 := 192) (n2 := 8192) y]
  exact v66_at hx (y 0) (y 1) (y 2)

theorem v70_eq : val_main_v70 (F := Ideal) x0 x1 x2 x3 = arrK a := funext fun y => by
  rw [← ix3_eta (n0 := 8) (n1 := 192) (n2 := 8192) y]
  exact v70_at hx (y 0) (y 1) (y 2)

theorem v71_eq : val_main_v71 (F := Ideal) x0 x1 x3 = arrV a := funext fun y => by
  rw [← ix3_eta (n0 := 8) (n1 := 128) (n2 := 8192) y]
  exact v71_at hx (y 0) (y 1) (y 2)

end Cert.ReferenceIdeal.Bwd

namespace Cert.KernelIdeal.Bwd

open Idealize.ShloMosaic Idealize.ShloMosaic.TcCoe Idealize.SL.Sem Cert.KernelIdeal.Gen Cert.KernelIdeal

/-- The kernel's results. -/
theorem run_value (m : (ℓ : Loc nD τ sig) → Buf (Elt Ideal) ℓ) (ρ : Dev nD → PrngReg) (a : Dev nD → Args)
    (hx : ∀ c : Dev nD, IsReal (a c) (m ((c : Thread nD τ).loc main_arg0)) (m ((c : Thread nD τ).loc main_arg1)) (m ((c : Thread nD τ).loc main_arg2)) (m ((c : Thread nD τ).loc main_arg3))) :
    θ_run (defs (F := Ideal)) (onTc (τ := τ) (main (F := Ideal))) ⟨m, fun _ => 0, ρ⟩ (fun r => ∀ c : Dev nD,
      r.2.mem ((c.tc : Thread nD τ).loc main_v47_0) = arrQ (a c)
      ∧ r.2.mem ((c.tc : Thread nD τ).loc main_v47_1) = arrK (a c)
      ∧ r.2.mem ((c.tc : Thread nD τ).loc main_v47_2) = arrV (a c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 7).trans (final_q m c (hx c)), ((h.1 c).1 8).trans (final_k m c (hx c)),
      ((h.1 c).1 9).trans (final_v m c (hx c)), h.2.1 c⟩)
    (θ_run_and (run_main m ρ) (frame' m ρ))

end Cert.KernelIdeal.Bwd

namespace Cert.Proof

open Idealize.ShloMosaic Idealize.ShloMosaic.TcCoe Idealize.SL.Sem Cert.KernelIdeal.Bwd

theorem algebraic [hP : Cert.Pre_finite.Facts] :
    Cert.algebraic_KernelIdeal_ReferenceIdeal_pre_finite (hKernelIdeal := Cert.KernelIdeal.Gen.facts) (hReferenceIdeal := Cert.ReferenceIdeal.Gen.facts) (hPre_finite := hP) := by
  intro m g m' g' hpre hargs
  let a : Dev Cert.KernelIdeal.nD → Args := fun c => argsOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
  have hx : ∀ c : Dev Cert.KernelIdeal.nD, IsReal (a c) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) :=
    fun c => isReal_of _ _ _ _ (hpre c).1 (hpre c).2.1 (hpre c).2.2.1 (hpre c).2.2.2
  refine ⟨fun c => arrQ (a c), fun c => arrK (a c), fun c => arrV (a c), run_value m g a hx, ?_⟩
  refine (θ_run _ _ _).mono (fun r h c => ?_) (Cert.ReferenceIdeal.Value.run m' g')
  obtain ⟨r0, r1, r2, rest⟩ := h c
  obtain ⟨e0, e1, e2, e3⟩ := hargs c
  refine ⟨?_, ?_, ?_, rest⟩
  · rw [r0, Cert.ReferenceIdeal.Read.val_main_v66_eq, e0, e1, e2, e3]
    exact Cert.ReferenceIdeal.Bwd.v66_eq (hx c)
  · rw [r1, Cert.ReferenceIdeal.Read.val_main_v70_eq, e0, e1, e2, e3]
    exact Cert.ReferenceIdeal.Bwd.v70_eq (hx c)
  · rw [r2, Cert.ReferenceIdeal.Read.val_main_v71_eq, e0, e1, e3]
    exact Cert.ReferenceIdeal.Bwd.v71_eq (hx c)

end Cert.Proof

end
-- ==== Proof.Gate.lean ====
/-
  The backward of the gate and up projections: the kernel's blocks summed, equal to the reference's two products.
-/
module

public import proofs.«01_k».proof.Defs
public import proofs.«01_k».proof.Proof.Gen.Kernel2Ideal.Value
public import proofs.«01_k».proof.Proof.Gen.Reference2Ideal.Read
public import Idealize.ShloMosaic.Lib.StableHlo.RunRead
public import Idealize.ShloMosaic.Lib.Pipeline.ValueKit.Geometry
public import Idealize.ShloMosaic.Lib.Pointwise

@[expose] public section

set_option maxRecDepth 16384

noncomputable section

namespace Cert.Kernel2Ideal.Gate

open Idealize.ShloMosaic Idealize.ShloMosaic.TcCoe Idealize.ShloMosaic.Pointwise Cert.Kernel2Ideal.Gen Cert.Kernel2Ideal Cert.Kernel2Ideal.Value

/-- An array of extended reals. -/
abbrev Mat (s : Shape) (e : EltTy) := (⟨s, e⟩ : BufTy).Contents (Elt Ideal)

/-- One block's step, at an element. -/
theorem pay2_at (acc : Mat S512x2048 .f32) (a b : Mat S512x1408 .bf16) (w u : Mat S1x1x2048x1408 .bf16) (r : Fin 512) (d : Fin 2048) :
    k0_pay2 (F := Ideal) acc a w b u (ix2 r d)
      = (acc (ix2 r d) : EReal) + ((∑ f : Fin 1408, (a (ix2 r f) : EReal) * w (ix4 0 0 d f)) + ∑ f : Fin 1408, (b (ix2 r f) : EReal) * u (ix4 0 0 d f)) := by
  pointwise [k0_pay2]

theorem pay1_at (r : Fin 512) (d : Fin 2048) : k0_pay1 (F := Ideal) (ix2 r d) = (0 : EReal) := by
  pointwise [k0_pay1]

/-- The columns of one weight, in four blocks. -/
def hCols (x : Mat S2x2048x5632 .f32) : Mat S2x4x2048x1408 .bf16 :=
  truncf (F := Ideal) (φ := .f32) .bf16 (transpose S2x4x2048x1408 [0, 2, 1, 3] (shapeCast S2x2048x4x1408 x shapeCasts_S2x2048x5632_S2x2048x4x1408) transposes_S2x2048x4x1408_S2x4x2048x1408_0_2_1_3)

/-- Column `f` of block `b`. -/
def col (b : ℕ) (f : Fin 1408) : Fin 5632 := ⟨1408 * (b % 4) + f.val, by omega⟩

theorem hCols_at (x : Mat S2x2048x5632 .f32) (l : Fin 2) (b : Fin 4) (d : Fin 2048) (f : Fin 1408) :
    hCols x (ix4 l b d f) = (x (ix3 l d (col b.val f)) : EReal) := by
  pointwise [hCols]
  exact congrArg x (congrArg (ix3 l d) (Fin.ext (by have := b.isLt; show b.val * 1408 + f.val = 1408 * (b.val % 4) + f.val; omega)))

variable (m : (ℓ : Loc nD τ sig) → Buf (Elt Ideal) ℓ) (c : Dev nD)

theorem V_v2 : V m c main_v2 = hCols (m ((c : Thread nD τ).loc main_arg2)) := by
  dsimp only [V]
  after_reads_simp
  try simp -implicitDefEqProofs only [StableHlo.TRef.toBuf, StableHlo.TRef.ofBuf, cast_cast, cast_eq]
  rfl

theorem V_v5 : V m c main_v5 = hCols (m ((c : Thread nD τ).loc main_arg3)) := by
  dsimp only [V]
  after_reads_simp
  try simp -implicitDefEqProofs only [StableHlo.TRef.toBuf, StableHlo.TRef.ofBuf, cast_cast, cast_eq]
  rfl

theorem index0 : ∀ t : Fin cfg0.N, win0_0.index t = ![t.val / 4, t.val % 4] := (by decide +kernel : ∀ t : Fin grid0.N, _)
theorem index1 : ∀ t : Fin cfg0.N, win0_1.index t = ![t.val / 4, t.val % 4] := (by decide +kernel : ∀ t : Fin grid0.N, _)
theorem index2 : ∀ t : Fin cfg0.N, win0_2.index t = ![0, t.val % 4, 0, 0] := (by decide +kernel : ∀ t : Fin grid0.N, _)
theorem index3 : ∀ t : Fin cfg0.N, win0_3.index t = ![0, t.val % 4, 0, 0] := (by decide +kernel : ∀ t : Fin grid0.N, _)

/-- Row `r` of point `t`'s rows. -/
def row (t : Fin cfg0.N) (r : Fin 512) : Fin 8192 := ⟨512 * (t.val / 4) + r.val, by have h : t.val < 64 := t.isLt; omega⟩

theorem blk0 (A : Mat S8192x5632 .bf16) (t : Fin cfg0.N) (r : Fin 512) (f : Fin 1408) :
    ((cfg0.win 0).blk t).view.read (Elt Ideal) A (ix2 r f) = A (ix2 (row t r) (col t.val f)) := by
  blk_ext [index0, row, col]

theorem blk1 (A : Mat S8192x5632 .bf16) (t : Fin cfg0.N) (r : Fin 512) (f : Fin 1408) :
    ((cfg0.win 1).blk t).view.read (Elt Ideal) A (ix2 r f) = A (ix2 (row t r) (col t.val f)) := by
  blk_ext [index1, row, col]

theorem blk2 (A : Mat S2x4x2048x1408 .bf16) (t : Fin cfg0.N) (d : Fin 2048) (f : Fin 1408) :
    ((cfg0.win 2).blk t).view.read (Elt Ideal) A (ix4 0 0 d f) = A (ix4 0 ⟨t.val % 4, by omega⟩ d f) := by
  blk_ext [index2]

theorem blk3 (A : Mat S2x4x2048x1408 .bf16) (t : Fin cfg0.N) (d : Fin 2048) (f : Fin 1408) :
    ((cfg0.win 3).blk t).view.read (Elt Ideal) A (ix4 0 0 d f) = A (ix4 0 ⟨t.val % 4, by omega⟩ d f) := by
  blk_ext [index3]

/-- Two projections' backward at layer `l`. -/
def prod2 (l : Fin 2) (x0 x1 : Mat S8192x5632 .bf16) (x2 x3 : Mat S2x2048x5632 .f32) : Mat S8192x2048 .f32 := fun y =>
  ((∑ f : Fin 5632, (x0 (ix2 (y 0) f) : EReal) * x2 (ix3 l (y 1) f)) + ∑ f : Fin 5632, (x1 (ix2 (y 0) f) : EReal) * x3 (ix3 l (y 1) f) : EReal)

/-- A sum over the columns, block by block. -/
theorem sum_cols (g : Fin 5632 → EReal) : ∑ f, g f = ((∑ f, g (col 0 f)) + ∑ f, g (col 1 f)) + (∑ f, g (col 2 f)) + ∑ f, g (col 3 f) := by
  rw [Fin.sum_univ_tiles 4 1408 rfl g, Fin.sum_univ_four]
  rfl

/-- What one block adds. -/
def part (l : Fin 2) (x0 x1 : Mat S8192x5632 .bf16) (x2 x3 : Mat S2x2048x5632 .f32) (i : Fin 8192) (d : Fin 2048) (b : ℕ) : EReal :=
  (∑ f : Fin 1408, (x0 (ix2 i (col b f)) : EReal) * x2 (ix3 l d (col b f))) + ∑ f : Fin 1408, (x1 (ix2 i (col b f)) : EReal) * x3 (ix3 l d (col b f))

theorem parts (l : Fin 2) (x0 x1 : Mat S8192x5632 .bf16) (x2 x3 : Mat S2x2048x5632 .f32) (i : Fin 8192) (d : Fin 2048) :
    0 + part l x0 x1 x2 x3 i d 0 + part l x0 x1 x2 x3 i d 1 + part l x0 x1 x2 x3 i d 2 + part l x0 x1 x2 x3 i d 3 = prod2 l x0 x1 x2 x3 (ix2 i d) := by
  show _ = (∑ f : Fin 5632, (x0 (ix2 i f) : EReal) * x2 (ix3 l d f)) + ∑ f : Fin 5632, (x1 (ix2 i f) : EReal) * x3 (ix3 l d f)
  rw [sum_cols, sum_cols, zero_add]
  unfold part
  abel

theorem part_mod (l : Fin 2) (x0 x1 : Mat S8192x5632 .bf16) (x2 x3 : Mat S2x2048x5632 .f32) (i : Fin 8192) (d : Fin 2048) (b j : ℕ) (hb : b % 4 = 0) :
    part l x0 x1 x2 x3 i d (b + j) = part l x0 x1 x2 x3 i d j := by
  have hc : col (b + j) = col j := funext fun f => Fin.ext (by show 1408 * ((b + j) % 4) + _ = 1408 * (j % 4) + _; omega)
  unfold part
  rw [hc]

/-- A point's step at an element. -/
theorem pay_at (n : ℕ) (h : n < cfg0.N) (acc : Mat S512x2048 .f32) (r : Fin 512) (d : Fin 2048) :
    k0_pay2 (F := Ideal) acc (iblk m c 0 ⟨n, h⟩) (iblk m c 2 ⟨n, h⟩) (iblk m c 1 ⟨n, h⟩) (iblk m c 3 ⟨n, h⟩) (ix2 r d)
      = (acc (ix2 r d) : EReal) + part 0 (m ((c : Thread nD τ).loc main_arg0)) (m ((c : Thread nD τ).loc main_arg1)) (m ((c : Thread nD τ).loc main_arg2)) (m ((c : Thread nD τ).loc main_arg3)) (row ⟨n, h⟩ r) d n := by
  have e0 : ∀ f : Fin 1408, iblk m c 0 ⟨n, h⟩ (ix2 r f) = m ((c : Thread nD τ).loc main_arg0) (ix2 (row ⟨n, h⟩ r) (col n f)) := fun f =>
    (congrFun (congrArg (fun A => ((cfg0.win 0).blk ⟨n, h⟩).view.read (Elt Ideal) A) (V_main_arg0 m c)) (ix2 r f)).trans (blk0 _ ⟨n, h⟩ r f)
  have e1 : ∀ f : Fin 1408, iblk m c 1 ⟨n, h⟩ (ix2 r f) = m ((c : Thread nD τ).loc main_arg1) (ix2 (row ⟨n, h⟩ r) (col n f)) := fun f =>
    (congrFun (congrArg (fun A => ((cfg0.win 1).blk ⟨n, h⟩).view.read (Elt Ideal) A) (V_main_arg1 m c)) (ix2 r f)).trans (blk1 _ ⟨n, h⟩ r f)
  have hc : ∀ f, col (n % 4) f = col n f := fun f => Fin.ext (by show 1408 * (n % 4 % 4) + _ = 1408 * (n % 4) + _; omega)
  have e2 : ∀ f : Fin 1408, iblk m c 2 ⟨n, h⟩ (ix4 0 0 d f) = m ((c : Thread nD τ).loc main_arg2) (ix3 0 d (col n f)) := fun f =>
    (congrFun (congrArg (fun A => ((cfg0.win 2).blk ⟨n, h⟩).view.read (Elt Ideal) A) (V_v2 m c)) (ix4 0 0 d f)).trans
      ((blk2 _ ⟨n, h⟩ d f).trans ((hCols_at _ 0 ⟨n % 4, by omega⟩ d f).trans (by rw [hc])))
  have e3 : ∀ f : Fin 1408, iblk m c 3 ⟨n, h⟩ (ix4 0 0 d f) = m ((c : Thread nD τ).loc main_arg3) (ix3 0 d (col n f)) := fun f =>
    (congrFun (congrArg (fun A => ((cfg0.win 3).blk ⟨n, h⟩).view.read (Elt Ideal) A) (V_v5 m c)) (ix4 0 0 d f)).trans
      ((blk3 _ ⟨n, h⟩ d f).trans ((hCols_at _ 0 ⟨n % 4, by omega⟩ d f).trans (by rw [hc])))
  refine (pay2_at acc _ _ _ _ r d).trans ?_
  unfold part
  simp only [e0, e1, e2, e3]

/-- A run of four points, at an element. -/
theorem run_at (b : ℕ) (hb : b % 4 = 0) (h : b + 3 < cfg0.N) (r : Fin 512) (d : Fin 2048) :
    Pipeline.accAt (reset4 m c) (step4 m c) b 3 h (ix2 r d)
      = prod2 0 (m ((c : Thread nD τ).loc main_arg0)) (m ((c : Thread nD τ).loc main_arg1)) (m ((c : Thread nD τ).loc main_arg2)) (m ((c : Thread nD τ).loc main_arg3)) (ix2 (row ⟨b, by omega⟩ r) d) := by
  have hr : ∀ (j : ℕ) (hj : b + j < cfg0.N), j < 4 → row ⟨b + j, hj⟩ r = row ⟨b, by omega⟩ r := fun j hj h4 =>
    Fin.ext (by show 512 * ((b + j) / 4) + r.val = 512 * (b / 4) + r.val; omega)
  have s0 : ∀ (n : ℕ) (h : n < cfg0.N), reset4 m c n h (ix2 r d) = _ := fun n h => (pay_at m c n h _ r d).trans (congrArg (· + _) (pay1_at r d))
  have s1 : ∀ (n : ℕ) (h : n < cfg0.N) (acc : Mat S512x2048 .f32), step4 m c n h acc (ix2 r d) = _ := fun n h acc => pay_at m c n h acc r d
  show step4 m c (b + 3) _ (step4 m c (b + 2) _ (step4 m c (b + 1) _ (reset4 m c b _))) (ix2 r d) = _
  rw [s1, s1, s1, s0, hr 3 _ (by omega), hr 2 _ (by omega), hr 1 _ (by omega), part_mod _ _ _ _ _ _ _ b 3 hb, part_mod _ _ _ _ _ _ _ b 2 hb, part_mod _ _ _ _ _ _ _ b 1 hb,
    show part _ _ _ _ _ _ _ b = part _ _ _ _ _ _ _ 0 from part_mod _ _ _ _ _ _ d b 0 hb]
  exact parts _ _ _ _ _ _ d

/-- The array the kernel leaves. -/
theorem G4_eq : G4 m c = prod2 0 (m ((c : Thread nD τ).loc main_arg0)) (m ((c : Thread nD τ).loc main_arg1)) (m ((c : Thread nD τ).loc main_arg2)) (m ((c : Thread nD τ).loc main_arg3)) := by
  funext y
  have h0 : (y 0).val < 8192 := (y 0).isLt
  have h1 : (y 1).val < 2048 := (y 1).isLt
  have hr : run4Of y = (y 0).val / 512 := by show 1 * ((y 0).val / 512 - 0) + 1 * ((y 1).val / 2048 - 0) = _; omega
  have hN : cfg0.N = 64 := N_0
  have hb : 4 * run4Of y + 3 < cfg0.N := by rw [hr]; omega
  have hl : loc4Of y = ix2 ⟨(y 0).val % 512, by omega⟩ ⟨(y 1).val, h1⟩ := by
    funext a
    match a with
    | ⟨0, _⟩ => rfl
    | ⟨1, _⟩ => exact Fin.ext (Nat.mod_eq_of_lt h1)
  unfold G4
  rw [dif_pos hb, hl, run_at m c _ (by omega) hb]
  refine congrArg _ ?_
  funext a
  match a with
  | ⟨0, _⟩ => exact Fin.ext (by show 512 * (4 * run4Of y / 4) + (y 0).val % 512 = (y 0).val; rw [hr]; omega)
  | ⟨1, _⟩ => rfl

end Cert.Kernel2Ideal.Gate

namespace Cert.Reference2Ideal.Gate

open Idealize.ShloMosaic Idealize.ShloMosaic.Pointwise Cert.Reference2Ideal.Gen Cert.Reference2Ideal Cert.Reference2Ideal.Read

open Cert.Kernel2Ideal.Gate (Mat)

theorem v11_eq (x0 x1 : Mat S8192x5632 .bf16) (x2 x3 : Mat S2x2048x5632 .f32) :
    val_main_v11 (F := Ideal) x0 x1 x2 x3 = Cert.Kernel2Ideal.Gate.prod2 0 x0 x1 x2 x3 := by
  funext y
  rw [← ix2_eta (n0 := 8192) (n1 := 2048) y]
  generalize (y 0 : Fin 8192) = i
  generalize (y 1 : Fin 2048) = d
  pointwise [val_main_v11, val_main_v10, val_main_v9, val_main_v8, val_main_v7, val_main_v6, val_main_v5, val_main_v4, val_main_v2, val_main_v1]
  exact add_comm (G := EReal) _ _

end Cert.Reference2Ideal.Gate

namespace Cert.Proof

open Idealize.ShloMosaic Idealize.ShloMosaic.TcCoe Idealize.SL.Sem

theorem frame2_reference : Cert.quiescent_Reference2Ideal := fun m ρ _ =>
  (θ_run _ _ _).mono (fun r h => ⟨fun c => (h c).2, sem_eq_zero_of_no_sems (by decide) r.2⟩) (Cert.Reference2Ideal.Value.run m ρ)

theorem algebraic2 : Cert.algebraic_Kernel2Ideal_Reference2Ideal (hKernel2Ideal := Cert.Kernel2Ideal.Gen.facts) (hReference2Ideal := Cert.Reference2Ideal.Gen.facts) := by
  intro m g m' g' _ hargs
  refine ⟨fun c => Cert.Kernel2Ideal.Value.G4 m c, Cert.Kernel2Ideal.Value.run m g, ?_⟩
  refine (θ_run _ _ _).mono (fun r h c => ?_) (Cert.Reference2Ideal.Value.run m' g')
  obtain ⟨r0, rest⟩ := h c
  obtain ⟨e0, e1, e2, e3⟩ := hargs c
  refine ⟨?_, rest⟩
  rw [r0, Cert.Reference2Ideal.Read.val_main_v11_eq, e0, e1, e2, e3, Cert.Reference2Ideal.Gate.v11_eq]
  exact (Cert.Kernel2Ideal.Gate.G4_eq m c).symm

end Cert.Proof

end
-- ==== Proof.Gate1.lean ====
/-
  The backward of the gate and up projections at the second layer: the kernel's blocks summed, equal to the reference's two products.
-/
module

public import proofs.«01_k».proof.Proof.Gate
public import proofs.«01_k».proof.Proof.Gen.Kernel6Ideal.Value
public import proofs.«01_k».proof.Proof.Gen.Reference6Ideal.Read
public import Idealize.ShloMosaic.Lib.StableHlo.RunRead

@[expose] public section

set_option maxRecDepth 16384

noncomputable section

namespace Cert.Kernel6Ideal.Gate

open Idealize.ShloMosaic Idealize.ShloMosaic.TcCoe Idealize.ShloMosaic.Pointwise Cert.Kernel6Ideal.Gen Cert.Kernel6Ideal Cert.Kernel6Ideal.Value
open Cert.Kernel2Ideal.Gate (Mat hCols hCols_at col prod2 part part_mod parts)

/-- A point's step is the one the first layer's run takes. -/
theorem pay1_eq : k0_pay1 (F := Ideal) = Cert.Kernel2Ideal.Gen.k0_pay1 (F := Ideal) := rfl
theorem pay2_eq : k0_pay2 (F := Ideal) = Cert.Kernel2Ideal.Gen.k0_pay2 (F := Ideal) := rfl

variable (m : (ℓ : Loc nD τ sig) → Buf (Elt Ideal) ℓ) (c : Dev nD)

theorem V_v2 : V m c main_v2 = hCols (m ((c : Thread nD τ).loc main_arg2)) := by
  dsimp only [V]
  after_reads_simp
  try simp -implicitDefEqProofs only [StableHlo.TRef.toBuf, StableHlo.TRef.ofBuf, cast_cast, cast_eq]
  rfl

theorem V_v5 : V m c main_v5 = hCols (m ((c : Thread nD τ).loc main_arg3)) := by
  dsimp only [V]
  after_reads_simp
  try simp -implicitDefEqProofs only [StableHlo.TRef.toBuf, StableHlo.TRef.ofBuf, cast_cast, cast_eq]
  rfl

theorem index0 : ∀ t : Fin cfg0.N, win0_0.index t = ![t.val / 4, t.val % 4] := (by decide +kernel : ∀ t : Fin grid0.N, _)
theorem index1 : ∀ t : Fin cfg0.N, win0_1.index t = ![t.val / 4, t.val % 4] := (by decide +kernel : ∀ t : Fin grid0.N, _)
theorem index2 : ∀ t : Fin cfg0.N, win0_2.index t = ![1, t.val % 4, 0, 0] := (by decide +kernel : ∀ t : Fin grid0.N, _)
theorem index3 : ∀ t : Fin cfg0.N, win0_3.index t = ![1, t.val % 4, 0, 0] := (by decide +kernel : ∀ t : Fin grid0.N, _)

/-- Row `r` of point `t`'s rows. -/
def row (t : Fin cfg0.N) (r : Fin 512) : Fin 8192 := ⟨512 * (t.val / 4) + r.val, by have h : t.val < 64 := t.isLt; omega⟩

theorem blk0 (A : Mat S8192x5632 .bf16) (t : Fin cfg0.N) (r : Fin 512) (f : Fin 1408) :
    ((cfg0.win 0).blk t).view.read (Elt Ideal) A (ix2 r f) = A (ix2 (row t r) (col t.val f)) := by
  blk_ext [index0, row, col]

theorem blk1 (A : Mat S8192x5632 .bf16) (t : Fin cfg0.N) (r : Fin 512) (f : Fin 1408) :
    ((cfg0.win 1).blk t).view.read (Elt Ideal) A (ix2 r f) = A (ix2 (row t r) (col t.val f)) := by
  blk_ext [index1, row, col]

theorem blk2 (A : Mat S2x4x2048x1408 .bf16) (t : Fin cfg0.N) (d : Fin 2048) (f : Fin 1408) :
    ((cfg0.win 2).blk t).view.read (Elt Ideal) A (ix4 0 0 d f) = A (ix4 1 ⟨t.val % 4, by omega⟩ d f) := by
  blk_ext [index2]

theorem blk3 (A : Mat S2x4x2048x1408 .bf16) (t : Fin cfg0.N) (d : Fin 2048) (f : Fin 1408) :
    ((cfg0.win 3).blk t).view.read (Elt Ideal) A (ix4 0 0 d f) = A (ix4 1 ⟨t.val % 4, by omega⟩ d f) := by
  blk_ext [index3]

/-- A point's step at an element. -/
theorem pay_at (n : ℕ) (h : n < cfg0.N) (acc : Mat S512x2048 .f32) (r : Fin 512) (d : Fin 2048) :
    k0_pay2 (F := Ideal) acc (iblk m c 0 ⟨n, h⟩) (iblk m c 2 ⟨n, h⟩) (iblk m c 1 ⟨n, h⟩) (iblk m c 3 ⟨n, h⟩) (ix2 r d)
      = (acc (ix2 r d) : EReal) + part 1 (m ((c : Thread nD τ).loc main_arg0)) (m ((c : Thread nD τ).loc main_arg1)) (m ((c : Thread nD τ).loc main_arg2)) (m ((c : Thread nD τ).loc main_arg3)) (row ⟨n, h⟩ r) d n := by
  have e0 : ∀ f : Fin 1408, iblk m c 0 ⟨n, h⟩ (ix2 r f) = m ((c : Thread nD τ).loc main_arg0) (ix2 (row ⟨n, h⟩ r) (col n f)) := fun f =>
    (congrFun (congrArg (fun A => ((cfg0.win 0).blk ⟨n, h⟩).view.read (Elt Ideal) A) (V_main_arg0 m c)) (ix2 r f)).trans (blk0 _ ⟨n, h⟩ r f)
  have e1 : ∀ f : Fin 1408, iblk m c 1 ⟨n, h⟩ (ix2 r f) = m ((c : Thread nD τ).loc main_arg1) (ix2 (row ⟨n, h⟩ r) (col n f)) := fun f =>
    (congrFun (congrArg (fun A => ((cfg0.win 1).blk ⟨n, h⟩).view.read (Elt Ideal) A) (V_main_arg1 m c)) (ix2 r f)).trans (blk1 _ ⟨n, h⟩ r f)
  have hc : ∀ f, col (n % 4) f = col n f := fun f => Fin.ext (by show 1408 * (n % 4 % 4) + _ = 1408 * (n % 4) + _; omega)
  have e2 : ∀ f : Fin 1408, iblk m c 2 ⟨n, h⟩ (ix4 0 0 d f) = m ((c : Thread nD τ).loc main_arg2) (ix3 1 d (col n f)) := fun f =>
    (congrFun (congrArg (fun A => ((cfg0.win 2).blk ⟨n, h⟩).view.read (Elt Ideal) A) (V_v2 m c)) (ix4 0 0 d f)).trans
      ((blk2 _ ⟨n, h⟩ d f).trans ((hCols_at _ 1 ⟨n % 4, by omega⟩ d f).trans (by rw [hc])))
  have e3 : ∀ f : Fin 1408, iblk m c 3 ⟨n, h⟩ (ix4 0 0 d f) = m ((c : Thread nD τ).loc main_arg3) (ix3 1 d (col n f)) := fun f =>
    (congrFun (congrArg (fun A => ((cfg0.win 3).blk ⟨n, h⟩).view.read (Elt Ideal) A) (V_v5 m c)) (ix4 0 0 d f)).trans
      ((blk3 _ ⟨n, h⟩ d f).trans ((hCols_at _ 1 ⟨n % 4, by omega⟩ d f).trans (by rw [hc])))
  rw [pay2_eq]
  refine (Cert.Kernel2Ideal.Gate.pay2_at acc _ _ _ _ r d).trans ?_
  unfold part
  simp only [e0, e1, e2, e3]

/-- A run of four points, at an element. -/
theorem run_at (b : ℕ) (hb : b % 4 = 0) (h : b + 3 < cfg0.N) (r : Fin 512) (d : Fin 2048) :
    Pipeline.accAt (reset4 m c) (step4 m c) b 3 h (ix2 r d)
      = prod2 1 (m ((c : Thread nD τ).loc main_arg0)) (m ((c : Thread nD τ).loc main_arg1)) (m ((c : Thread nD τ).loc main_arg2)) (m ((c : Thread nD τ).loc main_arg3)) (ix2 (row ⟨b, by omega⟩ r) d) := by
  have hr : ∀ (j : ℕ) (hj : b + j < cfg0.N), j < 4 → row ⟨b + j, hj⟩ r = row ⟨b, by omega⟩ r := fun j hj h4 =>
    Fin.ext (by show 512 * ((b + j) / 4) + r.val = 512 * (b / 4) + r.val; omega)
  have s0 : ∀ (n : ℕ) (h : n < cfg0.N), reset4 m c n h (ix2 r d) = _ := fun n h => (pay_at m c n h _ r d).trans (congrArg (· + _) ((congrFun pay1_eq (ix2 r d)).trans (Cert.Kernel2Ideal.Gate.pay1_at r d)))
  have s1 : ∀ (n : ℕ) (h : n < cfg0.N) (acc : Mat S512x2048 .f32), step4 m c n h acc (ix2 r d) = _ := fun n h acc => pay_at m c n h acc r d
  show step4 m c (b + 3) _ (step4 m c (b + 2) _ (step4 m c (b + 1) _ (reset4 m c b _))) (ix2 r d) = _
  rw [s1, s1, s1, s0, hr 3 _ (by omega), hr 2 _ (by omega), hr 1 _ (by omega), part_mod _ _ _ _ _ _ _ b 3 hb, part_mod _ _ _ _ _ _ _ b 2 hb, part_mod _ _ _ _ _ _ _ b 1 hb,
    show part _ _ _ _ _ _ _ b = part _ _ _ _ _ _ _ 0 from part_mod _ _ _ _ _ _ d b 0 hb]
  exact parts _ _ _ _ _ _ d

/-- The array the kernel leaves. -/
theorem G4_eq : G4 m c = prod2 1 (m ((c : Thread nD τ).loc main_arg0)) (m ((c : Thread nD τ).loc main_arg1)) (m ((c : Thread nD τ).loc main_arg2)) (m ((c : Thread nD τ).loc main_arg3)) := by
  funext y
  have h0 : (y 0).val < 8192 := (y 0).isLt
  have h1 : (y 1).val < 2048 := (y 1).isLt
  have hr : run4Of y = (y 0).val / 512 := by show 1 * ((y 0).val / 512 - 0) + 1 * ((y 1).val / 2048 - 0) = _; omega
  have hN : cfg0.N = 64 := N_0
  have hb : 4 * run4Of y + 3 < cfg0.N := by rw [hr]; omega
  have hl : loc4Of y = ix2 ⟨(y 0).val % 512, by omega⟩ ⟨(y 1).val, h1⟩ := by
    funext a
    match a with
    | ⟨0, _⟩ => rfl
    | ⟨1, _⟩ => exact Fin.ext (Nat.mod_eq_of_lt h1)
  unfold G4
  rw [dif_pos hb, hl, run_at m c _ (by omega) hb]
  refine congrArg _ ?_
  funext a
  match a with
  | ⟨0, _⟩ => exact Fin.ext (by show 512 * (4 * run4Of y / 4) + (y 0).val % 512 = (y 0).val; rw [hr]; omega)
  | ⟨1, _⟩ => rfl

end Cert.Kernel6Ideal.Gate

namespace Cert.Reference6Ideal.Gate

open Idealize.ShloMosaic Idealize.ShloMosaic.Pointwise Cert.Reference6Ideal.Gen Cert.Reference6Ideal Cert.Reference6Ideal.Read

open Cert.Kernel2Ideal.Gate (Mat)

theorem v11_eq (x0 x1 : Mat S8192x5632 .bf16) (x2 x3 : Mat S2x2048x5632 .f32) :
    val_main_v11 (F := Ideal) x0 x1 x2 x3 = Cert.Kernel2Ideal.Gate.prod2 1 x0 x1 x2 x3 := by
  funext y
  rw [← ix2_eta (n0 := 8192) (n1 := 2048) y]
  generalize (y 0 : Fin 8192) = i
  generalize (y 1 : Fin 2048) = d
  pointwise [val_main_v11, val_main_v10, val_main_v9, val_main_v8, val_main_v7, val_main_v6, val_main_v5, val_main_v4, val_main_v2, val_main_v1]
  exact add_comm (G := EReal) _ _

end Cert.Reference6Ideal.Gate

namespace Cert.Proof

open Idealize.ShloMosaic Idealize.ShloMosaic.TcCoe Idealize.SL.Sem

theorem frame6_reference : Cert.quiescent_Reference6Ideal := fun m ρ _ =>
  (θ_run _ _ _).mono (fun r h => ⟨fun c => (h c).2, sem_eq_zero_of_no_sems (by decide) r.2⟩) (Cert.Reference6Ideal.Value.run m ρ)

theorem algebraic6 : Cert.algebraic_Kernel6Ideal_Reference6Ideal (hKernel6Ideal := Cert.Kernel6Ideal.Gen.facts) (hReference6Ideal := Cert.Reference6Ideal.Gen.facts) := by
  intro m g m' g' _ hargs
  refine ⟨fun c => Cert.Kernel6Ideal.Value.G4 m c, Cert.Kernel6Ideal.Value.run m g, ?_⟩
  refine (θ_run _ _ _).mono (fun r h c => ?_) (Cert.Reference6Ideal.Value.run m' g')
  obtain ⟨r0, rest⟩ := h c
  obtain ⟨e0, e1, e2, e3⟩ := hargs c
  refine ⟨?_, rest⟩
  rw [r0, Cert.Reference6Ideal.Read.val_main_v11_eq, e0, e1, e2, e3, Cert.Reference6Ideal.Gate.v11_eq]
  exact (Cert.Kernel6Ideal.Gate.G4_eq m c).symm

end Cert.Proof

end
-- ==== Proof.Gw.lean ====
/-
  The weight gradients of the gate and up projections: what a point leaves in the running block, and what the last point of four writes out.
-/
module

public import proofs.«01_k».proof.Defs
public import proofs.«01_k».proof.Proof.Gate
public import proofs.«01_k».proof.Proof.Gen.Kernel3Ideal.Value
public import Idealize.ShloMosaic.Lib.Pipeline.ValueKit.Geometry
public import Idealize.ShloMosaic.Lib.Pointwise

@[expose] public section

set_option maxRecDepth 16384

noncomputable section

namespace Cert.Kernel3Ideal.Gw

open Idealize.ShloMosaic Idealize.ShloMosaic.TcCoe Idealize.ShloMosaic.Pointwise Cert.Kernel3Ideal.Gen Cert.Kernel3Ideal Cert.Kernel3Ideal.Value
open Cert.Kernel2Ideal.Gate (Mat)

theorem zz : (![0, 0] : Fin 2 → ℕ) = fun _ => 0 := by decide
theorem zzzz : (![0, 0, 0, 0] : Fin 4 → ℕ) = fun _ => 0 := by decide

/-- The first of four points starts the block. -/
theorem acc_first (c) (i) (arg3) (harg3) (arg4) (harg4) (arg6) (harg6) (arg7) (harg7) (hc0) (hc1) (x0) (x1) :
    sout0_A_0 (F := Ideal) c i arg3 harg3 arg4 harg4 arg6 harg6 arg7 harg7 hc0 hc1 x0 x1 = k0_pay2 (k0_pay1 (F := Ideal)) x0 x1 := by
  unfold sout0_A_0
  rw [View.read_writes_eq_canon _ _ _ (scover0_A_0 c i arg3 harg3 arg4 harg4 arg6 harg6 arg7 harg7 hc0 hc1 x0 x1)]
  unfold kernelRun0_A
  dsimp only
  try sl_unfold_words
  rw [View.canon_cons_unit_zero (S := S1024x1408) zz, View.readCov_unit_zero (S := S1024x1408) _ zz]
  simp only [View.readAt_eq_ld, harg3.read_unread, harg4.read_unread, harg7.read_unread, View.ld_unit_zero (S := S2048x1024) zz, View.ld_unit_zero (S := S2048x1408) zz, View.ld_unit_zero (S := S1024x1408) zz, shapeCast_self]

/-- The middle points add to it. -/
theorem acc_mid (c) (i) (arg3) (harg3) (arg4) (harg4) (arg6) (harg6) (arg7) (harg7) (hc0) (hc1) (x0) (x1) (xs) :
    sout0_B_0 (F := Ideal) c i arg3 harg3 arg4 harg4 arg6 harg6 arg7 harg7 hc0 hc1 x0 x1 xs = k0_pay2 xs x0 x1 := by
  unfold sout0_B_0
  rw [View.read_writes_eq_canon _ _ _ (scover0_B_0 c i arg3 harg3 arg4 harg4 arg6 harg6 arg7 harg7 hc0 hc1 x0 x1 xs)]
  unfold kernelRun0_B
  dsimp only
  try sl_unfold_words
  rw [View.canon_unit_zero zz]
  simp only [View.readAt_eq_ld, harg3.read_unread, harg4.read_unread, harg7.read_unread, View.ld_unit_zero (S := S2048x1024) zz, View.ld_unit_zero (S := S2048x1408) zz, View.ld_unit_zero (S := S1024x1408) zz, shapeCast_self]

/-- The last point writes the block out. -/
theorem out_last (c) (i) (arg3) (harg3) (arg4) (harg4) (arg6) (harg6) (arg7) (harg7) (hc0) (hc1) (x0) (x1) (xs) :
    out0_C_2 (F := Ideal) c i arg3 harg3 arg4 harg4 arg6 harg6 arg7 harg7 hc0 hc1 x0 x1 xs = k0_pay3 (k0_pay2 xs x0 x1) := by
  unfold out0_C_2
  rw [View.read_writes_eq_canon _ _ _ (cover0_C_2 c i arg3 harg3 arg4 harg4 arg6 harg6 arg7 harg7 hc0 hc1 x0 x1 xs)]
  unfold kernelRun0_C
  dsimp only
  try sl_unfold_words
  rw [View.canon_unit_zero zzzz]
  simp only [View.readAt_eq_ld, harg3.read_unread, harg4.read_unread, harg7.read_unread, View.readCov_unit_zero (S := S1024x1408) _ zz, View.ld_unit_zero (S := S2048x1024) zz, View.ld_unit_zero (S := S2048x1408) zz, View.ld_unit_zero (S := S1024x1408) zz, shapeCast_self]

variable (m : (ℓ : Loc nD τ sig) → Buf (Elt Ideal) ℓ) (c : Dev nD)

theorem outs_congr {n n' : ℕ} (e : n = n') (h : n < cfg0.N) (h' : n' < cfg0.N) : outsAt0 m c n h = outsAt0 m c n' h' := by
  subst e; rfl

theorem first_at (n : ℕ) (h : n < cfg0.N) (h0 : n % 4 = 0) :
    (outsAt0 m c n h).2 = k0_pay2 (F := Ideal) (k0_pay1 (F := Ideal)) (iblk m c 0 ⟨n, h⟩) (iblk m c 1 ⟨n, h⟩) := by
  have e := outsAt0_A m c ⟨n, h⟩ h0 (by show ¬n % 4 = 3; omega)
  dsimp only at e
  rw [e]
  dsimp only
  rw [acc_first]

theorem mid_at (n : ℕ) (h : n + 1 < cfg0.N) (h0 : ¬(n + 1) % 4 = 0) (h1 : ¬(n + 1) % 4 = 3) :
    (outsAt0 m c (n + 1) h).2 = k0_pay2 (F := Ideal) (outsAt0 m c n (Nat.lt_of_succ_lt h)).2 (iblk m c 0 ⟨n + 1, h⟩) (iblk m c 1 ⟨n + 1, h⟩) := by
  have e := outsAt0_B m c ⟨n + 1, h⟩ h0 h1
  dsimp only at e
  rw [e]
  dsimp only
  rw [acc_mid, outs_congr m c (Nat.add_sub_cancel n 1) _ (Nat.lt_of_succ_lt h)]

theorem last_at (n : ℕ) (h : n + 1 < cfg0.N) (h0 : (n + 1) % 4 = 3) :
    (dats m 0 c).flushed 2 ⟨n + 1, h⟩ = k0_pay3 (F := Ideal) (k0_pay2 (F := Ideal) (outsAt0 m c n (Nat.lt_of_succ_lt h)).2 (iblk m c 0 ⟨n + 1, h⟩) (iblk m c 1 ⟨n + 1, h⟩)) := by
  rw [flushed2_C m c ⟨n + 1, h⟩ (by show ¬(n + 1) % 4 = 0; omega) h0, out_last, outs_congr m c (Nat.add_sub_cancel n 1) _ (Nat.lt_of_succ_lt h)]
  rfl

/-- What the last of four points writes. -/
theorem flushed_run (b : ℕ) (hb : b % 4 = 0) (h : b + 3 < cfg0.N) :
    (dats m 0 c).flushed 2 ⟨b + 3, h⟩ = k0_pay3 (F := Ideal) (k0_pay2 (F := Ideal) (k0_pay2 (F := Ideal) (k0_pay2 (F := Ideal) (k0_pay2 (F := Ideal) (k0_pay1 (F := Ideal))
      (iblk m c 0 ⟨b, by omega⟩) (iblk m c 1 ⟨b, by omega⟩)) (iblk m c 0 ⟨b + 1, by omega⟩) (iblk m c 1 ⟨b + 1, by omega⟩))
      (iblk m c 0 ⟨b + 2, by omega⟩) (iblk m c 1 ⟨b + 2, by omega⟩)) (iblk m c 0 ⟨b + 3, h⟩) (iblk m c 1 ⟨b + 3, h⟩)) := by
  rw [last_at m c (b + 2) h (by omega), mid_at m c (b + 1) (by omega) (by omega) (by omega), mid_at m c b (by omega) (by omega) (by omega), first_at m c b (by omega) hb]

end Cert.Kernel3Ideal.Gw

end
-- ==== Proof.GwOut.lean ====
/-
  The weight gradients of the gate and up projections: the kernel's blocks, equal to the reference's product.
-/
module

public import proofs.«01_k».proof.Proof.Gw
public import proofs.«01_k».proof.Proof.Gen.Reference3Ideal.Read
public import Idealize.ShloMosaic.Lib.StableHlo.RunRead

@[expose] public section

set_option maxRecDepth 16384

noncomputable section

namespace Cert.Kernel3Ideal.Gw

open Idealize.ShloMosaic Idealize.ShloMosaic.TcCoe Idealize.ShloMosaic.Pointwise Cert.Kernel3Ideal.Gen Cert.Kernel3Ideal Cert.Kernel3Ideal.Value
open Cert.Kernel2Ideal.Gate (Mat col)

/-- Row `s` of token chunk `k`. -/
def tok (k : ℕ) (s : Fin 2048) : Fin 8192 := ⟨2048 * (k % 4) + s.val, by omega⟩

theorem pay1_at (d : Fin 1024) (f : Fin 1408) : k0_pay1 (F := Ideal) (ix2 d f) = (0 : EReal) := by
  pointwise [k0_pay1]

theorem pay2_at (acc : Mat S1024x1408 .f32) (a : Mat S2048x1024 .bf16) (b : Mat S2048x1408 .bf16) (d : Fin 1024) (f : Fin 1408) :
    k0_pay2 (F := Ideal) acc a b (ix2 d f) = (acc (ix2 d f) : EReal) + ∑ s : Fin 2048, (a (ix2 s d) : EReal) * b (ix2 s f) := by
  pointwise [k0_pay2]

theorem pay3_at (acc : Mat S1024x1408 .f32) (d : Fin 1024) (f : Fin 1408) :
    k0_pay3 (F := Ideal) acc (ix4 0 0 d f) = (acc (ix2 d f) : EReal) := by
  pointwise [k0_pay3]

theorem index0 : ∀ t : Fin cfg0.N, win0_0.index t = ![t.val % 4, t.val / 16] := (by decide +kernel : ∀ t : Fin grid0.N, _)
theorem index1 : ∀ t : Fin cfg0.N, win0_1.index t = ![t.val % 4, t.val / 4 % 4] := (by decide +kernel : ∀ t : Fin grid0.N, _)
theorem index2 : ∀ t : Fin cfg0.N, win0_2.index t = ![0, t.val / 4 % 4, t.val / 16, 0] := (by decide +kernel : ∀ t : Fin grid0.N, _)

/-- Row `d` of the block of weights at point `t`. -/
def wrow (t : ℕ) (d : Fin 1024) : Fin 2048 := ⟨1024 * (t / 16 % 2) + d.val, by omega⟩

theorem div16 (t : Fin cfg0.N) : t.val / 16 % 2 = t.val / 16 := by have h : t.val < 32 := t.isLt; omega

theorem blk0 (A : Mat S8192x2048 .bf16) (t : Fin cfg0.N) (s : Fin 2048) (d : Fin 1024) :
    ((cfg0.win 0).blk t).view.read (Elt Ideal) A (ix2 s d) = A (ix2 (tok t.val s) (wrow t.val d)) := by
  blk_ext [index0, tok, wrow, div16]

theorem blk1 (A : Mat S8192x5632 .bf16) (t : Fin cfg0.N) (s : Fin 2048) (f : Fin 1408) :
    ((cfg0.win 1).blk t).view.read (Elt Ideal) A (ix2 s f) = A (ix2 (tok t.val s) (col (t.val / 4) f)) := by
  blk_ext [index1, tok, col]

theorem blk2 (A : Mat S2x4x2048x1408 .bf16) (t : Fin cfg0.N) (d : Fin 1024) (f : Fin 1408) :
    ((cfg0.win 2).blk t).view.read (Elt Ideal) A (ix4 0 0 d f) = A (ix4 0 ⟨t.val / 4 % 4, by omega⟩ (wrow t.val d) f) := by
  blk_ext [index2, wrow, div16]

/-- One weight's sum over the tokens. -/
def whole (x0 : Mat S8192x2048 .bf16) (x1 : Mat S8192x5632 .bf16) (d : Fin 2048) (f : Fin 5632) : EReal :=
  ∑ s : Fin 8192, (x0 (ix2 s d) : EReal) * x1 (ix2 s f)

/-- Its sum over one chunk. -/
def chunk (x0 : Mat S8192x2048 .bf16) (x1 : Mat S8192x5632 .bf16) (k : ℕ) (d : Fin 2048) (f : Fin 5632) : EReal :=
  ∑ s : Fin 2048, (x0 (ix2 (tok k s) d) : EReal) * x1 (ix2 (tok k s) f)

/-- The products' sum over the tokens in the layer's own half, the given array in the other. -/
def prod3 (x0 : Mat S8192x2048 .bf16) (x1 : Mat S8192x5632 .bf16) (x2 : Mat S2x4x2048x1408 .bf16) : Mat S2x4x2048x1408 .bf16 := fun y =>
  if (y 0).val = 0 then whole x0 x1 (y 2) (col (y 1).val (y 3)) else x2 y

/-- A sum over the tokens, chunk by chunk. -/
theorem sum_toks (g : Fin 8192 → EReal) : ∑ s, g s = ((∑ s, g (tok 0 s)) + ∑ s, g (tok 1 s)) + (∑ s, g (tok 2 s)) + ∑ s, g (tok 3 s) := by
  rw [Fin.sum_univ_tiles 4 2048 rfl g, Fin.sum_univ_four]
  rfl

theorem chunk_mod (x0 : Mat S8192x2048 .bf16) (x1 : Mat S8192x5632 .bf16) (b j : ℕ) (hb : b % 4 = 0) : chunk x0 x1 (b + j) = chunk x0 x1 j := by
  have e : tok (b + j) = tok j := funext fun s => Fin.ext (by show 2048 * ((b + j) % 4) + _ = 2048 * (j % 4) + _; omega)
  funext d f
  unfold chunk
  rw [e]

theorem chunks (x0 : Mat S8192x2048 .bf16) (x1 : Mat S8192x5632 .bf16) (d : Fin 2048) (f : Fin 5632) :
    0 + chunk x0 x1 0 d f + chunk x0 x1 1 d f + chunk x0 x1 2 d f + chunk x0 x1 3 d f = whole x0 x1 d f := by
  unfold whole
  rw [sum_toks, zero_add]
  rfl

variable (m : (ℓ : Loc nD τ sig) → Buf (Elt Ideal) ℓ) (c : Dev nD)

theorem V_v0 : V m c main_v0 = m ((c : Thread nD τ).loc main_arg2) := by
  dsimp only [V]
  after_reads_simp
  try simp -implicitDefEqProofs only [StableHlo.TRef.toBuf, StableHlo.TRef.ofBuf, cast_cast, cast_eq]
  rfl

/-- A point's step at an element. -/
theorem pay_at (n : ℕ) (h : n < cfg0.N) (acc : Mat S1024x1408 .f32) (d : Fin 1024) (f : Fin 1408) :
    k0_pay2 (F := Ideal) acc (iblk m c 0 ⟨n, h⟩) (iblk m c 1 ⟨n, h⟩) (ix2 d f)
      = (acc (ix2 d f) : EReal) + chunk (m ((c : Thread nD τ).loc main_arg0)) (m ((c : Thread nD τ).loc main_arg1)) n (wrow n d) (col (n / 4) f) := by
  have e0 : ∀ s : Fin 2048, iblk m c 0 ⟨n, h⟩ (ix2 s d) = m ((c : Thread nD τ).loc main_arg0) (ix2 (tok n s) (wrow n d)) := fun s =>
    (congrFun (congrArg (fun A => ((cfg0.win 0).blk ⟨n, h⟩).view.read (Elt Ideal) A) (V_main_arg0 m c)) (ix2 s d)).trans (blk0 _ ⟨n, h⟩ s d)
  have e1 : ∀ s : Fin 2048, iblk m c 1 ⟨n, h⟩ (ix2 s f) = m ((c : Thread nD τ).loc main_arg1) (ix2 (tok n s) (col (n / 4) f)) := fun s =>
    (congrFun (congrArg (fun A => ((cfg0.win 1).blk ⟨n, h⟩).view.read (Elt Ideal) A) (V_main_arg1 m c)) (ix2 s f)).trans (blk1 _ ⟨n, h⟩ s f)
  refine (pay2_at acc _ _ d f).trans ?_
  unfold chunk
  simp only [e0, e1]

/-- What the last of four points writes, at an element. -/
theorem flushed_at (b : ℕ) (hb : b % 4 = 0) (h : b + 3 < cfg0.N) (d : Fin 1024) (f : Fin 1408) :
    (dats m 0 c).flushed 2 ⟨b + 3, h⟩ (ix4 0 0 d f) = whole (m ((c : Thread nD τ).loc main_arg0)) (m ((c : Thread nD τ).loc main_arg1)) (wrow b d) (col (b / 4) f) := by
  have hw : ∀ j, j < 4 → wrow (b + j) d = wrow b d := fun j hj => Fin.ext (by show 1024 * ((b + j) / 16 % 2) + _ = 1024 * (b / 16 % 2) + _; rw [show (b + j) / 16 = b / 16 by omega])
  have hc : ∀ j, j < 4 → (b + j) / 4 = b / 4 := fun j hj => by omega
  refine (congrFun (flushed_run m c b hb h) (ix4 0 0 d f)).trans ?_
  rw [pay3_at, pay_at, pay_at, pay_at, pay_at, pay1_at, hw 3 (by omega), hw 2 (by omega), hw 1 (by omega), hc 3 (by omega), hc 2 (by omega), hc 1 (by omega),
    chunk_mod _ _ b 3 hb, chunk_mod _ _ b 2 hb, chunk_mod _ _ b 1 hb, show chunk _ _ b = chunk _ _ 0 from chunk_mod _ _ b 0 hb]
  exact chunks _ _ _ _

theorem unit_index {n p : ℕ} (y : (⟨4, ![1, 1, n, p]⟩ : Shape).Idx) : ∃ (d : Fin n) (f : Fin p), y = ix4 0 0 d f :=
  ⟨y 2, y 3, by
    rw [← ix4_eta (n0 := 1) (n1 := 1) (n2 := n) (n3 := p) y]
    exact congrArg₂ (fun a b => ix4 a b (y 2) (y 3)) (Subsingleton.elim _ _) (Subsingleton.elim _ _)⟩

/-- What a point that writes, writes. -/
theorem flushed_eq (t : Fin cfg0.N) (hf : (cfg0.win 2).flush t = true) :
    (dats m 0 c).flushed 2 t = ((cfg0.win 2).blk t).view.read (Elt Ideal) (prod3 (m ((c : Thread nD τ).loc main_arg0)) (m ((c : Thread nD τ).loc main_arg1)) (m ((c : Thread nD τ).loc main_arg2))) := by
  have h3 : t.val % 4 = 3 := (flush0_2 t).mp hf
  obtain ⟨n, hn⟩ := t
  obtain ⟨b, rfl⟩ : ∃ b, n = b + 3 := ⟨n - 3, by have : n % 4 = 3 := h3; omega⟩
  have hb : b % 4 = 0 := by have : (b + 3) % 4 = 3 := h3; omega
  funext y
  obtain ⟨d, f, rfl⟩ := unit_index y
  refine (flushed_at m c b hb hn d f).trans ((blk2 _ ⟨b + 3, hn⟩ d f).trans ?_).symm
  have hw : wrow (b + 3) d = wrow b d := Fin.ext (by show 1024 * ((b + 3) / 16 % 2) + _ = 1024 * (b / 16 % 2) + _; rw [show (b + 3) / 16 = b / 16 by omega])
  have hc : col ((b + 3) / 4 % 4) f = col (b / 4) f := Fin.ext (by show 1408 * ((b + 3) / 4 % 4 % 4) + _ = 1408 * (b / 4 % 4) + _; rw [show (b + 3) / 4 = b / 4 by omega]; omega)
  refine (if_pos rfl).trans ?_
  show whole (m ((c : Thread nD τ).loc main_arg0)) (m ((c : Thread nD τ).loc main_arg1)) (wrow (b + 3) d) (col ((b + 3) / 4 % 4) f) = _
  rw [hw, hc]

/-- The array the kernel leaves. -/
theorem final_eq : (dats m 0 c).arrAt 2 cfg0.N = prod3 (m ((c : Thread nD τ).loc main_arg0)) (m ((c : Thread nD τ).loc main_arg1)) (m ((c : Thread nD τ).loc main_arg2)) := by
  funext y
  have h0 : (y 0).val < 2 := (y 0).isLt
  have h1 : (y 1).val < 4 := (y 1).isLt
  have h2 : (y 2).val < 2048 := (y 2).isLt
  have h3 : (y 3).val < 1408 := (y 3).isLt
  by_cases hz : (y 0).val = 0
  · have hN : cfg0.N = 32 := N_0
    have ht : 16 * ((y 2).val / 1024) + 4 * (y 1).val + 3 < cfg0.N := by
      rw [hN]; clear hN; omega
    refine (dats m 0 c).arrAt_apply_of_mem 2 _ (flushed_eq m c) cfg0.N ⟨_, ht⟩ y ht ((flush0_2 _).mpr (by show (16 * ((y 2).val / 1024) + 4 * (y 1).val + 3) % 4 = 3; omega)) ?_
    mem_blk [index2]
    show (0 ≤ (y 0).val ∧ (y 0).val < 1) ∧ ((16 * ((y 2).val / 1024) + 4 * (y 1).val + 3) / 4 % 4 ≤ (y 1).val ∧ (y 1).val < (16 * ((y 2).val / 1024) + 4 * (y 1).val + 3) / 4 % 4 + 1)
      ∧ ((16 * ((y 2).val / 1024) + 4 * (y 1).val + 3) / 16 * 1024 ≤ (y 2).val ∧ (y 2).val < (16 * ((y 2).val / 1024) + 4 * (y 1).val + 3) / 16 * 1024 + 1024) ∧ 0 ≤ (y 3).val ∧ (y 3).val < 1408
    clear ht hN
    omega
  · refine (entry2 m c y fun t _ hm => hz ?_).trans ?_
    · mem_blk [index2] at hm
      exact Nat.lt_one_iff.mp hm.1.2
    · rw [prod3, if_neg hz]
      exact congrFun (V_v0 m c) y

end Cert.Kernel3Ideal.Gw

namespace Cert.Reference3Ideal.Gw

open Idealize.ShloMosaic Idealize.ShloMosaic.Pointwise Cert.Reference3Ideal.Gen Cert.Reference3Ideal Cert.Reference3Ideal.Read
open Cert.Kernel2Ideal.Gate (Mat col)

theorem v13_at (x0 : Mat S8192x2048 .bf16) (x1 : Mat S8192x5632 .bf16) (x2 : Mat S2x4x2048x1408 .bf16) (l : Fin 2) (b : Fin 4) (d : Fin 2048) (f : Fin 1408) :
    val_main_v13 (F := Ideal) x0 x1 x2 (ix4 l b d f) = Cert.Kernel3Ideal.Gw.prod3 x0 x1 x2 (ix4 l b d f) := by
  have hc : ∀ h, (⟨b.val * 1408 + f.val, h⟩ : Fin 5632) = col b.val f := fun h => Fin.ext (by have := b.isLt; show b.val * 1408 + f.val = 1408 * (b.val % 4) + f.val; omega)
  pointwise [val_main_v13, val_main_v12, val_main_v11, val_main_v10, val_main_v9, val_main_v8, val_main_v7, val_main_v6, val_main_v5, val_main_v4, val_main_v3, val_main_v1]
  by_cases hl : l.val = 0
  · rw [dif_pos (by omega)]
    refine Eq.trans ?_ (if_pos hl).symm
    refine Finset.sum_congr rfl fun s _ => ?_
    rw [hc]
    exact mul_comm (G := EReal) _ _
  · rw [dif_neg (by omega)]
    refine Eq.trans ?_ (if_neg hl).symm
    rw [show l = 1 from Fin.ext (by have := l.isLt; show l.val = 1; omega)]

theorem v13_eq (x0 : Mat S8192x2048 .bf16) (x1 : Mat S8192x5632 .bf16) (x2 : Mat S2x4x2048x1408 .bf16) :
    val_main_v13 (F := Ideal) x0 x1 x2 = Cert.Kernel3Ideal.Gw.prod3 x0 x1 x2 := by
  funext y
  rw [← ix4_eta (n0 := 2) (n1 := 4) (n2 := 2048) (n3 := 1408) y]
  exact v13_at x0 x1 x2 (y 0) (y 1) (y 2) (y 3)

end Cert.Reference3Ideal.Gw

namespace Cert.Proof

open Idealize.ShloMosaic Idealize.ShloMosaic.TcCoe Idealize.SL.Sem

theorem frame3_reference : Cert.quiescent_Reference3Ideal := fun m ρ _ =>
  (θ_run _ _ _).mono (fun r h => ⟨fun c => (h c).2, sem_eq_zero_of_no_sems (by decide) r.2⟩) (Cert.Reference3Ideal.Value.run m ρ)

theorem algebraic3 : Cert.algebraic_Kernel3Ideal_Reference3Ideal (hKernel3Ideal := Cert.Kernel3Ideal.Gen.facts) (hReference3Ideal := Cert.Reference3Ideal.Gen.facts) := by
  intro m g m' g' _ hargs
  refine ⟨fun c => _, Cert.Kernel3Ideal.Value.run_blocks m g, ?_⟩
  refine (θ_run _ _ _).mono (fun r h c => ?_) (Cert.Reference3Ideal.Value.run m' g')
  obtain ⟨r0, rest⟩ := h c
  obtain ⟨e0, e1, e2⟩ := hargs c
  refine ⟨?_, rest⟩
  rw [r0, Cert.Reference3Ideal.Read.val_main_v13_eq, e0, e1, e2, Cert.Reference3Ideal.Gw.v13_eq]
  exact (Cert.Kernel3Ideal.Gw.final_eq m c).symm

end Cert.Proof

end
-- ==== Proof.Gw1.lean ====
/-
  The weight gradients of the gate and up projections at the second layer: what a point leaves in the running block, and what the last point of four writes out.
-/
module

public import proofs.«01_k».proof.Proof.GwOut
public import proofs.«01_k».proof.Proof.Gen.Kernel8Ideal.Frame
public import proofs.«01_k».proof.Proof.Gen.Reference8Ideal.Read
public import Idealize.ShloMosaic.Lib.StableHlo.RunRead

@[expose] public section

set_option maxRecDepth 16384

noncomputable section

namespace Cert.Kernel8Ideal.Gw

open Idealize.ShloMosaic Idealize.ShloMosaic.TcCoe Idealize.ShloMosaic.Pointwise Cert.Kernel8Ideal.Gen Cert.Kernel8Ideal
open Cert.Kernel2Ideal.Gate (Mat col)
open Cert.Kernel3Ideal.Gw (zz zzzz tok wrow div16 whole chunk chunk_mod chunks unit_index)

/-- The first of four points starts the block. -/
theorem acc_first (c) (i) (arg3) (harg3) (arg4) (harg4) (arg5) (harg5) (arg6) (harg6) (hc0) (hc1) (x0) (x1) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x1408) zz, View.readCov_unit_zero (S := S1024x1408) _ zz]
  simp only [View.readAt_eq_ld, harg3.read_unread, harg4.read_unread, harg6.read_unread, View.ld_unit_zero (S := S2048x1024) zz, View.ld_unit_zero (S := S2048x1408) zz, View.ld_unit_zero (S := S1024x1408) zz, shapeCast_self]

/-- The middle points add to it. -/
theorem acc_mid (c) (i) (arg3) (harg3) (arg4) (harg4) (arg5) (harg5) (arg6) (harg6) (hc0) (hc1) (x0) (x1) (xs) :
    sout0_B_0 (F := Ideal) c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  try sl_unfold_words
  rw [View.canon_unit_zero zz]
  simp only [View.readAt_eq_ld, harg3.read_unread, harg4.read_unread, harg6.read_unread, View.ld_unit_zero (S := S2048x1024) zz, View.ld_unit_zero (S := S2048x1408) zz, View.ld_unit_zero (S := S1024x1408) zz, shapeCast_self]

/-- The last point writes the block out. -/
theorem out_last (c) (i) (arg3) (harg3) (arg4) (harg4) (arg5) (harg5) (arg6) (harg6) (hc0) (hc1) (x0) (x1) (xs) :
    out0_C_2 (F := Ideal) c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  try sl_unfold_words
  rw [View.canon_unit_zero zzzz]
  simp only [View.readAt_eq_ld, harg3.read_unread, harg4.read_unread, harg6.read_unread, View.readCov_unit_zero (S := S1024x1408) _ zz, View.ld_unit_zero (S := S2048x1024) zz, View.ld_unit_zero (S := S2048x1408) zz, View.ld_unit_zero (S := S1024x1408) zz, shapeCast_self]

variable (m : (ℓ : Loc nD τ sig) → Buf (Elt Ideal) ℓ) (c : Dev nD)

theorem outs_congr {n n' : ℕ} (e : n = n') (h : n < cfg0.N) (h' : n' < cfg0.N) : outsAt0 m c n h = outsAt0 m c n' h' := by
  subst e; rfl

/-- What a point writes is what it leaves. -/
theorem flushed_cut (t : Fin cfg0.N) : (dats m 0 c).flushed 2 t = (cfg0.win 2).cut (grid0.coords t) ((outsAt0 m c t.val t.isLt).1) := by
  show (cfg0.win 2).cut (grid0.coords t) ((dats m 0 c).after 2 t) = _
  rw [after0_2]

theorem first_at (n : ℕ) (h : n < cfg0.N) (h0 : n % 4 = 0) :
    (outsAt0 m c n h).2 = k0_pay2 (F := Ideal) (k0_pay1 (F := Ideal)) (iblk m c 0 ⟨n, h⟩) (iblk m c 1 ⟨n, h⟩) := by
  have e := outsAt0_A m c ⟨n, h⟩ h0 (by show ¬n % 4 = 3; omega)
  dsimp only at e
  rw [e]
  dsimp only
  rw [acc_first]

theorem mid_at (n : ℕ) (h : n + 1 < cfg0.N) (h0 : ¬(n + 1) % 4 = 0) (h1 : ¬(n + 1) % 4 = 3) :
    (outsAt0 m c (n + 1) h).2 = k0_pay2 (F := Ideal) (outsAt0 m c n (Nat.lt_of_succ_lt h)).2 (iblk m c 0 ⟨n + 1, h⟩) (iblk m c 1 ⟨n + 1, h⟩) := by
  have e := outsAt0_B m c ⟨n + 1, h⟩ h0 h1
  dsimp only at e
  rw [e]
  dsimp only
  rw [acc_mid, outs_congr m c (Nat.add_sub_cancel n 1) _ (Nat.lt_of_succ_lt h)]

theorem last_at (n : ℕ) (h : n + 1 < cfg0.N) (h0 : (n + 1) % 4 = 3) :
    (dats m 0 c).flushed 2 ⟨n + 1, h⟩ = k0_pay3 (F := Ideal) (k0_pay2 (F := Ideal) (outsAt0 m c n (Nat.lt_of_succ_lt h)).2 (iblk m c 0 ⟨n + 1, h⟩) (iblk m c 1 ⟨n + 1, h⟩)) := by
  rw [flushed_cut, outsAt0_C m c ⟨n + 1, h⟩ (by show ¬(n + 1) % 4 = 0; omega) h0]
  dsimp only
  rw [out_last, outs_congr m c (Nat.add_sub_cancel n 1) _ (Nat.lt_of_succ_lt h)]
  rfl

/-- What the last of four points writes. -/
theorem flushed_run (b : ℕ) (hb : b % 4 = 0) (h : b + 3 < cfg0.N) :
    (dats m 0 c).flushed 2 ⟨b + 3, h⟩ = k0_pay3 (F := Ideal) (k0_pay2 (F := Ideal) (k0_pay2 (F := Ideal) (k0_pay2 (F := Ideal) (k0_pay2 (F := Ideal) (k0_pay1 (F := Ideal))
      (iblk m c 0 ⟨b, by omega⟩) (iblk m c 1 ⟨b, by omega⟩)) (iblk m c 0 ⟨b + 1, by omega⟩) (iblk m c 1 ⟨b + 1, by omega⟩))
      (iblk m c 0 ⟨b + 2, by omega⟩) (iblk m c 1 ⟨b + 2, by omega⟩)) (iblk m c 0 ⟨b + 3, h⟩) (iblk m c 1 ⟨b + 3, h⟩)) := by
  rw [last_at m c (b + 2) h (by omega), mid_at m c (b + 1) (by omega) (by omega) (by omega), mid_at m c b (by omega) (by omega) (by omega), first_at m c b (by omega) hb]

/-- A point's step is the one the first layer's run takes. -/
theorem pay1_eq : k0_pay1 (F := Ideal) = Cert.Kernel3Ideal.Gen.k0_pay1 (F := Ideal) := rfl
theorem pay2_eq : k0_pay2 (F := Ideal) = Cert.Kernel3Ideal.Gen.k0_pay2 (F := Ideal) := rfl
theorem pay3_eq : k0_pay3 (F := Ideal) = Cert.Kernel3Ideal.Gen.k0_pay3 (F := Ideal) := rfl

theorem index0 : ∀ t : Fin cfg0.N, win0_0.index t = ![t.val % 4, t.val / 16] := (by decide +kernel : ∀ t : Fin grid0.N, _)
theorem index1 : ∀ t : Fin cfg0.N, win0_1.index t = ![t.val % 4, t.val / 4 % 4] := (by decide +kernel : ∀ t : Fin grid0.N, _)
theorem index2 : ∀ t : Fin cfg0.N, win0_2.index t = ![1, t.val / 4 % 4, t.val / 16, 0] := (by decide +kernel : ∀ t : Fin grid0.N, _)

theorem blk0 (A : Mat S8192x2048 .bf16) (t : Fin cfg0.N) (s : Fin 2048) (d : Fin 1024) :
    ((cfg0.win 0).blk t).view.read (Elt Ideal) A (ix2 s d) = A (ix2 (tok t.val s) (wrow t.val d)) := by
  have e : t.val / 16 % 2 = t.val / 16 := by have h : t.val < 32 := t.isLt; omega
  blk_ext [index0, tok, wrow, e]

theorem blk1 (A : Mat S8192x5632 .bf16) (t : Fin cfg0.N) (s : Fin 2048) (f : Fin 1408) :
    ((cfg0.win 1).blk t).view.read (Elt Ideal) A (ix2 s f) = A (ix2 (tok t.val s) (col (t.val / 4) f)) := by
  blk_ext [index1, tok, col]

theorem blk2 (A : Mat S2x4x2048x1408 .bf16) (t : Fin cfg0.N) (d : Fin 1024) (f : Fin 1408) :
    ((cfg0.win 2).blk t).view.read (Elt Ideal) A (ix4 0 0 d f) = A (ix4 1 ⟨t.val / 4 % 4, by omega⟩ (wrow t.val d) f) := by
  have e : t.val / 16 % 2 = t.val / 16 := by have h : t.val < 32 := t.isLt; omega
  blk_ext [index2, wrow, e]

/-- The products' sum over the tokens, laid out as the layers' stack. -/
def prod8 (x0 : Mat S8192x2048 .bf16) (x1 : Mat S8192x5632 .bf16) : Mat S2x4x2048x1408 .bf16 := fun y =>
  whole x0 x1 (y 2) (col (y 1).val (y 3))

/-- A point's step at an element. -/
theorem pay_at (n : ℕ) (h : n < cfg0.N) (acc : Mat S1024x1408 .f32) (d : Fin 1024) (f : Fin 1408) :
    k0_pay2 (F := Ideal) acc (iblk m c 0 ⟨n, h⟩) (iblk m c 1 ⟨n, h⟩) (ix2 d f)
      = (acc (ix2 d f) : EReal) + chunk (m ((c : Thread nD τ).loc main_arg0)) (m ((c : Thread nD τ).loc main_arg1)) n (wrow n d) (col (n / 4) f) := by
  have e0 : ∀ s : Fin 2048, iblk m c 0 ⟨n, h⟩ (ix2 s d) = m ((c : Thread nD τ).loc main_arg0) (ix2 (tok n s) (wrow n d)) := fun s =>
    (congrFun (congrArg (fun A => ((cfg0.win 0).blk ⟨n, h⟩).view.read (Elt Ideal) A) (V_main_arg0 m c)) (ix2 s d)).trans (blk0 _ ⟨n, h⟩ s d)
  have e1 : ∀ s : Fin 2048, iblk m c 1 ⟨n, h⟩ (ix2 s f) = m ((c : Thread nD τ).loc main_arg1) (ix2 (tok n s) (col (n / 4) f)) := fun s =>
    (congrFun (congrArg (fun A => ((cfg0.win 1).blk ⟨n, h⟩).view.read (Elt Ideal) A) (V_main_arg1 m c)) (ix2 s f)).trans (blk1 _ ⟨n, h⟩ s f)
  rw [pay2_eq]
  refine (Cert.Kernel3Ideal.Gw.pay2_at acc _ _ d f).trans ?_
  unfold chunk
  simp only [e0, e1]

/-- What the last of four points writes, at an element. -/
theorem flushed_at (b : ℕ) (hb : b % 4 = 0) (h : b + 3 < cfg0.N) (d : Fin 1024) (f : Fin 1408) :
    (dats m 0 c).flushed 2 ⟨b + 3, h⟩ (ix4 0 0 d f) = whole (m ((c : Thread nD τ).loc main_arg0)) (m ((c : Thread nD τ).loc main_arg1)) (wrow b d) (col (b / 4) f) := by
  have hw : ∀ j, j < 4 → wrow (b + j) d = wrow b d := fun j hj => Fin.ext (by show 1024 * ((b + j) / 16 % 2) + _ = 1024 * (b / 16 % 2) + _; rw [show (b + j) / 16 = b / 16 by omega])
  have hc : ∀ j, j < 4 → (b + j) / 4 = b / 4 := fun j hj => by omega
  refine (congrFun (flushed_run m c b hb h) (ix4 0 0 d f)).trans ?_
  rw [pay3_eq, Cert.Kernel3Ideal.Gw.pay3_at, pay_at, pay_at, pay_at, pay_at, pay1_eq, Cert.Kernel3Ideal.Gw.pay1_at, hw 3 (by omega), hw 2 (by omega), hw 1 (by omega), hc 3 (by omega), hc 2 (by omega), hc 1 (by omega),
    chunk_mod _ _ b 3 hb, chunk_mod _ _ b 2 hb, chunk_mod _ _ b 1 hb, show chunk _ _ b = chunk _ _ 0 from chunk_mod _ _ b 0 hb]
  exact chunks _ _ _ _

/-- What a point that writes, writes. -/
theorem flushed_eq (t : Fin cfg0.N) (hf : (cfg0.win 2).flush t = true) :
    (dats m 0 c).flushed 2 t = ((cfg0.win 2).blk t).view.read (Elt Ideal) (prod8 (m ((c : Thread nD τ).loc main_arg0)) (m ((c : Thread nD τ).loc main_arg1))) := by
  have h3 : t.val % 4 = 3 := (flush0_2 t).mp hf
  obtain ⟨n, hn⟩ := t
  obtain ⟨b, rfl⟩ : ∃ b, n = b + 3 := ⟨n - 3, by have : n % 4 = 3 := h3; omega⟩
  have hb : b % 4 = 0 := by have : (b + 3) % 4 = 3 := h3; omega
  funext y
  obtain ⟨d, f, rfl⟩ := unit_index y
  refine (flushed_at m c b hb hn d f).trans ((blk2 _ ⟨b + 3, hn⟩ d f).trans ?_).symm
  have hw : wrow (b + 3) d = wrow b d := Fin.ext (by show 1024 * ((b + 3) / 16 % 2) + _ = 1024 * (b / 16 % 2) + _; rw [show (b + 3) / 16 = b / 16 by omega])
  have hc : col ((b + 3) / 4 % 4) f = col (b / 4) f := Fin.ext (by show 1408 * ((b + 3) / 4 % 4 % 4) + _ = 1408 * (b / 4 % 4) + _; rw [show (b + 3) / 4 = b / 4 by omega]; omega)
  show whole (m ((c : Thread nD τ).loc main_arg0)) (m ((c : Thread nD τ).loc main_arg1)) (wrow (b + 3) d) (col ((b + 3) / 4 % 4) f) = _
  rw [hw, hc]

/-- The second layer's part of the array the kernel leaves. -/
theorem final_at (b : Fin 4) (d : Fin 2048) (f : Fin 1408) :
    (dats m 0 c).arrAt 2 cfg0.N (ix4 1 b d f) = whole (m ((c : Thread nD τ).loc main_arg0)) (m ((c : Thread nD τ).loc main_arg1)) d (col b.val f) := by
  have hb := b.isLt
  have hd := d.isLt
  have hf := f.isLt
  have ht : 16 * (d.val / 1024) + 4 * b.val + 3 < cfg0.N := by
    show _ < 32
    omega
  refine (dats m 0 c).arrAt_apply_of_mem 2 _ (flushed_eq m c) cfg0.N ⟨_, ht⟩ (ix4 1 b d f) ht ((flush0_2 _).mpr (by show (16 * (d.val / 1024) + 4 * b.val + 3) % 4 = 3; omega)) ?_
  mem_blk [index2]
  show (1 ≤ 1 ∧ 1 < 1 + 1) ∧ ((16 * (d.val / 1024) + 4 * b.val + 3) / 4 % 4 ≤ b.val ∧ b.val < (16 * (d.val / 1024) + 4 * b.val + 3) / 4 % 4 + 1)
    ∧ ((16 * (d.val / 1024) + 4 * b.val + 3) / 16 * 1024 ≤ d.val ∧ d.val < (16 * (d.val / 1024) + 4 * b.val + 3) / 16 * 1024 + 1024) ∧ 0 ≤ f.val ∧ f.val < 1408
  clear ht
  omega

/-- The second layer's part of a stack, on its own. -/
def second (A : Mat S2x4x2048x1408 .bf16) : Mat S4x2048x1408 .bf16 :=
  shapeCast S4x2048x1408 (extractStridedSlice S1x4x2048x1408 ![1, 0, 0, 0] A slices_S2x4x2048x1408_S1x4x2048x1408_1_0_0_0) shapeCasts_S1x4x2048x1408_S4x2048x1408

theorem second_at (A : Mat S2x4x2048x1408 .bf16) (b : Fin 4) (d : Fin 2048) (f : Fin 1408) : second A (ix3 b d f) = A (ix4 1 b d f) := by
  pointwise [second]

/-- The result after the lines that follow the kernel. -/
theorem tail_eq : Pipeline.afterTail₀ cfgs (dats m) 0 (V0 m) [hostOps1] c main_v2 = second ((dats m 0 c).arrAt 2 cfg0.N) := by
  have e := Pipeline.withArrays_arr spec0 winFacts0.arr_inj c (V0 m c) (fun w => (dats m 0 c).arrAt w cfg0.N) 2
  unfold Pipeline.afterTail₀
  show StableHlo.after hostOps1 (Pipeline.withArrays spec0 c (V0 m c) fun w => (dats m 0 c).arrAt w cfg0.N) (Proc.devRef .tc main_v2) = _
  after_results_simp
  exact congrArg second e

theorem tail_at (b : Fin 4) (d : Fin 2048) (f : Fin 1408) :
    Pipeline.afterTail₀ cfgs (dats m) 0 (V0 m) [hostOps1] c main_v2 (ix3 b d f)
      = whole (m ((c : Thread nD τ).loc main_arg0)) (m ((c : Thread nD τ).loc main_arg1)) d (col b.val f) := by
  rw [tail_eq]
  exact (second_at _ b d f).trans (final_at m c b d f)

/-- What a run leaves. -/
theorem run_all (ρ : Dev nD → PrngReg) : θ_run defs (onTc (τ := τ) (main (F := Ideal))) ⟨m, fun _ => 0, ρ⟩ fun r => ∀ c : Dev nD,
      r.2.mem ((c : Thread nD τ).loc main_v2) = Pipeline.afterTail₀ cfgs (dats m) 0 (V0 m) [hostOps1] c main_v2
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c).2 main_v2 (by decide), h.2 c⟩) (θ_run_and (run_main m ρ) (unchanged m ρ))

end Cert.Kernel8Ideal.Gw

namespace Cert.Reference8Ideal.Gw

open Idealize.ShloMosaic Idealize.ShloMosaic.Pointwise Cert.Reference8Ideal.Gen Cert.Reference8Ideal Cert.Reference8Ideal.Read
open Cert.Kernel2Ideal.Gate (Mat col)

theorem v8_at (x0 : Mat S8192x2048 .bf16) (x1 : Mat S8192x5632 .bf16) (b : Fin 4) (d : Fin 2048) (f : Fin 1408) :
    val_main_v8 (F := Ideal) x0 x1 (ix3 b d f) = Cert.Kernel3Ideal.Gw.whole x0 x1 d (col b.val f) := by
  have hc : ∀ h, (⟨b.val * 1408 + f.val, h⟩ : Fin 5632) = col b.val f := fun h => Fin.ext (by have := b.isLt; show b.val * 1408 + f.val = 1408 * (b.val % 4) + f.val; omega)
  pointwise [val_main_v8, val_main_v7, val_main_v6, val_main_v5, val_main_v4, val_main_v3, val_main_v1]
  refine Finset.sum_congr rfl fun s _ => ?_
  rw [hc]
  exact mul_comm (G := EReal) _ _

end Cert.Reference8Ideal.Gw

namespace Cert.Proof

open Idealize.ShloMosaic Idealize.ShloMosaic.TcCoe Idealize.ShloMosaic.Pointwise Idealize.SL.Sem

theorem frame8_reference : Cert.quiescent_Reference8Ideal := fun m ρ _ =>
  (θ_run _ _ _).mono (fun r h => ⟨fun c => (h c).2, sem_eq_zero_of_no_sems (by decide) r.2⟩) (Cert.Reference8Ideal.Value.run m ρ)

theorem algebraic8 : Cert.algebraic_Kernel8Ideal_Reference8Ideal (hKernel8Ideal := Cert.Kernel8Ideal.Gen.facts) (hReference8Ideal := Cert.Reference8Ideal.Gen.facts) := by
  intro m g m' g' _ hargs
  refine ⟨fun c => _, Cert.Kernel8Ideal.Gw.run_all m g, ?_⟩
  refine (θ_run _ _ _).mono (fun r h c => ?_) (Cert.Reference8Ideal.Value.run m' g')
  obtain ⟨r0, rest⟩ := h c
  obtain ⟨e0, e1⟩ := hargs c
  refine ⟨?_, rest⟩
  rw [r0, Cert.Reference8Ideal.Read.val_main_v8_eq, e0, e1]
  funext y
  rw [← ix3_eta (n0 := 4) (n1 := 2048) (n2 := 1408) y]
  exact (Cert.Reference8Ideal.Gw.v8_at _ _ (y 0) (y 1) (y 2)).trans (Cert.Kernel8Ideal.Gw.tail_at m c (y 0) (y 1) (y 2)).symm

end Cert.Proof

end
-- ==== Proof.Gd.lean ====
/-
  The weight gradients of the down projection: what a point leaves in the running block, and what the last point of four writes out.
-/
module

public import proofs.«01_k».proof.Defs
public import proofs.«01_k».proof.Proof.Gate
public import proofs.«01_k».proof.Proof.Gen.Kernel4Ideal.Value
public import Idealize.ShloMosaic.Lib.Pipeline.ValueKit.Geometry
public import Idealize.ShloMosaic.Lib.Pointwise

@[expose] public section

set_option maxRecDepth 16384

noncomputable section

namespace Cert.Kernel4Ideal.Gd

open Idealize.ShloMosaic Idealize.ShloMosaic.TcCoe Idealize.ShloMosaic.Pointwise Cert.Kernel4Ideal.Gen Cert.Kernel4Ideal Cert.Kernel4Ideal.Value
open Cert.Kernel2Ideal.Gate (Mat)

theorem zz : (![0, 0] : Fin 2 → ℕ) = fun _ => 0 := by decide
theorem zzz : (![0, 0, 0] : Fin 3 → ℕ) = fun _ => 0 := by decide

/-- The first of four points starts the block. -/
theorem acc_first (c) (i) (arg3) (harg3) (arg4) (harg4) (arg6) (harg6) (arg7) (harg7) (hc0) (hc1) (x0) (x1) :
    sout0_A_0 (F := Ideal) c i arg3 harg3 arg4 harg4 arg6 harg6 arg7 harg7 hc0 hc1 x0 x1 = k0_pay2 (k0_pay1 (F := Ideal)) x0 x1 := by
  unfold sout0_A_0
  rw [View.read_writes_eq_canon _ _ _ (scover0_A_0 c i arg3 harg3 arg4 harg4 arg6 harg6 arg7 harg7 hc0 hc1 x0 x1)]
  unfold kernelRun0_A
  dsimp only
  try sl_unfold_words
  rw [View.canon_cons_unit_zero (S := S1408x1024) zz, View.readCov_unit_zero (S := S1408x1024) _ zz]
  simp only [View.readAt_eq_ld, harg3.read_unread, harg4.read_unread, harg7.read_unread, View.ld_unit_zero (S := S2048x1024) zz, View.ld_unit_zero (S := S2048x1408) zz, View.ld_unit_zero (S := S1408x1024) zz, shapeCast_self]

/-- The middle points add to it. -/
theorem acc_mid (c) (i) (arg3) (harg3) (arg4) (harg4) (arg6) (harg6) (arg7) (harg7) (hc0) (hc1) (x0) (x1) (xs) :
    sout0_B_0 (F := Ideal) c i arg3 harg3 arg4 harg4 arg6 harg6 arg7 harg7 hc0 hc1 x0 x1 xs = k0_pay2 xs x0 x1 := by
  unfold sout0_B_0
  rw [View.read_writes_eq_canon _ _ _ (scover0_B_0 c i arg3 harg3 arg4 harg4 arg6 harg6 arg7 harg7 hc0 hc1 x0 x1 xs)]
  unfold kernelRun0_B
  dsimp only
  try sl_unfold_words
  rw [View.canon_unit_zero zz]
  simp only [View.readAt_eq_ld, harg3.read_unread, harg4.read_unread, harg7.read_unread, View.ld_unit_zero (S := S2048x1024) zz, View.ld_unit_zero (S := S2048x1408) zz, View.ld_unit_zero (S := S1408x1024) zz, shapeCast_self]

/-- The last point writes the block out. -/
theorem out_last (c) (i) (arg3) (harg3) (arg4) (harg4) (arg6) (harg6) (arg7) (harg7) (hc0) (hc1) (x0) (x1) (xs) :
    out0_C_2 (F := Ideal) c i arg3 harg3 arg4 harg4 arg6 harg6 arg7 harg7 hc0 hc1 x0 x1 xs = k0_pay3 (k0_pay2 xs x0 x1) := by
  unfold out0_C_2
  rw [View.read_writes_eq_canon _ _ _ (cover0_C_2 c i arg3 harg3 arg4 harg4 arg6 harg6 arg7 harg7 hc0 hc1 x0 x1 xs)]
  unfold kernelRun0_C
  dsimp only
  try sl_unfold_words
  rw [View.canon_unit_zero zzz]
  simp only [View.readAt_eq_ld, harg3.read_unread, harg4.read_unread, harg7.read_unread, View.readCov_unit_zero (S := S1408x1024) _ zz, View.ld_unit_zero (S := S2048x1024) zz, View.ld_unit_zero (S := S2048x1408) zz, View.ld_unit_zero (S := S1408x1024) zz, shapeCast_self]

variable (m : (ℓ : Loc nD τ sig) → Buf (Elt Ideal) ℓ) (c : Dev nD)

theorem outs_congr {n n' : ℕ} (e : n = n') (h : n < cfg0.N) (h' : n' < cfg0.N) : outsAt0 m c n h = outsAt0 m c n' h' := by
  subst e; rfl

theorem first_at (n : ℕ) (h : n < cfg0.N) (h0 : n % 4 = 0) :
    (outsAt0 m c n h).2 = k0_pay2 (F := Ideal) (k0_pay1 (F := Ideal)) (iblk m c 0 ⟨n, h⟩) (iblk m c 1 ⟨n, h⟩) := by
  have e := outsAt0_A m c ⟨n, h⟩ h0 (by show ¬n % 4 = 3; omega)
  dsimp only at e
  rw [e]
  dsimp only
  rw [acc_first]

theorem mid_at (n : ℕ) (h : n + 1 < cfg0.N) (h0 : ¬(n + 1) % 4 = 0) (h1 : ¬(n + 1) % 4 = 3) :
    (outsAt0 m c (n + 1) h).2 = k0_pay2 (F := Ideal) (outsAt0 m c n (Nat.lt_of_succ_lt h)).2 (iblk m c 0 ⟨n + 1, h⟩) (iblk m c 1 ⟨n + 1, h⟩) := by
  have e := outsAt0_B m c ⟨n + 1, h⟩ h0 h1
  dsimp only at e
  rw [e]
  dsimp only
  rw [acc_mid, outs_congr m c (Nat.add_sub_cancel n 1) _ (Nat.lt_of_succ_lt h)]

theorem last_at (n : ℕ) (h : n + 1 < cfg0.N) (h0 : (n + 1) % 4 = 3) :
    (dats m 0 c).flushed 2 ⟨n + 1, h⟩ = k0_pay3 (F := Ideal) (k0_pay2 (F := Ideal) (outsAt0 m c n (Nat.lt_of_succ_lt h)).2 (iblk m c 0 ⟨n + 1, h⟩) (iblk m c 1 ⟨n + 1, h⟩)) := by
  rw [flushed2_C m c ⟨n + 1, h⟩ (by show ¬(n + 1) % 4 = 0; omega) h0, out_last, outs_congr m c (Nat.add_sub_cancel n 1) _ (Nat.lt_of_succ_lt h)]
  rfl

/-- What the last of four points writes. -/
theorem flushed_run (b : ℕ) (hb : b % 4 = 0) (h : b + 3 < cfg0.N) :
    (dats m 0 c).flushed 2 ⟨b + 3, h⟩ = k0_pay3 (F := Ideal) (k0_pay2 (F := Ideal) (k0_pay2 (F := Ideal) (k0_pay2 (F := Ideal) (k0_pay2 (F := Ideal) (k0_pay1 (F := Ideal))
      (iblk m c 0 ⟨b, by omega⟩) (iblk m c 1 ⟨b, by omega⟩)) (iblk m c 0 ⟨b + 1, by omega⟩) (iblk m c 1 ⟨b + 1, by omega⟩))
      (iblk m c 0 ⟨b + 2, by omega⟩) (iblk m c 1 ⟨b + 2, by omega⟩)) (iblk m c 0 ⟨b + 3, h⟩) (iblk m c 1 ⟨b + 3, h⟩)) := by
  rw [last_at m c (b + 2) h (by omega), mid_at m c (b + 1) (by omega) (by omega) (by omega), mid_at m c b (by omega) (by omega) (by omega), first_at m c b (by omega) hb]

end Cert.Kernel4Ideal.Gd

end
-- ==== Proof.GdOut.lean ====
/-
  The weight gradient of the down projection: the kernel's blocks, equal to the reference's product.
-/
module

public import proofs.«01_k».proof.Proof.Gd
public import proofs.«01_k».proof.Proof.GwOut
public import proofs.«01_k».proof.Proof.Gen.Reference4Ideal.Read
public import Idealize.ShloMosaic.Lib.StableHlo.RunRead

@[expose] public section

set_option maxRecDepth 16384

noncomputable section

namespace Cert.Kernel4Ideal.Gd

open Idealize.ShloMosaic Idealize.ShloMosaic.TcCoe Idealize.ShloMosaic.Pointwise Cert.Kernel4Ideal.Gen Cert.Kernel4Ideal Cert.Kernel4Ideal.Value
open Cert.Kernel2Ideal.Gate (Mat col)
open Cert.Kernel3Ideal.Gw (tok sum_toks)

/-- One half. -/
def half : EReal := Ideal.ofBits .f32 0x3F000000#32

theorem half_eq : half = ((2⁻¹ : ℝ) : EReal) := by
  unfold half
  simp [Ideal.ofBits, Ideal.ieee, -EReal.coe_mul]
  norm_num

theorem half_add (x y : EReal) : half * (x + y) = half * x + half * y :=
  EReal.left_distrib_of_nonneg_of_ne_top (by rw [half_eq]; exact_mod_cast (by norm_num : (0 : ℝ) ≤ 2⁻¹)) (by rw [half_eq]; exact EReal.coe_ne_top _) x y

theorem half_sum {n : ℕ} (g : Fin n → EReal) : half * ∑ k, g k = ∑ k, half * g k := by
  induction n with
  | zero => simp
  | succ n ih => rw [Fin.sum_univ_castSucc, Fin.sum_univ_castSucc, half_add, ih]

theorem pay1_at (f : Fin 1408) (d : Fin 1024) : k0_pay1 (F := Ideal) (ix2 f d) = (0 : EReal) := by
  pointwise [k0_pay1]

theorem pay2_at (acc : Mat S1408x1024 .f32) (a : Mat S2048x1408 .bf16) (b : Mat S2048x1024 .f32) (f : Fin 1408) (d : Fin 1024) :
    k0_pay2 (F := Ideal) acc a b (ix2 f d) = (acc (ix2 f d) : EReal) + ∑ s : Fin 2048, (a (ix2 s f) : EReal) * b (ix2 s d) := by
  pointwise [k0_pay2]

theorem pay3_at (acc : Mat S1408x1024 .f32) (f : Fin 1408) (d : Fin 1024) :
    k0_pay3 (F := Ideal) acc (ix3 0 f d) = half * (acc (ix2 f d) : EReal) := by
  pointwise [k0_pay3]
  rfl

theorem index0 : ∀ t : Fin cfg0.N, win0_0.index t = ![t.val % 4, t.val / 8] := (by decide +kernel : ∀ t : Fin grid0.N, _)
theorem index1 : ∀ t : Fin cfg0.N, win0_1.index t = ![t.val % 4, t.val / 4 % 2] := (by decide +kernel : ∀ t : Fin grid0.N, _)
theorem index2 : ∀ t : Fin cfg0.N, win0_2.index t = ![0, t.val / 8, t.val / 4 % 2] := (by decide +kernel : ∀ t : Fin grid0.N, _)

/-- Column `d` of the block of weights at point `t`. -/
def wcol (t : ℕ) (d : Fin 1024) : Fin 2048 := ⟨1024 * (t / 4 % 2) + d.val, by omega⟩

theorem div8 (t : Fin cfg0.N) : t.val / 8 % 4 = t.val / 8 := by have h : t.val < 32 := t.isLt; omega

theorem blk0 (A : Mat S8192x5632 .bf16) (t : Fin cfg0.N) (s : Fin 2048) (f : Fin 1408) :
    ((cfg0.win 0).blk t).view.read (Elt Ideal) A (ix2 s f) = A (ix2 (tok t.val s) (col (t.val / 8) f)) := by
  blk_ext [index0, tok, col, div8]

theorem blk1 (A : Mat S8192x2048 .f32) (t : Fin cfg0.N) (s : Fin 2048) (d : Fin 1024) :
    ((cfg0.win 1).blk t).view.read (Elt Ideal) A (ix2 s d) = A (ix2 (tok t.val s) (wcol t.val d)) := by
  blk_ext [index1, tok, wcol]

theorem blk2 (A : Mat S2x5632x2048 .bf16) (t : Fin cfg0.N) (f : Fin 1408) (d : Fin 1024) :
    ((cfg0.win 2).blk t).view.read (Elt Ideal) A (ix3 0 f d) = A (ix3 0 (col (t.val / 8) f) (wcol t.val d)) := by
  blk_ext [index2, wcol, col, div8]

/-- One weight's sum over the tokens. -/
def whole (x0 : Mat S8192x5632 .bf16) (x1 : Mat S8192x2048 .f32) (f : Fin 5632) (d : Fin 2048) : EReal :=
  ∑ s : Fin 8192, (x0 (ix2 s f) : EReal) * x1 (ix2 s d)

/-- Its sum over one chunk. -/
def chunk (x0 : Mat S8192x5632 .bf16) (x1 : Mat S8192x2048 .f32) (k : ℕ) (f : Fin 5632) (d : Fin 2048) : EReal :=
  ∑ s : Fin 2048, (x0 (ix2 (tok k s) f) : EReal) * x1 (ix2 (tok k s) d)

/-- Half the products' sum over the tokens in the layer's own half, the given array in the other. -/
def prod4 (x0 : Mat S8192x5632 .bf16) (x1 : Mat S8192x2048 .f32) (x2 : Mat S2x5632x2048 .bf16) : Mat S2x5632x2048 .bf16 := fun y =>
  if (y 0).val = 0 then half * whole x0 x1 (y 1) (y 2) else x2 y

theorem chunk_mod (x0 : Mat S8192x5632 .bf16) (x1 : Mat S8192x2048 .f32) (b j : ℕ) (hb : b % 4 = 0) : chunk x0 x1 (b + j) = chunk x0 x1 j := by
  have e : tok (b + j) = tok j := funext fun s => Fin.ext (by show 2048 * ((b + j) % 4) + _ = 2048 * (j % 4) + _; omega)
  funext f d
  unfold chunk
  rw [e]

theorem chunks (x0 : Mat S8192x5632 .bf16) (x1 : Mat S8192x2048 .f32) (f : Fin 5632) (d : Fin 2048) :
    0 + chunk x0 x1 0 f d + chunk x0 x1 1 f d + chunk x0 x1 2 f d + chunk x0 x1 3 f d = whole x0 x1 f d := by
  unfold whole
  rw [sum_toks, zero_add]
  rfl

variable (m : (ℓ : Loc nD τ sig) → Buf (Elt Ideal) ℓ) (c : Dev nD)

theorem V_v0 : V m c main_v0 = m ((c : Thread nD τ).loc main_arg2) := by
  dsimp only [V]
  after_reads_simp
  try simp -implicitDefEqProofs only [StableHlo.TRef.toBuf, StableHlo.TRef.ofBuf, cast_cast, cast_eq]
  rfl

/-- A point's step at an element. -/
theorem pay_at (n : ℕ) (h : n < cfg0.N) (acc : Mat S1408x1024 .f32) (f : Fin 1408) (d : Fin 1024) :
    k0_pay2 (F := Ideal) acc (iblk m c 0 ⟨n, h⟩) (iblk m c 1 ⟨n, h⟩) (ix2 f d)
      = (acc (ix2 f d) : EReal) + chunk (m ((c : Thread nD τ).loc main_arg0)) (m ((c : Thread nD τ).loc main_arg1)) n (col (n / 8) f) (wcol n d) := by
  have e0 : ∀ s : Fin 2048, iblk m c 0 ⟨n, h⟩ (ix2 s f) = m ((c : Thread nD τ).loc main_arg0) (ix2 (tok n s) (col (n / 8) f)) := fun s =>
    (congrFun (congrArg (fun A => ((cfg0.win 0).blk ⟨n, h⟩).view.read (Elt Ideal) A) (V_main_arg0 m c)) (ix2 s f)).trans (blk0 _ ⟨n, h⟩ s f)
  have e1 : ∀ s : Fin 2048, iblk m c 1 ⟨n, h⟩ (ix2 s d) = m ((c : Thread nD τ).loc main_arg1) (ix2 (tok n s) (wcol n d)) := fun s =>
    (congrFun (congrArg (fun A => ((cfg0.win 1).blk ⟨n, h⟩).view.read (Elt Ideal) A) (V_main_arg1 m c)) (ix2 s d)).trans (blk1 _ ⟨n, h⟩ s d)
  refine (pay2_at acc _ _ f d).trans ?_
  unfold chunk
  simp only [e0, e1]

/-- What the last of four points writes, at an element. -/
theorem flushed_at (b : ℕ) (hb : b % 4 = 0) (h : b + 3 < cfg0.N) (f : Fin 1408) (d : Fin 1024) :
    (dats m 0 c).flushed 2 ⟨b + 3, h⟩ (ix3 0 f d) = half * whole (m ((c : Thread nD τ).loc main_arg0)) (m ((c : Thread nD τ).loc main_arg1)) (col (b / 8) f) (wcol b d) := by
  have hw : ∀ j, j < 4 → wcol (b + j) d = wcol b d := fun j hj => Fin.ext (by show 1024 * ((b + j) / 4 % 2) + _ = 1024 * (b / 4 % 2) + _; rw [show (b + j) / 4 = b / 4 by omega])
  have hc : ∀ j, j < 4 → (b + j) / 8 = b / 8 := fun j hj => by omega
  refine (congrFun (flushed_run m c b hb h) (ix3 0 f d)).trans ?_
  rw [pay3_at, pay_at, pay_at, pay_at, pay_at, pay1_at, hw 3 (by omega), hw 2 (by omega), hw 1 (by omega), hc 3 (by omega), hc 2 (by omega), hc 1 (by omega),
    chunk_mod _ _ b 3 hb, chunk_mod _ _ b 2 hb, chunk_mod _ _ b 1 hb, show chunk _ _ b = chunk _ _ 0 from chunk_mod _ _ b 0 hb]
  exact congrArg (half * ·) (chunks _ _ _ _)

theorem unit_index {n p : ℕ} (y : (⟨3, ![1, n, p]⟩ : Shape).Idx) : ∃ (f : Fin n) (d : Fin p), y = ix3 0 f d :=
  ⟨y 1, y 2, by
    rw [← ix3_eta (n0 := 1) (n1 := n) (n2 := p) y]
    exact congrArg (fun a => ix3 a (y 1) (y 2)) (Subsingleton.elim _ _)⟩

/-- What a point that writes, writes. -/
theorem flushed_eq (t : Fin cfg0.N) (hf : (cfg0.win 2).flush t = true) :
    (dats m 0 c).flushed 2 t = ((cfg0.win 2).blk t).view.read (Elt Ideal) (prod4 (m ((c : Thread nD τ).loc main_arg0)) (m ((c : Thread nD τ).loc main_arg1)) (m ((c : Thread nD τ).loc main_arg2))) := by
  have h3 : t.val % 4 = 3 := (flush0_2 t).mp hf
  obtain ⟨n, hn⟩ := t
  obtain ⟨b, rfl⟩ : ∃ b, n = b + 3 := ⟨n - 3, by have : n % 4 = 3 := h3; omega⟩
  have hb : b % 4 = 0 := by have : (b + 3) % 4 = 3 := h3; omega
  funext y
  obtain ⟨f, d, rfl⟩ := unit_index y
  refine (flushed_at m c b hb hn f d).trans ((blk2 _ ⟨b + 3, hn⟩ f d).trans ?_).symm
  have hw : wcol (b + 3) d = wcol b d := Fin.ext (by show 1024 * ((b + 3) / 4 % 2) + _ = 1024 * (b / 4 % 2) + _; rw [show (b + 3) / 4 = b / 4 by omega])
  have hc : col ((b + 3) / 8) f = col (b / 8) f := by rw [show (b + 3) / 8 = b / 8 by omega]
  refine (if_pos rfl).trans ?_
  show half * whole (m ((c : Thread nD τ).loc main_arg0)) (m ((c : Thread nD τ).loc main_arg1)) (col ((b + 3) / 8) f) (wcol (b + 3) d) = _
  rw [hw, hc]

/-- The array the kernel leaves. -/
theorem final_eq : (dats m 0 c).arrAt 2 cfg0.N = prod4 (m ((c : Thread nD τ).loc main_arg0)) (m ((c : Thread nD τ).loc main_arg1)) (m ((c : Thread nD τ).loc main_arg2)) := by
  funext y
  have h0 : (y 0).val < 2 := (y 0).isLt
  have h1 : (y 1).val < 5632 := (y 1).isLt
  have h2 : (y 2).val < 2048 := (y 2).isLt
  by_cases hz : (y 0).val = 0
  · have hN : cfg0.N = 32 := N_0
    have ht : 8 * ((y 1).val / 1408) + 4 * ((y 2).val / 1024) + 3 < cfg0.N := by
      rw [hN]; clear hN; omega
    refine (dats m 0 c).arrAt_apply_of_mem 2 _ (flushed_eq m c) cfg0.N ⟨_, ht⟩ y ht ((flush0_2 _).mpr (by show (8 * ((y 1).val / 1408) + 4 * ((y 2).val / 1024) + 3) % 4 = 3; omega)) ?_
    mem_blk [index2]
    show (0 ≤ (y 0).val ∧ (y 0).val < 1)
      ∧ ((8 * ((y 1).val / 1408) + 4 * ((y 2).val / 1024) + 3) / 8 * 1408 ≤ (y 1).val ∧ (y 1).val < (8 * ((y 1).val / 1408) + 4 * ((y 2).val / 1024) + 3) / 8 * 1408 + 1408)
      ∧ ((8 * ((y 1).val / 1408) + 4 * ((y 2).val / 1024) + 3) / 4 % 2 * 1024 ≤ (y 2).val ∧ (y 2).val < (8 * ((y 1).val / 1408) + 4 * ((y 2).val / 1024) + 3) / 4 % 2 * 1024 + 1024)
    clear ht hN
    omega
  · refine (entry2 m c y fun t _ hm => hz ?_).trans ?_
    · mem_blk [index2] at hm
      exact Nat.lt_one_iff.mp hm.1.2
    · rw [prod4, if_neg hz]
      exact congrFun (V_v0 m c) y

end Cert.Kernel4Ideal.Gd

namespace Cert.Reference4Ideal.Gd

open Idealize.ShloMosaic Idealize.ShloMosaic.Pointwise Cert.Reference4Ideal.Gen Cert.Reference4Ideal Cert.Reference4Ideal.Read
open Cert.Kernel2Ideal.Gate (Mat col)
open Cert.Kernel4Ideal.Gd (half half_sum)

theorem v14_at (x0 : Mat S8192x5632 .bf16) (x1 : Mat S8192x2048 .f32) (x2 : Mat S2x5632x2048 .bf16) (l : Fin 2) (f : Fin 5632) (d : Fin 2048) :
    val_main_v14 (F := Ideal) x0 x1 x2 (ix3 l f d) = Cert.Kernel4Ideal.Gd.prod4 x0 x1 x2 (ix3 l f d) := by
  pointwise [val_main_v14, val_main_v13, val_main_v12, val_main_v11, val_main_v10, val_main_v9, val_main_v8, val_main_v7, val_main_v6, val_main_v5, val_main_cst_1, val_main_v1]
  by_cases hl : l.val = 0
  · rw [dif_pos (by omega)]
    refine Eq.trans ?_ (if_pos hl).symm
    refine Eq.trans ?_ (half_sum _).symm
    refine Finset.sum_congr rfl fun s _ => ?_
    show (half * (x1 (ix2 s d) : EReal)) * x0 (ix2 s f) = half * ((x0 (ix2 s f) : EReal) * x1 (ix2 s d))
    rw [mul_assoc, mul_comm (x1 (ix2 s d) : EReal)]
  · rw [dif_neg (by omega)]
    refine Eq.trans ?_ (if_neg hl).symm
    rw [show l = 1 from Fin.ext (by have := l.isLt; show l.val = 1; omega)]

theorem v14_eq (x0 : Mat S8192x5632 .bf16) (x1 : Mat S8192x2048 .f32) (x2 : Mat S2x5632x2048 .bf16) :
    val_main_v14 (F := Ideal) x0 x1 x2 = Cert.Kernel4Ideal.Gd.prod4 x0 x1 x2 := by
  funext y
  rw [← ix3_eta (n0 := 2) (n1 := 5632) (n2 := 2048) y]
  exact v14_at x0 x1 x2 (y 0) (y 1) (y 2)

end Cert.Reference4Ideal.Gd

namespace Cert.Proof

open Idealize.ShloMosaic Idealize.ShloMosaic.TcCoe Idealize.SL.Sem

theorem frame4_reference : Cert.quiescent_Reference4Ideal := fun m ρ _ =>
  (θ_run _ _ _).mono (fun r h => ⟨fun c => (h c).2, sem_eq_zero_of_no_sems (by decide) r.2⟩) (Cert.Reference4Ideal.Value.run m ρ)

theorem algebraic4 : Cert.algebraic_Kernel4Ideal_Reference4Ideal (hKernel4Ideal := Cert.Kernel4Ideal.Gen.facts) (hReference4Ideal := Cert.Reference4Ideal.Gen.facts) := by
  intro m g m' g' _ hargs
  refine ⟨fun c => _, Cert.Kernel4Ideal.Value.run_blocks m g, ?_⟩
  refine (θ_run _ _ _).mono (fun r h c => ?_) (Cert.Reference4Ideal.Value.run m' g')
  obtain ⟨r0, rest⟩ := h c
  obtain ⟨e0, e1, e2⟩ := hargs c
  refine ⟨?_, rest⟩
  rw [r0, Cert.Reference4Ideal.Read.val_main_v14_eq, e0, e1, e2, Cert.Reference4Ideal.Gd.v14_eq]
  exact (Cert.Kernel4Ideal.Gd.final_eq m c).symm

end Cert.Proof

end
-- ==== Proof.Gd1.lean ====
/-
  The weight gradient of the down projection at the second layer: the kernel's blocks, equal to the reference's product.
-/
module

public import proofs.«01_k».proof.Proof.GdOut
public import proofs.«01_k».proof.Proof.Gen.Kernel9Ideal.Frame
public import proofs.«01_k».proof.Proof.Gen.Reference9Ideal.Read
public import Idealize.ShloMosaic.Lib.StableHlo.RunRead

@[expose] public section

set_option maxRecDepth 16384

noncomputable section

namespace Cert.Kernel9Ideal.Gd

open Idealize.ShloMosaic Idealize.ShloMosaic.TcCoe Idealize.ShloMosaic.Pointwise Cert.Kernel9Ideal.Gen Cert.Kernel9Ideal
open Cert.Kernel2Ideal.Gate (Mat col)
open Cert.Kernel3Ideal.Gw (tok)
open Cert.Kernel4Ideal.Gd (zz zzz half wcol whole chunk chunk_mod chunks unit_index)

/-- The first of four points starts the block. -/
theorem acc_first (c) (i) (arg3) (harg3) (arg4) (harg4) (arg5) (harg5) (arg6) (harg6) (hc0) (hc1) (x0) (x1) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1408x1024) zz, View.readCov_unit_zero (S := S1408x1024) _ zz]
  simp only [View.readAt_eq_ld, harg3.read_unread, harg4.read_unread, harg6.read_unread, View.ld_unit_zero (S := S2048x1024) zz, View.ld_unit_zero (S := S2048x1408) zz, View.ld_unit_zero (S := S1408x1024) zz, shapeCast_self]

/-- The middle points add to it. -/
theorem acc_mid (c) (i) (arg3) (harg3) (arg4) (harg4) (arg5) (harg5) (arg6) (harg6) (hc0) (hc1) (x0) (x1) (xs) :
    sout0_B_0 (F := Ideal) c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  try sl_unfold_words
  rw [View.canon_unit_zero zz]
  simp only [View.readAt_eq_ld, harg3.read_unread, harg4.read_unread, harg6.read_unread, View.ld_unit_zero (S := S2048x1024) zz, View.ld_unit_zero (S := S2048x1408) zz, View.ld_unit_zero (S := S1408x1024) zz, shapeCast_self]

/-- The last point writes the block out. -/
theorem out_last (c) (i) (arg3) (harg3) (arg4) (harg4) (arg5) (harg5) (arg6) (harg6) (hc0) (hc1) (x0) (x1) (xs) :
    out0_C_2 (F := Ideal) c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  try sl_unfold_words
  rw [View.canon_unit_zero zzz]
  simp only [View.readAt_eq_ld, harg3.read_unread, harg4.read_unread, harg6.read_unread, View.readCov_unit_zero (S := S1408x1024) _ zz, View.ld_unit_zero (S := S2048x1024) zz, View.ld_unit_zero (S := S2048x1408) zz, View.ld_unit_zero (S := S1408x1024) zz, shapeCast_self]

variable (m : (ℓ : Loc nD τ sig) → Buf (Elt Ideal) ℓ) (c : Dev nD)

theorem outs_congr {n n' : ℕ} (e : n = n') (h : n < cfg0.N) (h' : n' < cfg0.N) : outsAt0 m c n h = outsAt0 m c n' h' := by
  subst e; rfl

/-- What a point writes is what it leaves. -/
theorem flushed_cut (t : Fin cfg0.N) : (dats m 0 c).flushed 2 t = (cfg0.win 2).cut (grid0.coords t) ((outsAt0 m c t.val t.isLt).1) := by
  show (cfg0.win 2).cut (grid0.coords t) ((dats m 0 c).after 2 t) = _
  rw [after0_2]

theorem first_at (n : ℕ) (h : n < cfg0.N) (h0 : n % 4 = 0) :
    (outsAt0 m c n h).2 = k0_pay2 (F := Ideal) (k0_pay1 (F := Ideal)) (iblk m c 0 ⟨n, h⟩) (iblk m c 1 ⟨n, h⟩) := by
  have e := outsAt0_A m c ⟨n, h⟩ h0 (by show ¬n % 4 = 3; omega)
  dsimp only at e
  rw [e]
  dsimp only
  rw [acc_first]

theorem mid_at (n : ℕ) (h : n + 1 < cfg0.N) (h0 : ¬(n + 1) % 4 = 0) (h1 : ¬(n + 1) % 4 = 3) :
    (outsAt0 m c (n + 1) h).2 = k0_pay2 (F := Ideal) (outsAt0 m c n (Nat.lt_of_succ_lt h)).2 (iblk m c 0 ⟨n + 1, h⟩) (iblk m c 1 ⟨n + 1, h⟩) := by
  have e := outsAt0_B m c ⟨n + 1, h⟩ h0 h1
  dsimp only at e
  rw [e]
  dsimp only
  rw [acc_mid, outs_congr m c (Nat.add_sub_cancel n 1) _ (Nat.lt_of_succ_lt h)]

theorem last_at (n : ℕ) (h : n + 1 < cfg0.N) (h0 : (n + 1) % 4 = 3) :
    (dats m 0 c).flushed 2 ⟨n + 1, h⟩ = k0_pay3 (F := Ideal) (k0_pay2 (F := Ideal) (outsAt0 m c n (Nat.lt_of_succ_lt h)).2 (iblk m c 0 ⟨n + 1, h⟩) (iblk m c 1 ⟨n + 1, h⟩)) := by
  rw [flushed_cut, outsAt0_C m c ⟨n + 1, h⟩ (by show ¬(n + 1) % 4 = 0; omega) h0]
  dsimp only
  rw [out_last, outs_congr m c (Nat.add_sub_cancel n 1) _ (Nat.lt_of_succ_lt h)]
  rfl

/-- What the last of four points writes. -/
theorem flushed_run (b : ℕ) (hb : b % 4 = 0) (h : b + 3 < cfg0.N) :
    (dats m 0 c).flushed 2 ⟨b + 3, h⟩ = k0_pay3 (F := Ideal) (k0_pay2 (F := Ideal) (k0_pay2 (F := Ideal) (k0_pay2 (F := Ideal) (k0_pay2 (F := Ideal) (k0_pay1 (F := Ideal))
      (iblk m c 0 ⟨b, by omega⟩) (iblk m c 1 ⟨b, by omega⟩)) (iblk m c 0 ⟨b + 1, by omega⟩) (iblk m c 1 ⟨b + 1, by omega⟩))
      (iblk m c 0 ⟨b + 2, by omega⟩) (iblk m c 1 ⟨b + 2, by omega⟩)) (iblk m c 0 ⟨b + 3, h⟩) (iblk m c 1 ⟨b + 3, h⟩)) := by
  rw [last_at m c (b + 2) h (by omega), mid_at m c (b + 1) (by omega) (by omega) (by omega), mid_at m c b (by omega) (by omega) (by omega), first_at m c b (by omega) hb]

/-- A point's step is the one the first layer's run takes. -/
theorem pay1_eq : k0_pay1 (F := Ideal) = Cert.Kernel4Ideal.Gen.k0_pay1 (F := Ideal) := rfl
theorem pay2_eq : k0_pay2 (F := Ideal) = Cert.Kernel4Ideal.Gen.k0_pay2 (F := Ideal) := rfl
theorem pay3_eq : k0_pay3 (F := Ideal) = Cert.Kernel4Ideal.Gen.k0_pay3 (F := Ideal) := rfl

theorem index0 : ∀ t : Fin cfg0.N, win0_0.index t = ![t.val % 4, t.val / 8] := (by decide +kernel : ∀ t : Fin grid0.N, _)
theorem index1 : ∀ t : Fin cfg0.N, win0_1.index t = ![t.val % 4, t.val / 4 % 2] := (by decide +kernel : ∀ t : Fin grid0.N, _)
theorem index2 : ∀ t : Fin cfg0.N, win0_2.index t = ![1, t.val / 8, t.val / 4 % 2] := (by decide +kernel : ∀ t : Fin grid0.N, _)

theorem div8 (t : Fin cfg0.N) : t.val / 8 % 4 = t.val / 8 := by have h : t.val < 32 := t.isLt; omega

theorem blk0 (A : Mat S8192x5632 .bf16) (t : Fin cfg0.N) (s : Fin 2048) (f : Fin 1408) :
    ((cfg0.win 0).blk t).view.read (Elt Ideal) A (ix2 s f) = A (ix2 (tok t.val s) (col (t.val / 8) f)) := by
  blk_ext [index0, tok, col, div8]

theorem blk1 (A : Mat S8192x2048 .f32) (t : Fin cfg0.N) (s : Fin 2048) (d : Fin 1024) :
    ((cfg0.win 1).blk t).view.read (Elt Ideal) A (ix2 s d) = A (ix2 (tok t.val s) (wcol t.val d)) := by
  blk_ext [index1, tok, wcol]

theorem blk2 (A : Mat S2x5632x2048 .bf16) (t : Fin cfg0.N) (f : Fin 1408) (d : Fin 1024) :
    ((cfg0.win 2).blk t).view.read (Elt Ideal) A (ix3 0 f d) = A (ix3 1 (col (t.val / 8) f) (wcol t.val d)) := by
  blk_ext [index2, wcol, col, div8]

/-- Half the products' sum over the tokens, laid out as the layers' stack. -/
def prod9 (x0 : Mat S8192x5632 .bf16) (x1 : Mat S8192x2048 .f32) : Mat S2x5632x2048 .bf16 := fun y =>
  half * whole x0 x1 (y 1) (y 2)

/-- A point's step at an element. -/
theorem pay_at (n : ℕ) (h : n < cfg0.N) (acc : Mat S1408x1024 .f32) (f : Fin 1408) (d : Fin 1024) :
    k0_pay2 (F := Ideal) acc (iblk m c 0 ⟨n, h⟩) (iblk m c 1 ⟨n, h⟩) (ix2 f d)
      = (acc (ix2 f d) : EReal) + chunk (m ((c : Thread nD τ).loc main_arg0)) (m ((c : Thread nD τ).loc main_arg1)) n (col (n / 8) f) (wcol n d) := by
  have e0 : ∀ s : Fin 2048, iblk m c 0 ⟨n, h⟩ (ix2 s f) = m ((c : Thread nD τ).loc main_arg0) (ix2 (tok n s) (col (n / 8) f)) := fun s =>
    (congrFun (congrArg (fun A => ((cfg0.win 0).blk ⟨n, h⟩).view.read (Elt Ideal) A) (V_main_arg0 m c)) (ix2 s f)).trans (blk0 _ ⟨n, h⟩ s f)
  have e1 : ∀ s : Fin 2048, iblk m c 1 ⟨n, h⟩ (ix2 s d) = m ((c : Thread nD τ).loc main_arg1) (ix2 (tok n s) (wcol n d)) := fun s =>
    (congrFun (congrArg (fun A => ((cfg0.win 1).blk ⟨n, h⟩).view.read (Elt Ideal) A) (V_main_arg1 m c)) (ix2 s d)).trans (blk1 _ ⟨n, h⟩ s d)
  rw [pay2_eq]
  refine (Cert.Kernel4Ideal.Gd.pay2_at acc _ _ f d).trans ?_
  unfold chunk
  simp only [e0, e1]

/-- What the last of four points writes, at an element. -/
theorem flushed_at (b : ℕ) (hb : b % 4 = 0) (h : b + 3 < cfg0.N) (f : Fin 1408) (d : Fin 1024) :
    (dats m 0 c).flushed 2 ⟨b + 3, h⟩ (ix3 0 f d) = half * whole (m ((c : Thread nD τ).loc main_arg0)) (m ((c : Thread nD τ).loc main_arg1)) (col (b / 8) f) (wcol b d) := by
  have hw : ∀ j, j < 4 → wcol (b + j) d = wcol b d := fun j hj => Fin.ext (by show 1024 * ((b + j) / 4 % 2) + _ = 1024 * (b / 4 % 2) + _; rw [show (b + j) / 4 = b / 4 by omega])
  have hc : ∀ j, j < 4 → (b + j) / 8 = b / 8 := fun j hj => by omega
  refine (congrFun (flushed_run m c b hb h) (ix3 0 f d)).trans ?_
  rw [pay3_eq, Cert.Kernel4Ideal.Gd.pay3_at, pay_at, pay_at, pay_at, pay_at, pay1_eq, Cert.Kernel4Ideal.Gd.pay1_at, hw 3 (by omega), hw 2 (by omega), hw 1 (by omega), hc 3 (by omega), hc 2 (by omega), hc 1 (by omega),
    chunk_mod _ _ b 3 hb, chunk_mod _ _ b 2 hb, chunk_mod _ _ b 1 hb, show chunk _ _ b = chunk _ _ 0 from chunk_mod _ _ b 0 hb]
  exact congrArg (half * ·) (chunks _ _ _ _)

/-- What a point that writes, writes. -/
theorem flushed_eq (t : Fin cfg0.N) (hf : (cfg0.win 2).flush t = true) :
    (dats m 0 c).flushed 2 t = ((cfg0.win 2).blk t).view.read (Elt Ideal) (prod9 (m ((c : Thread nD τ).loc main_arg0)) (m ((c : Thread nD τ).loc main_arg1))) := by
  have h3 : t.val % 4 = 3 := (flush0_2 t).mp hf
  obtain ⟨n, hn⟩ := t
  obtain ⟨b, rfl⟩ : ∃ b, n = b + 3 := ⟨n - 3, by have : n % 4 = 3 := h3; omega⟩
  have hb : b % 4 = 0 := by have : (b + 3) % 4 = 3 := h3; omega
  funext y
  obtain ⟨f, d, rfl⟩ := unit_index y
  refine (flushed_at m c b hb hn f d).trans ((blk2 _ ⟨b + 3, hn⟩ f d).trans ?_).symm
  have hw : wcol (b + 3) d = wcol b d := Fin.ext (by show 1024 * ((b + 3) / 4 % 2) + _ = 1024 * (b / 4 % 2) + _; rw [show (b + 3) / 4 = b / 4 by omega])
  have hc : col ((b + 3) / 8) f = col (b / 8) f := by rw [show (b + 3) / 8 = b / 8 by omega]
  show half * whole (m ((c : Thread nD τ).loc main_arg0)) (m ((c : Thread nD τ).loc main_arg1)) (col ((b + 3) / 8) f) (wcol (b + 3) d) = _
  rw [hw, hc]

/-- The second layer's part of the array the kernel leaves. -/
theorem final_at (f : Fin 5632) (d : Fin 2048) :
    (dats m 0 c).arrAt 2 cfg0.N (ix3 1 f d) = half * whole (m ((c : Thread nD τ).loc main_arg0)) (m ((c : Thread nD τ).loc main_arg1)) f d := by
  have hf := f.isLt
  have hd := d.isLt
  have ht : 8 * (f.val / 1408) + 4 * (d.val / 1024) + 3 < cfg0.N := by
    show _ < 32
    omega
  refine (dats m 0 c).arrAt_apply_of_mem 2 _ (flushed_eq m c) cfg0.N ⟨_, ht⟩ (ix3 1 f d) ht ((flush0_2 _).mpr (by show (8 * (f.val / 1408) + 4 * (d.val / 1024) + 3) % 4 = 3; omega)) ?_
  mem_blk [index2]
  show (1 ≤ 1 ∧ 1 < 1 + 1)
    ∧ ((8 * (f.val / 1408) + 4 * (d.val / 1024) + 3) / 8 * 1408 ≤ f.val ∧ f.val < (8 * (f.val / 1408) + 4 * (d.val / 1024) + 3) / 8 * 1408 + 1408)
    ∧ ((8 * (f.val / 1408) + 4 * (d.val / 1024) + 3) / 4 % 2 * 1024 ≤ d.val ∧ d.val < (8 * (f.val / 1408) + 4 * (d.val / 1024) + 3) / 4 % 2 * 1024 + 1024)
  clear ht
  omega

/-- The second layer's part of a stack, on its own. -/
def second (A : Mat S2x5632x2048 .bf16) : Mat S5632x2048 .bf16 :=
  shapeCast S5632x2048 (extractStridedSlice S1x5632x2048 ![1, 0, 0] A slices_S2x5632x2048_S1x5632x2048_1_0_0) shapeCasts_S1x5632x2048_S5632x2048

theorem second_at (A : Mat S2x5632x2048 .bf16) (f : Fin 5632) (d : Fin 2048) : second A (ix2 f d) = A (ix3 1 f d) := by
  pointwise [second]

/-- The result after the lines that follow the kernel. -/
theorem tail_eq : Pipeline.afterTail₀ cfgs (dats m) 0 (V0 m) [hostOps1] c main_v2 = second ((dats m 0 c).arrAt 2 cfg0.N) := by
  have e := Pipeline.withArrays_arr spec0 winFacts0.arr_inj c (V0 m c) (fun w => (dats m 0 c).arrAt w cfg0.N) 2
  unfold Pipeline.afterTail₀
  show StableHlo.after hostOps1 (Pipeline.withArrays spec0 c (V0 m c) fun w => (dats m 0 c).arrAt w cfg0.N) (Proc.devRef .tc main_v2) = _
  after_results_simp
  exact congrArg second e

theorem tail_at (f : Fin 5632) (d : Fin 2048) :
    Pipeline.afterTail₀ cfgs (dats m) 0 (V0 m) [hostOps1] c main_v2 (ix2 f d)
      = half * whole (m ((c : Thread nD τ).loc main_arg0)) (m ((c : Thread nD τ).loc main_arg1)) f d := by
  rw [tail_eq]
  exact (second_at _ f d).trans (final_at m c f d)

/-- What a run leaves. -/
theorem run_all (ρ : Dev nD → PrngReg) : θ_run defs (onTc (τ := τ) (main (F := Ideal))) ⟨m, fun _ => 0, ρ⟩ fun r => ∀ c : Dev nD,
      r.2.mem ((c : Thread nD τ).loc main_v2) = Pipeline.afterTail₀ cfgs (dats m) 0 (V0 m) [hostOps1] c main_v2
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c).2 main_v2 (by decide), h.2 c⟩) (θ_run_and (run_main m ρ) (unchanged m ρ))

end Cert.Kernel9Ideal.Gd

namespace Cert.Reference9Ideal.Gd

open Idealize.ShloMosaic Idealize.ShloMosaic.Pointwise Cert.Reference9Ideal.Gen Cert.Reference9Ideal Cert.Reference9Ideal.Read
open Cert.Kernel2Ideal.Gate (Mat)
open Cert.Kernel4Ideal.Gd (half half_sum whole)

theorem v9_at (x0 : Mat S8192x5632 .bf16) (x1 : Mat S8192x2048 .f32) (f : Fin 5632) (d : Fin 2048) :
    val_main_v9 (F := Ideal) x0 x1 (ix2 f d) = half * whole x0 x1 f d := by
  pointwise [val_main_v9, val_main_v8, val_main_v7, val_main_v6, val_main_v5, val_main_cst_1, val_main_v1]
  refine Eq.trans ?_ (half_sum _).symm
  refine Finset.sum_congr rfl fun s _ => ?_
  show (half * (x1 (ix2 s d) : EReal)) * x0 (ix2 s f) = half * ((x0 (ix2 s f) : EReal) * x1 (ix2 s d))
  rw [mul_assoc, mul_comm (x1 (ix2 s d) : EReal)]

end Cert.Reference9Ideal.Gd

namespace Cert.Proof

open Idealize.ShloMosaic Idealize.ShloMosaic.TcCoe Idealize.ShloMosaic.Pointwise Idealize.SL.Sem

theorem frame9_reference : Cert.quiescent_Reference9Ideal := fun m ρ _ =>
  (θ_run _ _ _).mono (fun r h => ⟨fun c => (h c).2, sem_eq_zero_of_no_sems (by decide) r.2⟩) (Cert.Reference9Ideal.Value.run m ρ)

theorem algebraic9 : Cert.algebraic_Kernel9Ideal_Reference9Ideal (hKernel9Ideal := Cert.Kernel9Ideal.Gen.facts) (hReference9Ideal := Cert.Reference9Ideal.Gen.facts) := by
  intro m g m' g' _ hargs
  refine ⟨fun c => _, Cert.Kernel9Ideal.Gd.run_all m g, ?_⟩
  refine (θ_run _ _ _).mono (fun r h c => ?_) (Cert.Reference9Ideal.Value.run m' g')
  obtain ⟨r0, rest⟩ := h c
  obtain ⟨e0, e1⟩ := hargs c
  refine ⟨?_, rest⟩
  rw [r0, Cert.Reference9Ideal.Read.val_main_v9_eq, e0, e1]
  funext y
  rw [← ix2_eta (n0 := 5632) (n1 := 2048) y]
  exact (Cert.Reference9Ideal.Gd.v9_at _ _ (y 0) (y 1)).trans (Cert.Kernel9Ideal.Gd.tail_at m c (y 0) (y 1)).symm

end Cert.Proof

end
-- ==== Proof.Db.lean ====
/-
  The backward of the down projection and of the gate: the kernel's blocks, equal to the reference's two gradients.
-/
module

public import proofs.«01_k».proof.Defs
public import proofs.«01_k».proof.Proof.Fin
public import proofs.«01_k».proof.Proof.Block
public import proofs.«01_k».proof.Proof.GdOut
public import proofs.«01_k».proof.Proof.Gen.Kernel5Ideal.Value
public import proofs.«01_k».proof.Proof.Gen.Reference5Ideal.Read
public import Idealize.ShloMosaic.Lib.StableHlo.RunRead
public import Idealize.ShloMosaic.Lib.Pipeline.ValueKit.Geometry
public import Idealize.ShloMosaic.Lib.Pointwise

@[expose] public section

set_option maxRecDepth 16384

noncomputable section

namespace Cert.Kernel5Ideal.Db

open Idealize.ShloMosaic Idealize.ShloMosaic.TcCoe Idealize.ShloMosaic.Pointwise Cert.Kernel5Ideal.Gen Cert.Kernel5Ideal Cert.Kernel5Ideal.Value
open Cert.Kernel2Ideal.Gate (Mat col)
open Cert.Kernel4Ideal.Gd (half half_eq half_sum)

theorem pre_facts5 : Cert.Pre_finite5.Facts := ⟨by decide, by decide, by decide, by decide, by decide, by decide⟩

/-- One over one and the exponential of minus the argument. -/
def sg (g : EReal) : EReal := Ideal.div 1 (1 + Ideal.exp (-g))

theorem sg_bot : sg ⊥ = 0 := by
  show Ideal.div 1 (1 + Ideal.exp (-⊥)) = 0
  rw [EReal.neg_bot, show Ideal.exp ⊤ = ⊤ from rfl, show (1 : EReal) + ⊤ = ⊤ from EReal.coe_add_top 1, Ideal.div, if_neg (by simp), EReal.inv_top, mul_zero]

theorem sg_top : sg ⊤ = 1 := by
  show Ideal.div 1 (1 + Ideal.exp (-⊤)) = 1
  rw [EReal.neg_top, show Ideal.exp ⊥ = 0 from rfl, add_zero, Ideal.div, if_neg one_ne_zero, inv_one, mul_one]

theorem sg_coe (g : ℝ) : sg (g : EReal) = ((1 / (1 + Real.exp (-g)) : ℝ) : EReal) := by
  show Ideal.div 1 (1 + Ideal.exp (-(g : EReal))) = _
  rw [← EReal.coe_neg, show Ideal.exp ((-g : ℝ) : EReal) = ((Real.exp (-g) : ℝ) : EReal) from rfl, ← EReal.coe_one, ← EReal.coe_add,
    Cert.KernelIdeal.Bwd.div_real _ (by positivity)]

/-- The gate's derivative, factored and as a sum: equal at a real factor. -/
theorem gate_eq (v : ℝ) (g : EReal) :
    (v : EReal) * sg g + (g * (v : EReal)) * (sg g * (1 - sg g)) = (v : EReal) * (sg g * (1 + g * (1 - sg g))) := by
  induction g with
  | bot => rw [sg_bot]; simp
  | top => rw [sg_top, show (1 : EReal) - 1 = 0 by rw [← EReal.coe_one, ← EReal.coe_sub, sub_self, EReal.coe_zero]]; simp
  | coe g =>
    rw [sg_coe]
    norm_cast
    ring

/-- Half of one gradient row against one row of layer `l`'s weights. -/
def down (l : Fin 2) (x0 : Mat S8192x2048 .f32) (x1 : Mat S2x5632x2048 .f32) (i : Fin 8192) (f : Fin 5632) : EReal :=
  half * ∑ d : Fin 2048, (x0 (ix2 i d) : EReal) * x1 (ix3 l f d)

/-- The gradient at the second factor. -/
def duo (l : Fin 2) (x0 : Mat S8192x2048 .f32) (x1 : Mat S2x5632x2048 .f32) (x2 : Mat S8192x5632 .bf16) : Mat S8192x5632 .bf16 := fun y =>
  down l x0 x1 (y 0) (y 1) * ((x2 y : EReal) * sg (x2 y))

/-- The gradient at the gate. -/
def dgo (l : Fin 2) (x0 : Mat S8192x2048 .f32) (x1 : Mat S2x5632x2048 .f32) (x2 x3 : Mat S8192x5632 .bf16) : Mat S8192x5632 .bf16 := fun y =>
  (down l x0 x1 (y 0) (y 1) * (x3 y : EReal)) * (sg (x2 y) * (1 + (x2 y : EReal) * (1 - sg (x2 y))))

theorem pay4_at (a : Mat S512x2048 .f32) (w : Mat S1x1408x2048 .bf16) (g : Mat S512x1408 .bf16) (r : Fin 512) (f : Fin 1408) :
    k0_pay4 (F := Ideal) a w g (ix2 r f)
      = (half * ∑ d : Fin 2048, (a (ix2 r d) : EReal) * w (ix3 0 f d)) * ((g (ix2 r f) : EReal) * sg (g (ix2 r f))) := by
  pointwise [k0_pay4, k0_pay1, k0_pay2, k0_pay3]
  rw [zero_sub]
  rfl

theorem pay5_at (a : Mat S512x2048 .f32) (w : Mat S1x1408x2048 .bf16) (g u : Mat S512x1408 .bf16) (r : Fin 512) (f : Fin 1408) :
    k0_pay5 (F := Ideal) a w g u (ix2 r f)
      = ((half * ∑ d : Fin 2048, (a (ix2 r d) : EReal) * w (ix3 0 f d)) * (u (ix2 r f) : EReal))
        * (sg (g (ix2 r f)) * (1 + (g (ix2 r f) : EReal) * (1 - sg (g (ix2 r f))))) := by
  pointwise [k0_pay5, k0_pay1, k0_pay2, k0_pay3]
  rw [zero_sub]
  rfl

theorem zz : (![0, 0] : Fin 2 → ℕ) = fun _ => 0 := by decide
theorem zzz : (![0, 0, 0] : Fin 3 → ℕ) = fun _ => 0 := by decide

theorem out4 (x0 : Mat S512x2048 .f32) (x1 : Mat S1x1408x2048 .bf16) (x2 x3 : Mat S512x1408 .bf16) :
    out0_4 (F := Ideal) x0 x1 x2 x3 = k0_pay5 x0 x1 x2 x3 := by
  unfold out0_4
  rw [View.canon_unit_zero zz]
  simp only [View.ld_unit_zero (S := S512x2048) zz, View.ld_unit_zero (S := S1x1408x2048) zzz, View.ld_unit_zero (S := S512x1408) zz]

theorem out5 (x0 : Mat S512x2048 .f32) (x1 : Mat S1x1408x2048 .bf16) (x2 x3 : Mat S512x1408 .bf16) :
    out0_5 (F := Ideal) x0 x1 x2 x3 = k0_pay4 x0 x1 x2 := by
  unfold out0_5
  rw [View.canon_unit_zero zz]
  simp only [View.ld_unit_zero (S := S512x2048) zz, View.ld_unit_zero (S := S1x1408x2048) zzz, View.ld_unit_zero (S := S512x1408) zz]

theorem index0 : ∀ t : Fin cfg0.N, win0_0.index t = ![t.val % 16, 0] := (by decide +kernel : ∀ t : Fin grid0.N, _)
theorem index1 : ∀ t : Fin cfg0.N, win0_1.index t = ![0, t.val / 16, 0] := (by decide +kernel : ∀ t : Fin grid0.N, _)
theorem index2 : ∀ t : Fin cfg0.N, win0_2.index t = ![t.val % 16, t.val / 16] := (by decide +kernel : ∀ t : Fin grid0.N, _)
theorem index3 : ∀ t : Fin cfg0.N, win0_3.index t = ![t.val % 16, t.val / 16] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![t.val % 16, t.val / 16] := (by decide +kernel : ∀ t : Fin grid0.N, _)

/-- Row `r` of point `t`'s rows. -/
def row (t : ℕ) (r : Fin 512) : Fin 8192 := ⟨512 * (t % 16) + r.val, by omega⟩

theorem div16 (t : Fin cfg0.N) : t.val / 16 % 4 = t.val / 16 := by have h : t.val < 64 := t.isLt; omega

theorem blk0 (A : Mat S8192x2048 .f32) (t : Fin cfg0.N) (r : Fin 512) (d : Fin 2048) :
    ((cfg0.win 0).blk t).view.read (Elt Ideal) A (ix2 r d) = A (ix2 (row t.val r) d) := by
  blk_ext [index0, row]

theorem blk1 (A : Mat S2x5632x2048 .bf16) (t : Fin cfg0.N) (f : Fin 1408) (d : Fin 2048) :
    ((cfg0.win 1).blk t).view.read (Elt Ideal) A (ix3 0 f d) = A (ix3 0 (col (t.val / 16) f) d) := by
  blk_ext [index1, col, div16]

theorem blk2 (A : Mat S8192x5632 .bf16) (t : Fin cfg0.N) (r : Fin 512) (f : Fin 1408) :
    ((cfg0.win 2).blk t).view.read (Elt Ideal) A (ix2 r f) = A (ix2 (row t.val r) (col (t.val / 16) f)) := by
  blk_ext [index2, row, col, div16]

theorem blk3 (A : Mat S8192x5632 .bf16) (t : Fin cfg0.N) (r : Fin 512) (f : Fin 1408) :
    ((cfg0.win 3).blk t).view.read (Elt Ideal) A (ix2 r f) = A (ix2 (row t.val r) (col (t.val / 16) f)) := by
  blk_ext [index3, row, col, div16]

theorem blk4 (A : Mat S8192x5632 .bf16) (t : Fin cfg0.N) (r : Fin 512) (f : Fin 1408) :
    ((cfg0.win 4).blk t).view.read (Elt Ideal) A (ix2 r f) = A (ix2 (row t.val r) (col (t.val / 16) f)) := by
  blk_ext [index4, row, col, div16]

theorem blk5 (A : Mat S8192x5632 .bf16) (t : Fin cfg0.N) (r : Fin 512) (f : Fin 1408) :
    ((cfg0.win 5).blk t).view.read (Elt Ideal) A (ix2 r f) = A (ix2 (row t.val r) (col (t.val / 16) f)) := by
  blk_ext [index5, row, col, div16]

variable (m : (ℓ : Loc nD τ sig) → Buf (Elt Ideal) ℓ) (c : Dev nD)

theorem V_v0 : V m c main_v0 = truncf (F := Ideal) (φ := .f32) .bf16 (m ((c : Thread nD τ).loc main_arg1)) bitsLt_bf16_f32 := by
  dsimp only [V]
  after_reads_simp
  try simp -implicitDefEqProofs only [StableHlo.TRef.toBuf, StableHlo.TRef.ofBuf, cast_cast, cast_eq]
  try rfl

theorem iblk0 (t : Fin cfg0.N) (r : Fin 512) (d : Fin 2048) : iblk m c 0 t (ix2 r d) = m ((c : Thread nD τ).loc main_arg0) (ix2 (row t.val r) d) :=
  (congrFun (congrArg (fun A => ((cfg0.win 0).blk t).view.read (Elt Ideal) A) (V_main_arg0 m c)) (ix2 r d)).trans (blk0 _ t r d)

theorem iblk1 (t : Fin cfg0.N) (f : Fin 1408) (d : Fin 2048) : iblk m c 1 t (ix3 0 f d) = m ((c : Thread nD τ).loc main_arg1) (ix3 0 (col (t.val / 16) f) d) :=
  (congrFun (congrArg (fun A => ((cfg0.win 1).blk t).view.read (Elt Ideal) A) (V_v0 m c)) (ix3 0 f d)).trans (blk1 _ t f d)

theorem iblk2 (t : Fin cfg0.N) (r : Fin 512) (f : Fin 1408) : iblk m c 2 t (ix2 r f) = m ((c : Thread nD τ).loc main_arg2) (ix2 (row t.val r) (col (t.val / 16) f)) :=
  (congrFun (congrArg (fun A => ((cfg0.win 2).blk t).view.read (Elt Ideal) A) (V_main_arg2 m c)) (ix2 r f)).trans (blk2 _ t r f)

theorem iblk3 (t : Fin cfg0.N) (r : Fin 512) (f : Fin 1408) : iblk m c 3 t (ix2 r f) = m ((c : Thread nD τ).loc main_arg3) (ix2 (row t.val r) (col (t.val / 16) f)) :=
  (congrFun (congrArg (fun A => ((cfg0.win 3).blk t).view.read (Elt Ideal) A) (V_main_arg3 m c)) (ix2 r f)).trans (blk3 _ t r f)

theorem index_two {n p : ℕ} (y : (⟨2, ![n, p]⟩ : Shape).Idx) : ∃ (r : Fin n) (f : Fin p), y = ix2 r f :=
  ⟨y 0, y 1, (ix2_eta (n0 := n) (n1 := p) y).symm⟩

/-- A block's product is the whole rows' product. -/
theorem down_at (l : Fin 2) (t : Fin cfg0.N) (r : Fin 512) (f : Fin 1408) (A : Mat S512x2048 .f32) (W : Mat S1x1408x2048 .bf16) (x0 : Mat S8192x2048 .f32) (x1 : Mat S2x5632x2048 .f32)
    (hA : ∀ d, A (ix2 r d) = x0 (ix2 (row t.val r) d)) (hW : ∀ d, (W (ix3 0 f d) : EReal) = x1 (ix3 l (col (t.val / 16) f) d)) :
    half * ∑ d : Fin 2048, (A (ix2 r d) : EReal) * W (ix3 0 f d) = down l x0 x1 (row t.val r) (col (t.val / 16) f) := by
  unfold down
  exact congrArg (half * ·) (Finset.sum_congr rfl fun d _ => by rw [hA, hW])

theorem flushed4_eq (t : Fin cfg0.N) :
    (dats m 0 c).flushed 4 t = ((cfg0.win 4).blk t).view.read (Elt Ideal)
      (dgo 0 (m ((c : Thread nD τ).loc main_arg0)) (m ((c : Thread nD τ).loc main_arg1)) (m ((c : Thread nD τ).loc main_arg2)) (m ((c : Thread nD τ).loc main_arg3))) := by
  rw [flushed4, out4]
  funext y
  obtain ⟨r, f, rfl⟩ := index_two (n := 512) (p := 1408) y
  refine Eq.trans ?_ (blk4 _ t r f).symm
  refine (pay5_at _ _ _ _ r f).trans ?_
  rw [down_at 0 t r f _ _ _ _ (iblk0 m c t r) (iblk1 m c t f), iblk2, iblk3]
  rfl

theorem flushed5_eq (t : Fin cfg0.N) :
    (dats m 0 c).flushed 5 t = ((cfg0.win 5).blk t).view.read (Elt Ideal)
      (duo 0 (m ((c : Thread nD τ).loc main_arg0)) (m ((c : Thread nD τ).loc main_arg1)) (m ((c : Thread nD τ).loc main_arg2))) := by
  rw [flushed5, out5]
  funext y
  obtain ⟨r, f, rfl⟩ := index_two (n := 512) (p := 1408) y
  refine Eq.trans ?_ (blk5 _ t r f).symm
  refine (pay4_at _ _ _ r f).trans ?_
  rw [down_at 0 t r f _ _ _ _ (iblk0 m c t r) (iblk1 m c t f), iblk2]
  rfl

/-- The point that covers an element. -/
theorem point (y0 y1 : ℕ) (h0 : y0 < 8192) (h1 : y1 < 5632) : 16 * (y1 / 1408) + y0 / 512 < cfg0.N := by
  have hN : cfg0.N = 64 := N_0
  rw [hN]; clear hN; omega

theorem final4 : (dats m 0 c).arrAt 4 cfg0.N
    = dgo 0 (m ((c : Thread nD τ).loc main_arg0)) (m ((c : Thread nD τ).loc main_arg1)) (m ((c : Thread nD τ).loc main_arg2)) (m ((c : Thread nD τ).loc main_arg3)) := by
  funext y
  have h0 : (y 0).val < 8192 := (y 0).isLt
  have h1 : (y 1).val < 5632 := (y 1).isLt
  refine (dats m 0 c).arrAt_apply_of_mem 4 _ (fun t _ => flushed4_eq m c t) cfg0.N ⟨_, point _ _ h0 h1⟩ y (point _ _ h0 h1) (flush0_4 _) ?_
  mem_blk [index4]
  show ((16 * ((y 1).val / 1408) + (y 0).val / 512) % 16 * 512 ≤ (y 0).val ∧ (y 0).val < (16 * ((y 1).val / 1408) + (y 0).val / 512) % 16 * 512 + 512)
    ∧ ((16 * ((y 1).val / 1408) + (y 0).val / 512) / 16 * 1408 ≤ (y 1).val ∧ (y 1).val < (16 * ((y 1).val / 1408) + (y 0).val / 512) / 16 * 1408 + 1408)
  omega

theorem final5 : (dats m 0 c).arrAt 5 cfg0.N
    = duo 0 (m ((c : Thread nD τ).loc main_arg0)) (m ((c : Thread nD τ).loc main_arg1)) (m ((c : Thread nD τ).loc main_arg2)) := by
  funext y
  have h0 : (y 0).val < 8192 := (y 0).isLt
  have h1 : (y 1).val < 5632 := (y 1).isLt
  refine (dats m 0 c).arrAt_apply_of_mem 5 _ (fun t _ => flushed5_eq m c t) cfg0.N ⟨_, point _ _ h0 h1⟩ y (point _ _ h0 h1) (flush0_5 _) ?_
  mem_blk [index5]
  show ((16 * ((y 1).val / 1408) + (y 0).val / 512) % 16 * 512 ≤ (y 0).val ∧ (y 0).val < (16 * ((y 1).val / 1408) + (y 0).val / 512) % 16 * 512 + 512)
    ∧ ((16 * ((y 1).val / 1408) + (y 0).val / 512) / 16 * 1408 ≤ (y 1).val ∧ (y 1).val < (16 * ((y 1).val / 1408) + (y 0).val / 512) / 16 * 1408 + 1408)
  omega

/-- Finite arguments make the down projection's backward a real number. -/
theorem down_real (l : Fin 2) (x0 : Mat S8192x2048 .f32) (x1 : Mat S2x5632x2048 .f32) (h0 : ∀ i d, x0 (ix2 i d) = ((EReal.toReal (x0 (ix2 i d)) : ℝ) : EReal))
    (h1 : ∀ f d, x1 (ix3 l f d) = ((EReal.toReal (x1 (ix3 l f d)) : ℝ) : EReal)) (i : Fin 8192) (f : Fin 5632) :
    ∃ v : ℝ, down l x0 x1 i f = (v : EReal) := by
  refine ⟨2⁻¹ * ∑ d : Fin 2048, EReal.toReal (x0 (ix2 i d)) * EReal.toReal (x1 (ix3 l f d)), ?_⟩
  unfold down
  rw [EReal.coe_mul, half_eq, Cert.KernelIdeal.Bwd.coe_sum']
  refine congrArg _ (Finset.sum_congr rfl fun d _ => ?_)
  rw [EReal.coe_mul, ← h0, ← h1]

/-- What the precondition says of the arguments. -/
theorem reals [Cert.Pre_finite5.Facts] (x0 : Mat S8192x2048 .f32) (x1 : Mat S2x5632x2048 .f32) (x2 x3 : Mat S8192x5632 .bf16)
    (h0 : (Cert.Pre_finite5.fn (F := Ideal) x0 x1 x2 x3).1 = fun _ => 1#1) (h1 : (Cert.Pre_finite5.fn (F := Ideal) x0 x1 x2 x3).2.1 = fun _ => 1#1)
    (h2 : (Cert.Pre_finite5.fn (F := Ideal) x0 x1 x2 x3).2.2 = fun _ => 1#1) :
    (∀ i d, x0 (ix2 i d) = ((EReal.toReal (x0 (ix2 i d)) : ℝ) : EReal)) ∧ (∀ f d, x1 (ix3 0 f d) = ((EReal.toReal (x1 (ix3 0 f d)) : ℝ) : EReal))
      ∧ ∀ i f, x3 (ix2 i f) = ((EReal.toReal (x3 (ix2 i f)) : ℝ) : EReal) := by
  refine ⟨fun i d => ?_, fun f d => ?_, fun i f => ?_⟩
  · have e := congrFun h0 (ix2 i d)
    dsimp only [Cert.Pre_finite5.fn] at e
    revert e
    pointwise
    exact Cert.KernelIdeal.Bwd.real_of _
  · have e := congrFun h1 (ix2 f d)
    dsimp only [Cert.Pre_finite5.fn] at e
    revert e
    pointwise
    exact Cert.KernelIdeal.Bwd.real_of _
  · have e := congrFun h2 (ix2 i f)
    dsimp only [Cert.Pre_finite5.fn] at e
    revert e
    pointwise
    exact Cert.KernelIdeal.Bwd.real_of _

end Cert.Kernel5Ideal.Db

namespace Cert.Reference5Ideal.Db

open Idealize.ShloMosaic Idealize.ShloMosaic.Pointwise Cert.Reference5Ideal.Gen Cert.Reference5Ideal Cert.Reference5Ideal.Read
open Cert.Kernel2Ideal.Gate (Mat col)
open Cert.Kernel4Ideal.Gd (half half_sum)
open Cert.Kernel5Ideal.Db (sg down duo dgo gate_eq)

theorem down_eq (l : Fin 2) (x0 : Mat S8192x2048 .f32) (x1 : Mat S2x5632x2048 .f32) (i : Fin 8192) (f : Fin 5632) :
    ∑ d : Fin 2048, (half * (x0 (ix2 i d) : EReal)) * x1 (ix3 l f d) = down l x0 x1 i f := by
  unfold down
  rw [half_sum]
  exact Finset.sum_congr rfl fun d _ => mul_assoc _ _ _

theorem v16_at (x0 : Mat S8192x2048 .f32) (x1 : Mat S2x5632x2048 .f32) (x2 : Mat S8192x5632 .bf16) (i : Fin 8192) (f : Fin 5632) :
    val_main_v16 (F := Ideal) x0 x1 x2 (ix2 i f) = duo 0 x0 x1 x2 (ix2 i f) := by
  pointwise [val_main_v16, val_main_v12, val_main_v11, val_main_v10, val_main_v9, val_main_cst_0, val_main_v5, val_main_v4, val_main_v2_0, val_main_v2_2, val_main_v0, val_main_call0_v4, val_main_call0_cst_0, val_main_call0_v3, val_main_call0_v2, val_main_call0_cst, val_main_call0_v1, val_main_call0_v0]
  exact (mul_comm (G := EReal) _ _).trans (congrArg (· * ((x2 (ix2 i f) : EReal) * sg (x2 (ix2 i f)))) (down_eq 0 x0 x1 i f))

theorem v15_at (x0 : Mat S8192x2048 .f32) (x1 : Mat S2x5632x2048 .f32) (x2 x3 : Mat S8192x5632 .bf16) (i : Fin 8192) (f : Fin 5632)
    (h : ∃ v : ℝ, down 0 x0 x1 i f = (v : EReal)) (h3 : x3 (ix2 i f) = ((EReal.toReal (x3 (ix2 i f)) : ℝ) : EReal)) :
    val_main_v15 (F := Ideal) x0 x1 x2 x3 (ix2 i f) = dgo 0 x0 x1 x2 x3 (ix2 i f) := by
  pointwise [val_main_v15, val_main_v14, val_main_call1_v2, val_main_call1_v1, val_main_call1_v0, val_main_v13, val_main_v11, val_main_v10, val_main_v9, val_main_cst_0, val_main_v5, val_main_v4, val_main_v1, val_main_v2_1, val_main_v2_2, val_main_v0, val_main_call0_v7, val_main_call0_v6, val_main_call0_cst_1, val_main_call0_v4, val_main_call0_cst_0, val_main_call0_v3, val_main_call0_v2, val_main_call0_cst, val_main_call0_v1, val_main_call0_v0]
  obtain ⟨v, hv⟩ := h
  have e : (∑ d : Fin 2048, (half * (x0 (ix2 i d) : EReal)) * x1 (ix3 0 f d)) * (x3 (ix2 i f) : EReal) = ((v * EReal.toReal (x3 (ix2 i f)) : ℝ) : EReal) := by
    rw [down_eq 0, hv, EReal.coe_mul, ← h3]
  have e' : down 0 x0 x1 i f * (x3 (ix2 i f) : EReal) = ((v * EReal.toReal (x3 (ix2 i f)) : ℝ) : EReal) := by
    rw [hv, EReal.coe_mul, ← h3]
  show (∑ d : Fin 2048, (half * (x0 (ix2 i d) : EReal)) * x1 (ix3 0 f d)) * (x3 (ix2 i f) : EReal) * sg (x2 (ix2 i f))
      + ((x2 (ix2 i f) : EReal) * ((∑ d : Fin 2048, (half * (x0 (ix2 i d) : EReal)) * x1 (ix3 0 f d)) * (x3 (ix2 i f) : EReal))) * (sg (x2 (ix2 i f)) * (1 - sg (x2 (ix2 i f))))
    = (down 0 x0 x1 i f * (x3 (ix2 i f) : EReal)) * (sg (x2 (ix2 i f)) * (1 + (x2 (ix2 i f) : EReal) * (1 - sg (x2 (ix2 i f)))))
  rw [e, e']
  exact gate_eq _ _

theorem v16_eq (x0 : Mat S8192x2048 .f32) (x1 : Mat S2x5632x2048 .f32) (x2 : Mat S8192x5632 .bf16) :
    val_main_v16 (F := Ideal) x0 x1 x2 = duo 0 x0 x1 x2 := by
  funext y
  rw [← ix2_eta (n0 := 8192) (n1 := 5632) y]
  exact v16_at x0 x1 x2 (y 0) (y 1)

theorem v15_eq (x0 : Mat S8192x2048 .f32) (x1 : Mat S2x5632x2048 .f32) (x2 x3 : Mat S8192x5632 .bf16)
    (h : ∀ i f, ∃ v : ℝ, down 0 x0 x1 i f = (v : EReal)) (h3 : ∀ i f, x3 (ix2 i f) = ((EReal.toReal (x3 (ix2 i f)) : ℝ) : EReal)) :
    val_main_v15 (F := Ideal) x0 x1 x2 x3 = dgo 0 x0 x1 x2 x3 := by
  funext y
  rw [← ix2_eta (n0 := 8192) (n1 := 5632) y]
  exact v15_at x0 x1 x2 x3 (y 0) (y 1) (h (y 0) (y 1)) (h3 (y 0) (y 1))

end Cert.Reference5Ideal.Db

namespace Cert.Proof

open Idealize.ShloMosaic Idealize.ShloMosaic.TcCoe Idealize.SL.Sem

theorem frame5_reference : Cert.quiescent_Reference5Ideal := fun m ρ _ =>
  (θ_run _ _ _).mono (fun r h => ⟨fun c => (h c).2.2, sem_eq_zero_of_no_sems (by decide) r.2⟩) (Cert.Reference5Ideal.Value.run m ρ)

theorem algebraic5 [hP : Cert.Pre_finite5.Facts] :
    Cert.algebraic_Kernel5Ideal_Reference5Ideal_pre_finite5 (hKernel5Ideal := Cert.Kernel5Ideal.Gen.facts) (hReference5Ideal := Cert.Reference5Ideal.Gen.facts) (hPre_finite5 := hP) := by
  intro m g m' g' hpre hargs
  refine ⟨fun c => _, fun c => _, Cert.Kernel5Ideal.Value.run_blocks m g, ?_⟩
  refine (θ_run _ _ _).mono (fun r h c => ?_) (Cert.Reference5Ideal.Value.run m' g')
  obtain ⟨r0, r1, rest⟩ := h c
  obtain ⟨e0, e1, e2, e3⟩ := hargs c
  obtain ⟨p0, p1, p3⟩ := Cert.Kernel5Ideal.Db.reals _ _ _ _ (hpre c).1 (hpre c).2.1 (hpre c).2.2
  refine ⟨?_, ?_, rest⟩
  · rw [r0, Cert.Reference5Ideal.Read.val_main_v15_eq, e0, e1, e2, e3,
      Cert.Reference5Ideal.Db.v15_eq _ _ _ _ (Cert.Kernel5Ideal.Db.down_real 0 _ _ p0 p1) p3]
    exact (Cert.Kernel5Ideal.Db.final4 m c).symm
  · rw [r1, Cert.Reference5Ideal.Read.val_main_v16_eq, e0, e1, e2, Cert.Reference5Ideal.Db.v16_eq]
    exact (Cert.Kernel5Ideal.Db.final5 m c).symm

end Cert.Proof

end
-- ==== Proof.Db1.lean ====
/-
  The backward of the down projection and of the gate at the second layer: the kernel's blocks, equal to the reference's two gradients.
-/
module

public import proofs.«01_k».proof.Proof.Db
public import proofs.«01_k».proof.Proof.Gen.Kernel7Ideal.Value
public import proofs.«01_k».proof.Proof.Gen.Reference7Ideal.Read
public import Idealize.ShloMosaic.Lib.StableHlo.RunRead

@[expose] public section

set_option maxRecDepth 16384

noncomputable section

namespace Cert.Kernel7Ideal.Db

open Idealize.ShloMosaic Idealize.ShloMosaic.TcCoe Idealize.ShloMosaic.Pointwise Cert.Kernel7Ideal.Gen Cert.Kernel7Ideal Cert.Kernel7Ideal.Value
open Cert.Kernel2Ideal.Gate (Mat col)
open Cert.Kernel5Ideal.Db (zz zzz down duo dgo pay4_at pay5_at row index_two down_at)

theorem pre_facts7 : Cert.Pre_finite7.Facts := ⟨by decide, by decide, by decide, by decide, by decide, by decide⟩

/-- A point's step is the one the first layer's run takes. -/
theorem pay4_eq : k0_pay4 (F := Ideal) = Cert.Kernel5Ideal.Gen.k0_pay4 (F := Ideal) := rfl
theorem pay5_eq : k0_pay5 (F := Ideal) = Cert.Kernel5Ideal.Gen.k0_pay5 (F := Ideal) := rfl

theorem out4 (x0 : Mat S512x2048 .f32) (x1 : Mat S1x1408x2048 .bf16) (x2 x3 : Mat S512x1408 .bf16) :
    out0_4 (F := Ideal) x0 x1 x2 x3 = k0_pay5 x0 x1 x2 x3 := by
  unfold out0_4
  rw [View.canon_unit_zero zz]
  simp only [View.ld_unit_zero (S := S512x2048) zz, View.ld_unit_zero (S := S1x1408x2048) zzz, View.ld_unit_zero (S := S512x1408) zz]

theorem out5 (x0 : Mat S512x2048 .f32) (x1 : Mat S1x1408x2048 .bf16) (x2 x3 : Mat S512x1408 .bf16) :
    out0_5 (F := Ideal) x0 x1 x2 x3 = k0_pay4 x0 x1 x2 := by
  unfold out0_5
  rw [View.canon_unit_zero zz]
  simp only [View.ld_unit_zero (S := S512x2048) zz, View.ld_unit_zero (S := S1x1408x2048) zzz, View.ld_unit_zero (S := S512x1408) zz]

theorem index0 : ∀ t : Fin cfg0.N, win0_0.index t = ![t.val % 16, 0] := (by decide +kernel : ∀ t : Fin grid0.N, _)
theorem index1 : ∀ t : Fin cfg0.N, win0_1.index t = ![1, t.val / 16, 0] := (by decide +kernel : ∀ t : Fin grid0.N, _)
theorem index2 : ∀ t : Fin cfg0.N, win0_2.index t = ![t.val % 16, t.val / 16] := (by decide +kernel : ∀ t : Fin grid0.N, _)
theorem index3 : ∀ t : Fin cfg0.N, win0_3.index t = ![t.val % 16, t.val / 16] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![t.val % 16, t.val / 16] := (by decide +kernel : ∀ t : Fin grid0.N, _)

theorem div16 (t : Fin cfg0.N) : t.val / 16 % 4 = t.val / 16 := by have h : t.val < 64 := t.isLt; omega

theorem blk0 (A : Mat S8192x2048 .f32) (t : Fin cfg0.N) (r : Fin 512) (d : Fin 2048) :
    ((cfg0.win 0).blk t).view.read (Elt Ideal) A (ix2 r d) = A (ix2 (row t.val r) d) := by
  blk_ext [index0, row]

theorem blk1 (A : Mat S2x5632x2048 .bf16) (t : Fin cfg0.N) (f : Fin 1408) (d : Fin 2048) :
    ((cfg0.win 1).blk t).view.read (Elt Ideal) A (ix3 0 f d) = A (ix3 1 (col (t.val / 16) f) d) := by
  blk_ext [index1, col, div16]

theorem blk2 (A : Mat S8192x5632 .bf16) (t : Fin cfg0.N) (r : Fin 512) (f : Fin 1408) :
    ((cfg0.win 2).blk t).view.read (Elt Ideal) A (ix2 r f) = A (ix2 (row t.val r) (col (t.val / 16) f)) := by
  blk_ext [index2, row, col, div16]

theorem blk3 (A : Mat S8192x5632 .bf16) (t : Fin cfg0.N) (r : Fin 512) (f : Fin 1408) :
    ((cfg0.win 3).blk t).view.read (Elt Ideal) A (ix2 r f) = A (ix2 (row t.val r) (col (t.val / 16) f)) := by
  blk_ext [index3, row, col, div16]

theorem blk4 (A : Mat S8192x5632 .bf16) (t : Fin cfg0.N) (r : Fin 512) (f : Fin 1408) :
    ((cfg0.win 4).blk t).view.read (Elt Ideal) A (ix2 r f) = A (ix2 (row t.val r) (col (t.val / 16) f)) := by
  blk_ext [index4, row, col, div16]

theorem blk5 (A : Mat S8192x5632 .bf16) (t : Fin cfg0.N) (r : Fin 512) (f : Fin 1408) :
    ((cfg0.win 5).blk t).view.read (Elt Ideal) A (ix2 r f) = A (ix2 (row t.val r) (col (t.val / 16) f)) := by
  blk_ext [index5, row, col, div16]

variable (m : (ℓ : Loc nD τ sig) → Buf (Elt Ideal) ℓ) (c : Dev nD)

theorem V_v0 : V m c main_v0 = truncf (F := Ideal) (φ := .f32) .bf16 (m ((c : Thread nD τ).loc main_arg1)) bitsLt_bf16_f32 := by
  dsimp only [V]
  after_reads_simp
  try simp -implicitDefEqProofs only [StableHlo.TRef.toBuf, StableHlo.TRef.ofBuf, cast_cast, cast_eq]
  try rfl

theorem iblk0 (t : Fin cfg0.N) (r : Fin 512) (d : Fin 2048) : iblk m c 0 t (ix2 r d) = m ((c : Thread nD τ).loc main_arg0) (ix2 (row t.val r) d) :=
  (congrFun (congrArg (fun A => ((cfg0.win 0).blk t).view.read (Elt Ideal) A) (V_main_arg0 m c)) (ix2 r d)).trans (blk0 _ t r d)

theorem iblk1 (t : Fin cfg0.N) (f : Fin 1408) (d : Fin 2048) : iblk m c 1 t (ix3 0 f d) = m ((c : Thread nD τ).loc main_arg1) (ix3 1 (col (t.val / 16) f) d) :=
  (congrFun (congrArg (fun A => ((cfg0.win 1).blk t).view.read (Elt Ideal) A) (V_v0 m c)) (ix3 0 f d)).trans (blk1 _ t f d)

theorem iblk2 (t : Fin cfg0.N) (r : Fin 512) (f : Fin 1408) : iblk m c 2 t (ix2 r f) = m ((c : Thread nD τ).loc main_arg2) (ix2 (row t.val r) (col (t.val / 16) f)) :=
  (congrFun (congrArg (fun A => ((cfg0.win 2).blk t).view.read (Elt Ideal) A) (V_main_arg2 m c)) (ix2 r f)).trans (blk2 _ t r f)

theorem iblk3 (t : Fin cfg0.N) (r : Fin 512) (f : Fin 1408) : iblk m c 3 t (ix2 r f) = m ((c : Thread nD τ).loc main_arg3) (ix2 (row t.val r) (col (t.val / 16) f)) :=
  (congrFun (congrArg (fun A => ((cfg0.win 3).blk t).view.read (Elt Ideal) A) (V_main_arg3 m c)) (ix2 r f)).trans (blk3 _ t r f)

theorem flushed4_eq (t : Fin cfg0.N) :
    (dats m 0 c).flushed 4 t = ((cfg0.win 4).blk t).view.read (Elt Ideal)
      (dgo 1 (m ((c : Thread nD τ).loc main_arg0)) (m ((c : Thread nD τ).loc main_arg1)) (m ((c : Thread nD τ).loc main_arg2)) (m ((c : Thread nD τ).loc main_arg3))) := by
  rw [flushed4, out4]
  funext y
  obtain ⟨r, f, rfl⟩ := index_two (n := 512) (p := 1408) y
  refine Eq.trans ?_ (blk4 _ t r f).symm
  rw [pay5_eq]
  refine (pay5_at _ _ _ _ r f).trans ?_
  rw [down_at 1 t r f _ _ _ _ (iblk0 m c t r) (iblk1 m c t f), iblk2, iblk3]
  rfl

theorem flushed5_eq (t : Fin cfg0.N) :
    (dats m 0 c).flushed 5 t = ((cfg0.win 5).blk t).view.read (Elt Ideal)
      (duo 1 (m ((c : Thread nD τ).loc main_arg0)) (m ((c : Thread nD τ).loc main_arg1)) (m ((c : Thread nD τ).loc main_arg2))) := by
  rw [flushed5, out5]
  funext y
  obtain ⟨r, f, rfl⟩ := index_two (n := 512) (p := 1408) y
  refine Eq.trans ?_ (blk5 _ t r f).symm
  rw [pay4_eq]
  refine (pay4_at _ _ _ r f).trans ?_
  rw [down_at 1 t r f _ _ _ _ (iblk0 m c t r) (iblk1 m c t f), iblk2]
  rfl

/-- The point that covers an element. -/
theorem point (y0 y1 : ℕ) (h0 : y0 < 8192) (h1 : y1 < 5632) : 16 * (y1 / 1408) + y0 / 512 < cfg0.N := by
  have hN : cfg0.N = 64 := N_0
  rw [hN]; clear hN; omega

theorem final4 : (dats m 0 c).arrAt 4 cfg0.N
    = dgo 1 (m ((c : Thread nD τ).loc main_arg0)) (m ((c : Thread nD τ).loc main_arg1)) (m ((c : Thread nD τ).loc main_arg2)) (m ((c : Thread nD τ).loc main_arg3)) := by
  funext y
  have h0 : (y 0).val < 8192 := (y 0).isLt
  have h1 : (y 1).val < 5632 := (y 1).isLt
  refine (dats m 0 c).arrAt_apply_of_mem 4 _ (fun t _ => flushed4_eq m c t) cfg0.N ⟨_, point _ _ h0 h1⟩ y (point _ _ h0 h1) (flush0_4 _) ?_
  mem_blk [index4]
  show ((16 * ((y 1).val / 1408) + (y 0).val / 512) % 16 * 512 ≤ (y 0).val ∧ (y 0).val < (16 * ((y 1).val / 1408) + (y 0).val / 512) % 16 * 512 + 512)
    ∧ ((16 * ((y 1).val / 1408) + (y 0).val / 512) / 16 * 1408 ≤ (y 1).val ∧ (y 1).val < (16 * ((y 1).val / 1408) + (y 0).val / 512) / 16 * 1408 + 1408)
  omega

theorem final5 : (dats m 0 c).arrAt 5 cfg0.N
    = duo 1 (m ((c : Thread nD τ).loc main_arg0)) (m ((c : Thread nD τ).loc main_arg1)) (m ((c : Thread nD τ).loc main_arg2)) := by
  funext y
  have h0 : (y 0).val < 8192 := (y 0).isLt
  have h1 : (y 1).val < 5632 := (y 1).isLt
  refine (dats m 0 c).arrAt_apply_of_mem 5 _ (fun t _ => flushed5_eq m c t) cfg0.N ⟨_, point _ _ h0 h1⟩ y (point _ _ h0 h1) (flush0_5 _) ?_
  mem_blk [index5]
  show ((16 * ((y 1).val / 1408) + (y 0).val / 512) % 16 * 512 ≤ (y 0).val ∧ (y 0).val < (16 * ((y 1).val / 1408) + (y 0).val / 512) % 16 * 512 + 512)
    ∧ ((16 * ((y 1).val / 1408) + (y 0).val / 512) / 16 * 1408 ≤ (y 1).val ∧ (y 1).val < (16 * ((y 1).val / 1408) + (y 0).val / 512) / 16 * 1408 + 1408)
  omega

/-- What the precondition says of the arguments. -/
theorem reals [Cert.Pre_finite7.Facts] (x0 : Mat S8192x2048 .f32) (x1 : Mat S2x5632x2048 .f32) (x2 x3 : Mat S8192x5632 .bf16)
    (h0 : (Cert.Pre_finite7.fn (F := Ideal) x0 x1 x2 x3).1 = fun _ => 1#1) (h1 : (Cert.Pre_finite7.fn (F := Ideal) x0 x1 x2 x3).2.1 = fun _ => 1#1)
    (h2 : (Cert.Pre_finite7.fn (F := Ideal) x0 x1 x2 x3).2.2 = fun _ => 1#1) :
    (∀ i d, x0 (ix2 i d) = ((EReal.toReal (x0 (ix2 i d)) : ℝ) : EReal)) ∧ (∀ f d, x1 (ix3 1 f d) = ((EReal.toReal (x1 (ix3 1 f d)) : ℝ) : EReal))
      ∧ ∀ i f, x3 (ix2 i f) = ((EReal.toReal (x3 (ix2 i f)) : ℝ) : EReal) := by
  refine ⟨fun i d => ?_, fun f d => ?_, fun i f => ?_⟩
  · have e := congrFun h0 (ix2 i d)
    dsimp only [Cert.Pre_finite7.fn] at e
    revert e
    pointwise
    exact Cert.KernelIdeal.Bwd.real_of _
  · have e := congrFun h1 (ix2 f d)
    dsimp only [Cert.Pre_finite7.fn] at e
    revert e
    pointwise
    exact Cert.KernelIdeal.Bwd.real_of _
  · have e := congrFun h2 (ix2 i f)
    dsimp only [Cert.Pre_finite7.fn] at e
    revert e
    pointwise
    exact Cert.KernelIdeal.Bwd.real_of _

end Cert.Kernel7Ideal.Db

namespace Cert.Reference7Ideal.Db

open Idealize.ShloMosaic Idealize.ShloMosaic.Pointwise Cert.Reference7Ideal.Gen Cert.Reference7Ideal Cert.Reference7Ideal.Read
open Cert.Kernel2Ideal.Gate (Mat col)
open Cert.Kernel4Ideal.Gd (half half_sum)
open Cert.Kernel5Ideal.Db (sg down duo dgo gate_eq)
open Cert.Reference5Ideal.Db (down_eq)

theorem v16_at (x0 : Mat S8192x2048 .f32) (x1 : Mat S2x5632x2048 .f32) (x2 : Mat S8192x5632 .bf16) (i : Fin 8192) (f : Fin 5632) :
    val_main_v16 (F := Ideal) x0 x1 x2 (ix2 i f) = duo 1 x0 x1 x2 (ix2 i f) := by
  pointwise [val_main_v16, val_main_v12, val_main_v11, val_main_v10, val_main_v9, val_main_cst_0, val_main_v5, val_main_v4, val_main_v2_0, val_main_v2_2, val_main_v0, val_main_call0_v4, val_main_call0_cst_0, val_main_call0_v3, val_main_call0_v2, val_main_call0_cst, val_main_call0_v1, val_main_call0_v0]
  exact (mul_comm (G := EReal) _ _).trans (congrArg (· * ((x2 (ix2 i f) : EReal) * sg (x2 (ix2 i f)))) (down_eq 1 x0 x1 i f))

theorem v15_at (x0 : Mat S8192x2048 .f32) (x1 : Mat S2x5632x2048 .f32) (x2 x3 : Mat S8192x5632 .bf16) (i : Fin 8192) (f : Fin 5632)
    (h : ∃ v : ℝ, down 1 x0 x1 i f = (v : EReal)) (h3 : x3 (ix2 i f) = ((EReal.toReal (x3 (ix2 i f)) : ℝ) : EReal)) :
    val_main_v15 (F := Ideal) x0 x1 x2 x3 (ix2 i f) = dgo 1 x0 x1 x2 x3 (ix2 i f) := by
  pointwise [val_main_v15, val_main_v14, val_main_call1_v2, val_main_call1_v1, val_main_call1_v0, val_main_v13, val_main_v11, val_main_v10, val_main_v9, val_main_cst_0, val_main_v5, val_main_v4, val_main_v1, val_main_v2_1, val_main_v2_2, val_main_v0, val_main_call0_v7, val_main_call0_v6, val_main_call0_cst_1, val_main_call0_v4, val_main_call0_cst_0, val_main_call0_v3, val_main_call0_v2, val_main_call0_cst, val_main_call0_v1, val_main_call0_v0]
  obtain ⟨v, hv⟩ := h
  have e : (∑ d : Fin 2048, (half * (x0 (ix2 i d) : EReal)) * x1 (ix3 1 f d)) * (x3 (ix2 i f) : EReal) = ((v * EReal.toReal (x3 (ix2 i f)) : ℝ) : EReal) := by
    rw [down_eq 1, hv, EReal.coe_mul, ← h3]
  have e' : down 1 x0 x1 i f * (x3 (ix2 i f) : EReal) = ((v * EReal.toReal (x3 (ix2 i f)) : ℝ) : EReal) := by
    rw [hv, EReal.coe_mul, ← h3]
  show (∑ d : Fin 2048, (half * (x0 (ix2 i d) : EReal)) * x1 (ix3 1 f d)) * (x3 (ix2 i f) : EReal) * sg (x2 (ix2 i f))
      + ((x2 (ix2 i f) : EReal) * ((∑ d : Fin 2048, (half * (x0 (ix2 i d) : EReal)) * x1 (ix3 1 f d)) * (x3 (ix2 i f) : EReal))) * (sg (x2 (ix2 i f)) * (1 - sg (x2 (ix2 i f))))
    = (down 1 x0 x1 i f * (x3 (ix2 i f) : EReal)) * (sg (x2 (ix2 i f)) * (1 + (x2 (ix2 i f) : EReal) * (1 - sg (x2 (ix2 i f)))))
  rw [e, e']
  exact gate_eq _ _

theorem v16_eq (x0 : Mat S8192x2048 .f32) (x1 : Mat S2x5632x2048 .f32) (x2 : Mat S8192x5632 .bf16) :
    val_main_v16 (F := Ideal) x0 x1 x2 = duo 1 x0 x1 x2 := by
  funext y
  rw [← ix2_eta (n0 := 8192) (n1 := 5632) y]
  exact v16_at x0 x1 x2 (y 0) (y 1)

theorem v15_eq (x0 : Mat S8192x2048 .f32) (x1 : Mat S2x5632x2048 .f32) (x2 x3 : Mat S8192x5632 .bf16)
    (h : ∀ i f, ∃ v : ℝ, down 1 x0 x1 i f = (v : EReal)) (h3 : ∀ i f, x3 (ix2 i f) = ((EReal.toReal (x3 (ix2 i f)) : ℝ) : EReal)) :
    val_main_v15 (F := Ideal) x0 x1 x2 x3 = dgo 1 x0 x1 x2 x3 := by
  funext y
  rw [← ix2_eta (n0 := 8192) (n1 := 5632) y]
  exact v15_at x0 x1 x2 x3 (y 0) (y 1) (h (y 0) (y 1)) (h3 (y 0) (y 1))

end Cert.Reference7Ideal.Db

namespace Cert.Proof

open Idealize.ShloMosaic Idealize.ShloMosaic.TcCoe Idealize.SL.Sem

theorem frame7_reference : Cert.quiescent_Reference7Ideal := fun m ρ _ =>
  (θ_run _ _ _).mono (fun r h => ⟨fun c => (h c).2.2, sem_eq_zero_of_no_sems (by decide) r.2⟩) (Cert.Reference7Ideal.Value.run m ρ)

theorem algebraic7 [hP : Cert.Pre_finite7.Facts] :
    Cert.algebraic_Kernel7Ideal_Reference7Ideal_pre_finite7 (hKernel7Ideal := Cert.Kernel7Ideal.Gen.facts) (hReference7Ideal := Cert.Reference7Ideal.Gen.facts) (hPre_finite7 := hP) := by
  intro m g m' g' hpre hargs
  refine ⟨fun c => _, fun c => _, Cert.Kernel7Ideal.Value.run_blocks m g, ?_⟩
  refine (θ_run _ _ _).mono (fun r h c => ?_) (Cert.Reference7Ideal.Value.run m' g')
  obtain ⟨r0, r1, rest⟩ := h c
  obtain ⟨e0, e1, e2, e3⟩ := hargs c
  obtain ⟨p0, p1, p3⟩ := Cert.Kernel7Ideal.Db.reals _ _ _ _ (hpre c).1 (hpre c).2.1 (hpre c).2.2
  refine ⟨?_, ?_, rest⟩
  · rw [r0, Cert.Reference7Ideal.Read.val_main_v15_eq, e0, e1, e2, e3,
      Cert.Reference7Ideal.Db.v15_eq _ _ _ _ (Cert.Kernel5Ideal.Db.down_real 1 _ _ p0 p1) p3]
    exact (Cert.Kernel7Ideal.Db.final4 m c).symm
  · rw [r1, Cert.Reference7Ideal.Read.val_main_v16_eq, e0, e1, e2, Cert.Reference7Ideal.Db.v16_eq]
    exact (Cert.Kernel7Ideal.Db.final5 m c).symm

end Cert.Proof

end
-- ==== Proof.Up.lean ====
/-
  The forward gate: the kernel's blocks, equal to the reference's two products and their gated product.
-/
module

public import proofs.«01_k».proof.Proof.Db
public import proofs.«01_k».proof.Proof.Gen.Kernel10Ideal.Value
public import proofs.«01_k».proof.Proof.Gen.Reference10Ideal.Read
public import Idealize.ShloMosaic.Lib.StableHlo.RunRead

@[expose] public section

set_option maxRecDepth 16384

noncomputable section

namespace Cert.Kernel10Ideal.Up

open Idealize.ShloMosaic Idealize.ShloMosaic.TcCoe Idealize.ShloMosaic.Pointwise Cert.Kernel10Ideal.Gen Cert.Kernel10Ideal Cert.Kernel10Ideal.Value
open Cert.Kernel2Ideal.Gate (Mat col hCols hCols_at)
open Cert.Kernel5Ideal.Db (zz sg row index_two)

theorem zzzz : (![0, 0, 0, 0] : Fin 4 → ℕ) = fun _ => 0 := by decide

/-- One hidden row against one column of layer `l`'s weights. -/
def up (l : Fin 2) (x0 : Mat S8192x2048 .bf16) (w : Mat S2x2048x5632 .f32) (i : Fin 8192) (f : Fin 5632) : EReal :=
  ∑ d : Fin 2048, (x0 (ix2 i d) : EReal) * w (ix3 l d f)

/-- A product's result. -/
def prods (l : Fin 2) (x0 : Mat S8192x2048 .bf16) (w : Mat S2x2048x5632 .f32) : Mat S8192x5632 .bf16 := fun y => up l x0 w (y 0) (y 1)

/-- The gated product. -/
def gated (l : Fin 2) (x0 : Mat S8192x2048 .bf16) (x1 x2 : Mat S2x2048x5632 .f32) : Mat S8192x5632 .bf16 := fun y =>
  (up l x0 x1 (y 0) (y 1) * sg (up l x0 x1 (y 0) (y 1))) * up l x0 x2 (y 0) (y 1)

theorem pay3_at (a : Mat S512x2048 .bf16) (w : Mat S1x1x2048x1408 .bf16) (r : Fin 512) (f : Fin 1408) :
    k0_pay3 (F := Ideal) a w (ix2 r f) = ∑ d : Fin 2048, (a (ix2 r d) : EReal) * w (ix4 0 0 d f) := by
  pointwise [k0_pay3, k0_pay1]

theorem pay4_at (a : Mat S512x2048 .bf16) (w : Mat S1x1x2048x1408 .bf16) (r : Fin 512) (f : Fin 1408) :
    k0_pay4 (F := Ideal) a w (ix2 r f) = ∑ d : Fin 2048, (a (ix2 r d) : EReal) * w (ix4 0 0 d f) := by
  pointwise [k0_pay4, k0_pay2]

theorem pay5_at (a : Mat S512x2048 .bf16) (w u : Mat S1x1x2048x1408 .bf16) (r : Fin 512) (f : Fin 1408) :
    k0_pay5 (F := Ideal) a w u (ix2 r f) = ((∑ d : Fin 2048, (a (ix2 r d) : EReal) * w (ix4 0 0 d f)) * sg (∑ d : Fin 2048, (a (ix2 r d) : EReal) * w (ix4 0 0 d f)))
      * ∑ d : Fin 2048, (a (ix2 r d) : EReal) * u (ix4 0 0 d f) := by
  pointwise [k0_pay5, k0_pay1, k0_pay2]
  rw [sub_eq_add_neg, zero_add]
  rfl

/-- A block's product is the whole rows' product. -/
theorem up_at (l : Fin 2) (t : ℕ) (r : Fin 512) (f : Fin 1408) (a : Mat S512x2048 .bf16) (W : Mat S1x1x2048x1408 .bf16) (x0 : Mat S8192x2048 .bf16) (w : Mat S2x2048x5632 .f32)
    (hA : ∀ d, a (ix2 r d) = x0 (ix2 (row t r) d)) (hW : ∀ d, (W (ix4 0 0 d f) : EReal) = w (ix3 l d (col (t / 16) f))) :
    ∑ d : Fin 2048, (a (ix2 r d) : EReal) * W (ix4 0 0 d f) = up l x0 w (row t r) (col (t / 16) f) := by
  unfold up
  simp only [hA, hW]

theorem out3 (x0 : Mat S512x2048 .bf16) (x1 x2 : Mat S1x1x2048x1408 .bf16) : out0_3 (F := Ideal) x0 x1 x2 = k0_pay3 x0 x1 := by
  unfold out0_3
  rw [View.canon_unit_zero zz]
  simp only [View.ld_unit_zero (S := S512x2048) zz, View.ld_unit_zero (S := S1x1x2048x1408) zzzz]

theorem out4 (x0 : Mat S512x2048 .bf16) (x1 x2 : Mat S1x1x2048x1408 .bf16) : out0_4 (F := Ideal) x0 x1 x2 = k0_pay4 x0 x2 := by
  unfold out0_4
  rw [View.canon_unit_zero zz]
  simp only [View.ld_unit_zero (S := S512x2048) zz, View.ld_unit_zero (S := S1x1x2048x1408) zzzz]

theorem out5 (x0 : Mat S512x2048 .bf16) (x1 x2 : Mat S1x1x2048x1408 .bf16) : out0_5 (F := Ideal) x0 x1 x2 = k0_pay5 x0 x1 x2 := by
  unfold out0_5
  rw [View.canon_unit_zero zz]
  simp only [View.ld_unit_zero (S := S512x2048) zz, View.ld_unit_zero (S := S1x1x2048x1408) zzzz]

theorem index0 : ∀ t : Fin cfg0.N, win0_0.index t = ![t.val % 16, 0] := (by decide +kernel : ∀ t : Fin grid0.N, _)
theorem index1 : ∀ t : Fin cfg0.N, win0_1.index t = ![0, t.val / 16, 0, 0] := (by decide +kernel : ∀ t : Fin grid0.N, _)
theorem index2 : ∀ t : Fin cfg0.N, win0_2.index t = ![0, t.val / 16, 0, 0] := (by decide +kernel : ∀ t : Fin grid0.N, _)
theorem index3 : ∀ t : Fin cfg0.N, win0_3.index t = ![t.val % 16, t.val / 16] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![t.val % 16, t.val / 16] := (by decide +kernel : ∀ t : Fin grid0.N, _)

theorem div16 (t : Fin cfg0.N) : t.val / 16 % 4 = t.val / 16 := by have h : t.val < 64 := t.isLt; omega

theorem blk0 (A : Mat S8192x2048 .bf16) (t : Fin cfg0.N) (r : Fin 512) (d : Fin 2048) :
    ((cfg0.win 0).blk t).view.read (Elt Ideal) A (ix2 r d) = A (ix2 (row t.val r) d) := by
  blk_ext [index0, row]

theorem blk1 (A : Mat S2x4x2048x1408 .bf16) (t : Fin cfg0.N) (d : Fin 2048) (f : Fin 1408) :
    ((cfg0.win 1).blk t).view.read (Elt Ideal) A (ix4 0 0 d f) = A (ix4 0 ⟨t.val / 16 % 4, by omega⟩ d f) := by
  blk_ext [index1, div16]

theorem blk2 (A : Mat S2x4x2048x1408 .bf16) (t : Fin cfg0.N) (d : Fin 2048) (f : Fin 1408) :
    ((cfg0.win 2).blk t).view.read (Elt Ideal) A (ix4 0 0 d f) = A (ix4 0 ⟨t.val / 16 % 4, by omega⟩ d f) := by
  blk_ext [index2, div16]

theorem blk3 (A : Mat S8192x5632 .bf16) (t : Fin cfg0.N) (r : Fin 512) (f : Fin 1408) :
    ((cfg0.win 3).blk t).view.read (Elt Ideal) A (ix2 r f) = A (ix2 (row t.val r) (col (t.val / 16) f)) := by
  blk_ext [index3, row, col, div16]

theorem blk4 (A : Mat S8192x5632 .bf16) (t : Fin cfg0.N) (r : Fin 512) (f : Fin 1408) :
    ((cfg0.win 4).blk t).view.read (Elt Ideal) A (ix2 r f) = A (ix2 (row t.val r) (col (t.val / 16) f)) := by
  blk_ext [index4, row, col, div16]

theorem blk5 (A : Mat S8192x5632 .bf16) (t : Fin cfg0.N) (r : Fin 512) (f : Fin 1408) :
    ((cfg0.win 5).blk t).view.read (Elt Ideal) A (ix2 r f) = A (ix2 (row t.val r) (col (t.val / 16) f)) := by
  blk_ext [index5, row, col, div16]

theorem col_mod (k : ℕ) (f : Fin 1408) : col (k % 4) f = col k f := Fin.ext (by show 1408 * (k % 4 % 4) + _ = 1408 * (k % 4) + _; omega)

variable (m : (ℓ : Loc nD τ sig) → Buf (Elt Ideal) ℓ) (c : Dev nD)

theorem V_v2 : V m c main_v2 = hCols (m ((c : Thread nD τ).loc main_arg1)) := by
  dsimp only [V]
  after_reads_simp
  try simp -implicitDefEqProofs only [StableHlo.TRef.toBuf, StableHlo.TRef.ofBuf, cast_cast, cast_eq]
  rfl

theorem V_v5 : V m c main_v5 = hCols (m ((c : Thread nD τ).loc main_arg2)) := by
  dsimp only [V]
  after_reads_simp
  try simp -implicitDefEqProofs only [StableHlo.TRef.toBuf, StableHlo.TRef.ofBuf, cast_cast, cast_eq]
  rfl

theorem iblk0 (t : Fin cfg0.N) (r : Fin 512) (d : Fin 2048) : iblk m c 0 t (ix2 r d) = m ((c : Thread nD τ).loc main_arg0) (ix2 (row t.val r) d) :=
  (congrFun (congrArg (fun A => ((cfg0.win 0).blk t).view.read (Elt Ideal) A) (V_main_arg0 m c)) (ix2 r d)).trans (blk0 _ t r d)

theorem iblk1 (t : Fin cfg0.N) (f : Fin 1408) (d : Fin 2048) : iblk m c 1 t (ix4 0 0 d f) = m ((c : Thread nD τ).loc main_arg1) (ix3 0 d (col (t.val / 16) f)) :=
  (congrFun (congrArg (fun A => ((cfg0.win 1).blk t).view.read (Elt Ideal) A) (V_v2 m c)) (ix4 0 0 d f)).trans
    ((blk1 _ t d f).trans ((hCols_at _ 0 ⟨t.val / 16 % 4, by omega⟩ d f).trans (by rw [col_mod])))

theorem iblk2 (t : Fin cfg0.N) (f : Fin 1408) (d : Fin 2048) : iblk m c 2 t (ix4 0 0 d f) = m ((c : Thread nD τ).loc main_arg2) (ix3 0 d (col (t.val / 16) f)) :=
  (congrFun (congrArg (fun A => ((cfg0.win 2).blk t).view.read (Elt Ideal) A) (V_v5 m c)) (ix4 0 0 d f)).trans
    ((blk2 _ t d f).trans ((hCols_at _ 0 ⟨t.val / 16 % 4, by omega⟩ d f).trans (by rw [col_mod])))

theorem flushed3_eq (t : Fin cfg0.N) :
    (dats m 0 c).flushed 3 t = ((cfg0.win 3).blk t).view.read (Elt Ideal) (prods 0 (m ((c : Thread nD τ).loc main_arg0)) (m ((c : Thread nD τ).loc main_arg1))) := by
  rw [flushed3, out3]
  funext y
  obtain ⟨r, f, rfl⟩ := index_two (n := 512) (p := 1408) y
  refine Eq.trans ?_ (blk3 _ t r f).symm
  refine (pay3_at _ _ r f).trans ?_
  exact up_at 0 t.val r f _ _ _ _ (iblk0 m c t r) (iblk1 m c t f)

theorem flushed4_eq (t : Fin cfg0.N) :
    (dats m 0 c).flushed 4 t = ((cfg0.win 4).blk t).view.read (Elt Ideal) (prods 0 (m ((c : Thread nD τ).loc main_arg0)) (m ((c : Thread nD τ).loc main_arg2))) := by
  rw [flushed4, out4]
  funext y
  obtain ⟨r, f, rfl⟩ := index_two (n := 512) (p := 1408) y
  refine Eq.trans ?_ (blk4 _ t r f).symm
  refine (pay4_at _ _ r f).trans ?_
  exact up_at 0 t.val r f _ _ _ _ (iblk0 m c t r) (iblk2 m c t f)

theorem flushed5_eq (t : Fin cfg0.N) :
    (dats m 0 c).flushed 5 t = ((cfg0.win 5).blk t).view.read (Elt Ideal)
      (gated 0 (m ((c : Thread nD τ).loc main_arg0)) (m ((c : Thread nD τ).loc main_arg1)) (m ((c : Thread nD τ).loc main_arg2))) := by
  rw [flushed5, out5]
  funext y
  obtain ⟨r, f, rfl⟩ := index_two (n := 512) (p := 1408) y
  refine Eq.trans ?_ (blk5 _ t r f).symm
  refine (pay5_at _ _ _ r f).trans ?_
  rw [up_at 0 t.val r f _ _ _ _ (iblk0 m c t r) (iblk1 m c t f), up_at 0 t.val r f _ _ _ _ (iblk0 m c t r) (iblk2 m c t f)]
  rfl

/-- The point that covers an element. -/
theorem point (y0 y1 : ℕ) (h0 : y0 < 8192) (h1 : y1 < 5632) : 16 * (y1 / 1408) + y0 / 512 < cfg0.N := by
  have hN : cfg0.N = 64 := N_0
  rw [hN]; clear hN; omega

/-- Its block holds the element. -/
theorem inside (y0 y1 : ℕ) (h0 : y0 < 8192) (h1 : y1 < 5632) :
    ((16 * (y1 / 1408) + y0 / 512) % 16 * 512 ≤ y0 ∧ y0 < (16 * (y1 / 1408) + y0 / 512) % 16 * 512 + 512)
      ∧ ((16 * (y1 / 1408) + y0 / 512) / 16 * 1408 ≤ y1 ∧ y1 < (16 * (y1 / 1408) + y0 / 512) / 16 * 1408 + 1408) := by
  omega

theorem final3 : (dats m 0 c).arrAt 3 cfg0.N = prods 0 (m ((c : Thread nD τ).loc main_arg0)) (m ((c : Thread nD τ).loc main_arg1)) := by
  funext y
  have h0 : (y 0).val < 8192 := (y 0).isLt
  have h1 : (y 1).val < 5632 := (y 1).isLt
  refine (dats m 0 c).arrAt_apply_of_mem 3 _ (fun t _ => flushed3_eq m c t) cfg0.N ⟨_, point _ _ h0 h1⟩ y (point _ _ h0 h1) (flush0_3 _) ?_
  mem_blk [index3]
  exact inside _ _ h0 h1

theorem final4 : (dats m 0 c).arrAt 4 cfg0.N = prods 0 (m ((c : Thread nD τ).loc main_arg0)) (m ((c : Thread nD τ).loc main_arg2)) := by
  funext y
  have h0 : (y 0).val < 8192 := (y 0).isLt
  have h1 : (y 1).val < 5632 := (y 1).isLt
  refine (dats m 0 c).arrAt_apply_of_mem 4 _ (fun t _ => flushed4_eq m c t) cfg0.N ⟨_, point _ _ h0 h1⟩ y (point _ _ h0 h1) (flush0_4 _) ?_
  mem_blk [index4]
  exact inside _ _ h0 h1

theorem final5 : (dats m 0 c).arrAt 5 cfg0.N
    = gated 0 (m ((c : Thread nD τ).loc main_arg0)) (m ((c : Thread nD τ).loc main_arg1)) (m ((c : Thread nD τ).loc main_arg2)) := by
  funext y
  have h0 : (y 0).val < 8192 := (y 0).isLt
  have h1 : (y 1).val < 5632 := (y 1).isLt
  refine (dats m 0 c).arrAt_apply_of_mem 5 _ (fun t _ => flushed5_eq m c t) cfg0.N ⟨_, point _ _ h0 h1⟩ y (point _ _ h0 h1) (flush0_5 _) ?_
  mem_blk [index5]
  exact inside _ _ h0 h1

end Cert.Kernel10Ideal.Up

namespace Cert.Reference10Ideal.Up

open Idealize.ShloMosaic Idealize.ShloMosaic.Pointwise Cert.Reference10Ideal.Gen Cert.Reference10Ideal Cert.Reference10Ideal.Read
open Cert.Kernel2Ideal.Gate (Mat)
open Cert.Kernel10Ideal.Up (up prods gated)

theorem v8_at (x0 : Mat S8192x2048 .bf16) (x1 : Mat S2x2048x5632 .f32) (i : Fin 8192) (f : Fin 5632) :
    val_main_v8 (F := Ideal) x0 x1 (ix2 i f) = up 0 x0 x1 i f := by
  pointwise [val_main_v8, val_main_v3, val_main_v2, val_main_v1, val_main_v0]
  rfl

theorem v9_at (x0 : Mat S8192x2048 .bf16) (x2 : Mat S2x2048x5632 .f32) (i : Fin 8192) (f : Fin 5632) :
    val_main_v9 (F := Ideal) x0 x2 (ix2 i f) = up 0 x0 x2 i f := by
  pointwise [val_main_v9, val_main_v7, val_main_v6, val_main_v5, val_main_v4]
  rfl

theorem v12_at (x0 : Mat S8192x2048 .bf16) (x1 x2 : Mat S2x2048x5632 .f32) (i : Fin 8192) (f : Fin 5632) :
    val_main_v12 (F := Ideal) x0 x1 x2 (ix2 i f) = gated 0 x0 x1 x2 (ix2 i f) := by
  pointwise [val_main_v12, val_main_v11, val_main_v10, val_main_call0_v5, val_main_call0_v4, val_main_call0_cst_0, val_main_call0_v3, val_main_call0_v2, val_main_call0_cst, val_main_call0_v1, val_main_call0_v0, val_main_v7, val_main_v6, val_main_v5, val_main_v4, val_main_v3, val_main_v2, val_main_v1, val_main_v0]
  rfl

theorem v8_eq (x0 : Mat S8192x2048 .bf16) (x1 : Mat S2x2048x5632 .f32) : val_main_v8 (F := Ideal) x0 x1 = prods 0 x0 x1 := by
  funext y
  rw [← ix2_eta (n0 := 8192) (n1 := 5632) y]
  exact v8_at x0 x1 (y 0) (y 1)

theorem v9_eq (x0 : Mat S8192x2048 .bf16) (x2 : Mat S2x2048x5632 .f32) : val_main_v9 (F := Ideal) x0 x2 = prods 0 x0 x2 := by
  funext y
  rw [← ix2_eta (n0 := 8192) (n1 := 5632) y]
  exact v9_at x0 x2 (y 0) (y 1)

theorem v12_eq (x0 : Mat S8192x2048 .bf16) (x1 x2 : Mat S2x2048x5632 .f32) : val_main_v12 (F := Ideal) x0 x1 x2 = gated 0 x0 x1 x2 := by
  funext y
  rw [← ix2_eta (n0 := 8192) (n1 := 5632) y]
  exact v12_at x0 x1 x2 (y 0) (y 1)

end Cert.Reference10Ideal.Up

namespace Cert.Proof

open Idealize.ShloMosaic Idealize.ShloMosaic.TcCoe Idealize.SL.Sem

theorem frame10_reference : Cert.quiescent_Reference10Ideal := fun m ρ _ =>
  (θ_run _ _ _).mono (fun r h => ⟨fun c => (h c).2.2.2, sem_eq_zero_of_no_sems (by decide) r.2⟩) (Cert.Reference10Ideal.Value.run m ρ)

theorem algebraic10 : Cert.algebraic_Kernel10Ideal_Reference10Ideal (hKernel10Ideal := Cert.Kernel10Ideal.Gen.facts) (hReference10Ideal := Cert.Reference10Ideal.Gen.facts) := by
  intro m g m' g' _ hargs
  refine ⟨fun c => _, fun c => _, fun c => _, Cert.Kernel10Ideal.Value.run_blocks m g, ?_⟩
  refine (θ_run _ _ _).mono (fun r h c => ?_) (Cert.Reference10Ideal.Value.run m' g')
  obtain ⟨r0, r1, r2, rest⟩ := h c
  obtain ⟨e0, e1, e2⟩ := hargs c
  refine ⟨?_, ?_, ?_, rest⟩
  · rw [r0, Cert.Reference10Ideal.Read.val_main_v8_eq, e0, e1, Cert.Reference10Ideal.Up.v8_eq]
    exact (Cert.Kernel10Ideal.Up.final3 m c).symm
  · rw [r1, Cert.Reference10Ideal.Read.val_main_v9_eq, e0, e2, Cert.Reference10Ideal.Up.v9_eq]
    exact (Cert.Kernel10Ideal.Up.final4 m c).symm
  · rw [r2, Cert.Reference10Ideal.Read.val_main_v12_eq, e0, e1, e2, Cert.Reference10Ideal.Up.v12_eq]
    exact (Cert.Kernel10Ideal.Up.final5 m c).symm

end Cert.Proof

end
-- ==== Proof.Up1.lean ====
/-
  The forward gate at the second layer: the kernel's blocks, equal to the reference's two products and their gated product.
-/
module

public import proofs.«01_k».proof.Proof.Up
public import proofs.«01_k».proof.Proof.Gen.Kernel11Ideal.Value
public import proofs.«01_k».proof.Proof.Gen.Reference11Ideal.Read
public import Idealize.ShloMosaic.Lib.StableHlo.RunRead

@[expose] public section

set_option maxRecDepth 16384

noncomputable section

namespace Cert.Kernel11Ideal.Up

open Idealize.ShloMosaic Idealize.ShloMosaic.TcCoe Idealize.ShloMosaic.Pointwise Cert.Kernel11Ideal.Gen Cert.Kernel11Ideal Cert.Kernel11Ideal.Value
open Cert.Kernel2Ideal.Gate (Mat col hCols hCols_at)
open Cert.Kernel5Ideal.Db (zz row index_two)
open Cert.Kernel10Ideal.Up (zzzz prods gated pay3_at pay4_at pay5_at up_at col_mod inside)

/-- A point's step is the one the first layer's run takes. -/
theorem pay3_eq : k0_pay3 (F := Ideal) = Cert.Kernel10Ideal.Gen.k0_pay3 (F := Ideal) := rfl
theorem pay4_eq : k0_pay4 (F := Ideal) = Cert.Kernel10Ideal.Gen.k0_pay4 (F := Ideal) := rfl
theorem pay5_eq : k0_pay5 (F := Ideal) = Cert.Kernel10Ideal.Gen.k0_pay5 (F := Ideal) := rfl

theorem div16 (t : Fin cfg0.N) : t.val / 16 % 4 = t.val / 16 := by have h : t.val < 64 := t.isLt; omega

theorem out3 (x0 : Mat S512x2048 .bf16) (x1 x2 : Mat S1x1x2048x1408 .bf16) : out0_3 (F := Ideal) x0 x1 x2 = k0_pay3 x0 x1 := by
  unfold out0_3
  rw [View.canon_unit_zero zz]
  simp only [View.ld_unit_zero (S := S512x2048) zz, View.ld_unit_zero (S := S1x1x2048x1408) zzzz]

theorem out4 (x0 : Mat S512x2048 .bf16) (x1 x2 : Mat S1x1x2048x1408 .bf16) : out0_4 (F := Ideal) x0 x1 x2 = k0_pay4 x0 x2 := by
  unfold out0_4
  rw [View.canon_unit_zero zz]
  simp only [View.ld_unit_zero (S := S512x2048) zz, View.ld_unit_zero (S := S1x1x2048x1408) zzzz]

theorem out5 (x0 : Mat S512x2048 .bf16) (x1 x2 : Mat S1x1x2048x1408 .bf16) : out0_5 (F := Ideal) x0 x1 x2 = k0_pay5 x0 x1 x2 := by
  unfold out0_5
  rw [View.canon_unit_zero zz]
  simp only [View.ld_unit_zero (S := S512x2048) zz, View.ld_unit_zero (S := S1x1x2048x1408) zzzz]

theorem index0 : ∀ t : Fin cfg0.N, win0_0.index t = ![t.val % 16, 0] := (by decide +kernel : ∀ t : Fin grid0.N, _)
theorem index1 : ∀ t : Fin cfg0.N, win0_1.index t = ![1, t.val / 16, 0, 0] := (by decide +kernel : ∀ t : Fin grid0.N, _)
theorem index2 : ∀ t : Fin cfg0.N, win0_2.index t = ![1, t.val / 16, 0, 0] := (by decide +kernel : ∀ t : Fin grid0.N, _)
theorem index3 : ∀ t : Fin cfg0.N, win0_3.index t = ![t.val % 16, t.val / 16] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![t.val % 16, t.val / 16] := (by decide +kernel : ∀ t : Fin grid0.N, _)

theorem blk0 (A : Mat S8192x2048 .bf16) (t : Fin cfg0.N) (r : Fin 512) (d : Fin 2048) :
    ((cfg0.win 0).blk t).view.read (Elt Ideal) A (ix2 r d) = A (ix2 (row t.val r) d) := by
  blk_ext [index0, row]

theorem blk1 (A : Mat S2x4x2048x1408 .bf16) (t : Fin cfg0.N) (d : Fin 2048) (f : Fin 1408) :
    ((cfg0.win 1).blk t).view.read (Elt Ideal) A (ix4 0 0 d f) = A (ix4 1 ⟨t.val / 16 % 4, by omega⟩ d f) := by
  blk_ext [index1, div16]

theorem blk2 (A : Mat S2x4x2048x1408 .bf16) (t : Fin cfg0.N) (d : Fin 2048) (f : Fin 1408) :
    ((cfg0.win 2).blk t).view.read (Elt Ideal) A (ix4 0 0 d f) = A (ix4 1 ⟨t.val / 16 % 4, by omega⟩ d f) := by
  blk_ext [index2, div16]

theorem blk3 (A : Mat S8192x5632 .bf16) (t : Fin cfg0.N) (r : Fin 512) (f : Fin 1408) :
    ((cfg0.win 3).blk t).view.read (Elt Ideal) A (ix2 r f) = A (ix2 (row t.val r) (col (t.val / 16) f)) := by
  blk_ext [index3, row, col, div16]

theorem blk4 (A : Mat S8192x5632 .bf16) (t : Fin cfg0.N) (r : Fin 512) (f : Fin 1408) :
    ((cfg0.win 4).blk t).view.read (Elt Ideal) A (ix2 r f) = A (ix2 (row t.val r) (col (t.val / 16) f)) := by
  blk_ext [index4, row, col, div16]

theorem blk5 (A : Mat S8192x5632 .bf16) (t : Fin cfg0.N) (r : Fin 512) (f : Fin 1408) :
    ((cfg0.win 5).blk t).view.read (Elt Ideal) A (ix2 r f) = A (ix2 (row t.val r) (col (t.val / 16) f)) := by
  blk_ext [index5, row, col, div16]

variable (m : (ℓ : Loc nD τ sig) → Buf (Elt Ideal) ℓ) (c : Dev nD)

theorem V_v2 : V m c main_v2 = hCols (m ((c : Thread nD τ).loc main_arg1)) := by
  dsimp only [V]
  after_reads_simp
  try simp -implicitDefEqProofs only [StableHlo.TRef.toBuf, StableHlo.TRef.ofBuf, cast_cast, cast_eq]
  rfl

theorem V_v5 : V m c main_v5 = hCols (m ((c : Thread nD τ).loc main_arg2)) := by
  dsimp only [V]
  after_reads_simp
  try simp -implicitDefEqProofs only [StableHlo.TRef.toBuf, StableHlo.TRef.ofBuf, cast_cast, cast_eq]
  rfl

theorem iblk0 (t : Fin cfg0.N) (r : Fin 512) (d : Fin 2048) : iblk m c 0 t (ix2 r d) = m ((c : Thread nD τ).loc main_arg0) (ix2 (row t.val r) d) :=
  (congrFun (congrArg (fun A => ((cfg0.win 0).blk t).view.read (Elt Ideal) A) (V_main_arg0 m c)) (ix2 r d)).trans (blk0 _ t r d)

theorem iblk1 (t : Fin cfg0.N) (f : Fin 1408) (d : Fin 2048) : iblk m c 1 t (ix4 0 0 d f) = m ((c : Thread nD τ).loc main_arg1) (ix3 1 d (col (t.val / 16) f)) :=
  (congrFun (congrArg (fun A => ((cfg0.win 1).blk t).view.read (Elt Ideal) A) (V_v2 m c)) (ix4 0 0 d f)).trans
    ((blk1 _ t d f).trans ((hCols_at _ 1 ⟨t.val / 16 % 4, by omega⟩ d f).trans (by rw [col_mod])))

theorem iblk2 (t : Fin cfg0.N) (f : Fin 1408) (d : Fin 2048) : iblk m c 2 t (ix4 0 0 d f) = m ((c : Thread nD τ).loc main_arg2) (ix3 1 d (col (t.val / 16) f)) :=
  (congrFun (congrArg (fun A => ((cfg0.win 2).blk t).view.read (Elt Ideal) A) (V_v5 m c)) (ix4 0 0 d f)).trans
    ((blk2 _ t d f).trans ((hCols_at _ 1 ⟨t.val / 16 % 4, by omega⟩ d f).trans (by rw [col_mod])))

theorem flushed3_eq (t : Fin cfg0.N) :
    (dats m 0 c).flushed 3 t = ((cfg0.win 3).blk t).view.read (Elt Ideal) (prods 1 (m ((c : Thread nD τ).loc main_arg0)) (m ((c : Thread nD τ).loc main_arg1))) := by
  rw [flushed3, out3]
  funext y
  obtain ⟨r, f, rfl⟩ := index_two (n := 512) (p := 1408) y
  refine Eq.trans ?_ (blk3 _ t r f).symm
  rw [pay3_eq]
  refine (pay3_at _ _ r f).trans ?_
  exact up_at 1 t.val r f _ _ _ _ (iblk0 m c t r) (iblk1 m c t f)

theorem flushed4_eq (t : Fin cfg0.N) :
    (dats m 0 c).flushed 4 t = ((cfg0.win 4).blk t).view.read (Elt Ideal) (prods 1 (m ((c : Thread nD τ).loc main_arg0)) (m ((c : Thread nD τ).loc main_arg2))) := by
  rw [flushed4, out4]
  funext y
  obtain ⟨r, f, rfl⟩ := index_two (n := 512) (p := 1408) y
  refine Eq.trans ?_ (blk4 _ t r f).symm
  rw [pay4_eq]
  refine (pay4_at _ _ r f).trans ?_
  exact up_at 1 t.val r f _ _ _ _ (iblk0 m c t r) (iblk2 m c t f)

theorem flushed5_eq (t : Fin cfg0.N) :
    (dats m 0 c).flushed 5 t = ((cfg0.win 5).blk t).view.read (Elt Ideal)
      (gated 1 (m ((c : Thread nD τ).loc main_arg0)) (m ((c : Thread nD τ).loc main_arg1)) (m ((c : Thread nD τ).loc main_arg2))) := by
  rw [flushed5, out5]
  funext y
  obtain ⟨r, f, rfl⟩ := index_two (n := 512) (p := 1408) y
  refine Eq.trans ?_ (blk5 _ t r f).symm
  rw [pay5_eq]
  refine (pay5_at _ _ _ r f).trans ?_
  rw [up_at 1 t.val r f _ _ _ _ (iblk0 m c t r) (iblk1 m c t f), up_at 1 t.val r f _ _ _ _ (iblk0 m c t r) (iblk2 m c t f)]
  rfl

/-- The point that covers an element. -/
theorem point (y0 y1 : ℕ) (h0 : y0 < 8192) (h1 : y1 < 5632) : 16 * (y1 / 1408) + y0 / 512 < cfg0.N := by
  have hN : cfg0.N = 64 := N_0
  rw [hN]; clear hN; omega

theorem final3 : (dats m 0 c).arrAt 3 cfg0.N = prods 1 (m ((c : Thread nD τ).loc main_arg0)) (m ((c : Thread nD τ).loc main_arg1)) := by
  funext y
  have h0 : (y 0).val < 8192 := (y 0).isLt
  have h1 : (y 1).val < 5632 := (y 1).isLt
  refine (dats m 0 c).arrAt_apply_of_mem 3 _ (fun t _ => flushed3_eq m c t) cfg0.N ⟨_, point _ _ h0 h1⟩ y (point _ _ h0 h1) (flush0_3 _) ?_
  mem_blk [index3]
  exact inside _ _ h0 h1

theorem final4 : (dats m 0 c).arrAt 4 cfg0.N = prods 1 (m ((c : Thread nD τ).loc main_arg0)) (m ((c : Thread nD τ).loc main_arg2)) := by
  funext y
  have h0 : (y 0).val < 8192 := (y 0).isLt
  have h1 : (y 1).val < 5632 := (y 1).isLt
  refine (dats m 0 c).arrAt_apply_of_mem 4 _ (fun t _ => flushed4_eq m c t) cfg0.N ⟨_, point _ _ h0 h1⟩ y (point _ _ h0 h1) (flush0_4 _) ?_
  mem_blk [index4]
  exact inside _ _ h0 h1

theorem final5 : (dats m 0 c).arrAt 5 cfg0.N
    = gated 1 (m ((c : Thread nD τ).loc main_arg0)) (m ((c : Thread nD τ).loc main_arg1)) (m ((c : Thread nD τ).loc main_arg2)) := by
  funext y
  have h0 : (y 0).val < 8192 := (y 0).isLt
  have h1 : (y 1).val < 5632 := (y 1).isLt
  refine (dats m 0 c).arrAt_apply_of_mem 5 _ (fun t _ => flushed5_eq m c t) cfg0.N ⟨_, point _ _ h0 h1⟩ y (point _ _ h0 h1) (flush0_5 _) ?_
  mem_blk [index5]
  exact inside _ _ h0 h1

end Cert.Kernel11Ideal.Up

namespace Cert.Reference11Ideal.Up

open Idealize.ShloMosaic Idealize.ShloMosaic.Pointwise Cert.Reference11Ideal.Gen Cert.Reference11Ideal Cert.Reference11Ideal.Read
open Cert.Kernel2Ideal.Gate (Mat)
open Cert.Kernel10Ideal.Up (up prods gated)

theorem v8_at (x0 : Mat S8192x2048 .bf16) (x1 : Mat S2x2048x5632 .f32) (i : Fin 8192) (f : Fin 5632) :
    val_main_v8 (F := Ideal) x0 x1 (ix2 i f) = up 1 x0 x1 i f := by
  pointwise [val_main_v8, val_main_v3, val_main_v2, val_main_v1, val_main_v0]
  rfl

theorem v9_at (x0 : Mat S8192x2048 .bf16) (x2 : Mat S2x2048x5632 .f32) (i : Fin 8192) (f : Fin 5632) :
    val_main_v9 (F := Ideal) x0 x2 (ix2 i f) = up 1 x0 x2 i f := by
  pointwise [val_main_v9, val_main_v7, val_main_v6, val_main_v5, val_main_v4]
  rfl

theorem v12_at (x0 : Mat S8192x2048 .bf16) (x1 x2 : Mat S2x2048x5632 .f32) (i : Fin 8192) (f : Fin 5632) :
    val_main_v12 (F := Ideal) x0 x1 x2 (ix2 i f) = gated 1 x0 x1 x2 (ix2 i f) := by
  pointwise [val_main_v12, val_main_v11, val_main_v10, val_main_call0_v5, val_main_call0_v4, val_main_call0_cst_0, val_main_call0_v3, val_main_call0_v2, val_main_call0_cst, val_main_call0_v1, val_main_call0_v0, val_main_v7, val_main_v6, val_main_v5, val_main_v4, val_main_v3, val_main_v2, val_main_v1, val_main_v0]
  rfl

theorem v8_eq (x0 : Mat S8192x2048 .bf16) (x1 : Mat S2x2048x5632 .f32) : val_main_v8 (F := Ideal) x0 x1 = prods 1 x0 x1 := by
  funext y
  rw [← ix2_eta (n0 := 8192) (n1 := 5632) y]
  exact v8_at x0 x1 (y 0) (y 1)

theorem v9_eq (x0 : Mat S8192x2048 .bf16) (x2 : Mat S2x2048x5632 .f32) : val_main_v9 (F := Ideal) x0 x2 = prods 1 x0 x2 := by
  funext y
  rw [← ix2_eta (n0 := 8192) (n1 := 5632) y]
  exact v9_at x0 x2 (y 0) (y 1)

theorem v12_eq (x0 : Mat S8192x2048 .bf16) (x1 x2 : Mat S2x2048x5632 .f32) : val_main_v12 (F := Ideal) x0 x1 x2 = gated 1 x0 x1 x2 := by
  funext y
  rw [← ix2_eta (n0 := 8192) (n1 := 5632) y]
  exact v12_at x0 x1 x2 (y 0) (y 1)

end Cert.Reference11Ideal.Up

namespace Cert.Proof

open Idealize.ShloMosaic Idealize.ShloMosaic.TcCoe Idealize.SL.Sem

theorem frame11_reference : Cert.quiescent_Reference11Ideal := fun m ρ _ =>
  (θ_run _ _ _).mono (fun r h => ⟨fun c => (h c).2.2.2, sem_eq_zero_of_no_sems (by decide) r.2⟩) (Cert.Reference11Ideal.Value.run m ρ)

theorem algebraic11 : Cert.algebraic_Kernel11Ideal_Reference11Ideal (hKernel11Ideal := Cert.Kernel11Ideal.Gen.facts) (hReference11Ideal := Cert.Reference11Ideal.Gen.facts) := by
  intro m g m' g' _ hargs
  refine ⟨fun c => _, fun c => _, fun c => _, Cert.Kernel11Ideal.Value.run_blocks m g, ?_⟩
  refine (θ_run _ _ _).mono (fun r h c => ?_) (Cert.Reference11Ideal.Value.run m' g')
  obtain ⟨r0, r1, r2, rest⟩ := h c
  obtain ⟨e0, e1, e2⟩ := hargs c
  refine ⟨?_, ?_, ?_, rest⟩
  · rw [r0, Cert.Reference11Ideal.Read.val_main_v8_eq, e0, e1, Cert.Reference11Ideal.Up.v8_eq]
    exact (Cert.Kernel11Ideal.Up.final3 m c).symm
  · rw [r1, Cert.Reference11Ideal.Read.val_main_v9_eq, e0, e2, Cert.Reference11Ideal.Up.v9_eq]
    exact (Cert.Kernel11Ideal.Up.final4 m c).symm
  · rw [r2, Cert.Reference11Ideal.Read.val_main_v12_eq, e0, e1, e2, Cert.Reference11Ideal.Up.v12_eq]
    exact (Cert.Kernel11Ideal.Up.final5 m c).symm

end Cert.Proof

end
-- ==== Proof.Down.lean ====
/-
  The forward down product, first layer: what a point leaves in the running block, what the last point of four writes out, and that the two arrays
  it fills are the reference's residual stream and its normed rows.
-/
module

public import proofs.«01_k».proof.Proof.Up
public import proofs.«01_k».proof.Proof.Gen.Kernel12Ideal.Value
public import proofs.«01_k».proof.Proof.Gen.Reference12Ideal.Read
public import Idealize.ShloMosaic.Lib.StableHlo.RunRead

@[expose] public section

set_option maxRecDepth 16384

noncomputable section

namespace Cert.Kernel12Ideal.Down

open Idealize.ShloMosaic Idealize.ShloMosaic.TcCoe Idealize.ShloMosaic.Pointwise Cert.Kernel12Ideal.Gen Cert.Kernel12Ideal Cert.Kernel12Ideal.Value
open Cert.Kernel2Ideal.Gate (Mat col sum_cols)
open Cert.Kernel4Ideal.Gd (half)
open Cert.Kernel5Ideal.Db (zz zzz index_two)

/-- One row of the gated product against one column of layer `l`'s weights. -/
def whole (l : Fin 2) (x0 : Mat S8192x5632 .bf16) (x1 : Mat S2x5632x2048 .f32) (i : Fin 8192) (d : Fin 2048) : EReal :=
  ∑ f : Fin 5632, (x0 (ix2 i f) : EReal) * x1 (ix3 l f d)

/-- One block's share of it. -/
def share (l : Fin 2) (x0 : Mat S8192x5632 .bf16) (x1 : Mat S2x5632x2048 .f32) (i : Fin 8192) (d : Fin 2048) (b : ℕ) : EReal :=
  ∑ f : Fin 1408, (x0 (ix2 i (col b f)) : EReal) * x1 (ix3 l (col b f) d)

/-- The residual stream after the half step. -/
def stream (l : Fin 2) (x0 : Mat S8192x5632 .bf16) (x1 : Mat S2x5632x2048 .f32) (x2 : Mat S8192x2048 .f32) : Mat S8192x2048 .f32 := fun y =>
  (x2 y : EReal) + half * whole l x0 x1 (y 0) (y 1)

/-- A row's entry over the row's root mean square. -/
def norm (v : Fin 2048 → EReal) (d : Fin 2048) : EReal :=
  v d * Ideal.rsqrt (Ideal.div (∑ k, v k * v k) (Ideal.ofBits .f32 0x45000000#32) + Ideal.ofBits .f32 0x358637BD#32)

/-- The stream's rows, normed and scaled. -/
def normed (l : Fin 2) (x0 : Mat S8192x5632 .bf16) (x1 : Mat S2x5632x2048 .f32) (x2 : Mat S8192x2048 .f32) (x3 : Mat S2048 .f32) : Mat S8192x2048 .bf16 := fun y =>
  norm (fun k => stream l x0 x1 x2 (ix2 (y 0) k)) (y 1) * (x3 (ix1 (y 1)) : EReal)

theorem shares (l : Fin 2) (x0 : Mat S8192x5632 .bf16) (x1 : Mat S2x5632x2048 .f32) (i : Fin 8192) (d : Fin 2048) :
    0 + share l x0 x1 i d 0 + share l x0 x1 i d 1 + share l x0 x1 i d 2 + share l x0 x1 i d 3 = whole l x0 x1 i d := by
  unfold whole
  rw [sum_cols, zero_add]
  rfl

theorem share_mod (l : Fin 2) (x0 : Mat S8192x5632 .bf16) (x1 : Mat S2x5632x2048 .f32) (i : Fin 8192) (d : Fin 2048) (b j : ℕ) (hb : b % 4 = 0) :
    share l x0 x1 i d (b + j) = share l x0 x1 i d j := by
  have hc : col (b + j) = col j := funext fun f => Fin.ext (by show 1408 * ((b + j) % 4) + _ = 1408 * (j % 4) + _; omega)
  unfold share
  rw [hc]

theorem pay1_at (r : Fin 512) (d : Fin 2048) : k0_pay1 (F := Ideal) (ix2 r d) = (0 : EReal) := by
  pointwise [k0_pay1]

theorem pay2_at (acc : Mat S512x2048 .f32) (a : Mat S512x1408 .bf16) (w : Mat S1x1408x2048 .bf16) (r : Fin 512) (d : Fin 2048) :
    k0_pay2 (F := Ideal) acc a w (ix2 r d) = (acc (ix2 r d) : EReal) + ∑ f : Fin 1408, (a (ix2 r f) : EReal) * w (ix3 0 f d) := by
  pointwise [k0_pay2]

theorem pay3_at (x acc : Mat S512x2048 .f32) (r : Fin 512) (d : Fin 2048) :
    k0_pay3 (F := Ideal) x acc (ix2 r d) = (x (ix2 r d) : EReal) + half * acc (ix2 r d) := by
  pointwise [k0_pay3]
  rfl

theorem pay4_at (x acc : Mat S512x2048 .f32) (g : Mat S1x2048 .f32) (r : Fin 512) (d : Fin 2048) :
    k0_pay4 (F := Ideal) x acc g (ix2 r d) = norm (fun k => (x (ix2 r k) : EReal) + half * acc (ix2 r k)) d * (g (ix2 0 d) : EReal) := by
  pointwise [k0_pay4, k0_pay3]
  rfl

/-- The first of four points starts the block. -/
theorem acc_first (c) (i) (arg2) (harg2) (arg3) (harg3) (arg4) (harg4) (arg5) (harg5) (arg6) (harg6) (arg7) (harg7) (arg8) (harg8) (hc0) (hc1) (x0) (x1) (x2) (x3) :
    sout0_A_0 (F := Ideal) c i arg2 harg2 arg3 harg3 arg4 harg4 arg5 harg5 arg6 harg6 arg7 harg7 arg8 harg8 hc0 hc1 x0 x1 x2 x3 = k0_pay2 (k0_pay1 (F := Ideal)) x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  try sl_unfold_words
  rw [View.canon_cons_unit_zero (S := S512x2048) zz, View.readCov_unit_zero (S := S512x2048) _ zz]
  simp only [View.readAt_eq_ld, harg2.read_unread, harg3.read_unread, harg8.read_unread, View.ld_unit_zero (S := S512x1408) zz, View.ld_unit_zero (S := S1x1408x2048) zzz, View.ld_unit_zero (S := S512x2048) zz, shapeCast_self]

/-- The middle points add to it. -/
theorem acc_mid (c) (i) (arg2) (harg2) (arg3) (harg3) (arg4) (harg4) (arg5) (harg5) (arg6) (harg6) (arg7) (harg7) (arg8) (harg8) (hc0) (hc1) (x0) (x1) (x2) (x3) (xs) :
    sout0_B_0 (F := Ideal) c i arg2 harg2 arg3 harg3 arg4 harg4 arg5 harg5 arg6 harg6 arg7 harg7 arg8 harg8 hc0 hc1 x0 x1 x2 x3 xs = k0_pay2 xs x0 x1 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs)]
  unfold kernelRun0_B
  dsimp only
  try sl_unfold_words
  rw [View.canon_unit_zero zz]
  simp only [View.readAt_eq_ld, harg2.read_unread, harg3.read_unread, harg8.read_unread, View.ld_unit_zero (S := S512x1408) zz, View.ld_unit_zero (S := S1x1408x2048) zzz, View.ld_unit_zero (S := S512x2048) zz, shapeCast_self]

/-- The last point writes the stream's block. -/
theorem out4_last (c) (i) (arg2) (harg2) (arg3) (harg3) (arg4) (harg4) (arg5) (harg5) (arg6) (harg6) (arg7) (harg7) (arg8) (harg8) (hc0) (hc1) (x0) (x1) (x2) (x3) (xs) :
    out0_C_4 (F := Ideal) c i arg2 harg2 arg3 harg3 arg4 harg4 arg5 harg5 arg6 harg6 arg7 harg7 arg8 harg8 hc0 hc1 x0 x1 x2 x3 xs = k0_pay3 x2 (k0_pay2 xs x0 x1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs)]
  unfold kernelRun0_C
  dsimp only
  try sl_unfold_words
  rw [View.canon_unit_zero zz]
  simp only [View.readAt_eq_ld, harg2.read_unread, harg3.read_unread, harg4.read_unread, harg8.read_unread, View.readCov_unit_zero (S := S512x2048) _ zz, View.ld_unit_zero (S := S512x1408) zz, View.ld_unit_zero (S := S1x1408x2048) zzz, View.ld_unit_zero (S := S512x2048) zz, shapeCast_self]

/-- And its normed rows. -/
theorem out5_last (c) (i) (arg2) (harg2) (arg3) (harg3) (arg4) (harg4) (arg5) (harg5) (arg6) (harg6) (arg7) (harg7) (arg8) (harg8) (hc0) (hc1) (x0) (x1) (x2) (x3) (xs) :
    out0_C_5 (F := Ideal) c i arg2 harg2 arg3 harg3 arg4 harg4 arg5 harg5 arg6 harg6 arg7 harg7 arg8 harg8 hc0 hc1 x0 x1 x2 x3 xs = k0_pay4 x2 (k0_pay2 xs x0 x1) x3 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs)]
  unfold kernelRun0_C
  dsimp only
  try sl_unfold_words
  rw [View.canon_unit_zero zz]
  simp only [View.readAt_eq_ld, harg2.read_unread, harg3.read_unread, harg4.read_unread, harg5.read_unread, harg8.read_unread, View.readCov_unit_zero (S := S512x2048) _ zz, View.ld_unit_zero (S := S512x1408) zz, View.ld_unit_zero (S := S1x1408x2048) zzz, View.ld_unit_zero (S := S512x2048) zz, View.ld_unit_zero (S := S1x2048) zz, shapeCast_self]

theorem index0 : ∀ t : Fin cfg0.N, win0_0.index t = ![t.val / 4, t.val % 4] := (by decide +kernel : ∀ t : Fin grid0.N, _)
theorem index1 : ∀ t : Fin cfg0.N, win0_1.index t = ![0, t.val % 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 4, 0] := (by decide +kernel : ∀ t : Fin grid0.N, _)
theorem index5 : ∀ t : Fin cfg0.N, win0_5.index t = ![t.val / 4, 0] := (by decide +kernel : ∀ t : Fin grid0.N, _)

/-- Row `r` of point `t`'s rows. -/
def row (t : ℕ) (r : Fin 512) : Fin 8192 := ⟨512 * (t / 4 % 16) + r.val, by omega⟩

theorem row_add (b j : ℕ) (hb : b % 4 = 0) (hj : j < 4) (r : Fin 512) : row (b + j) r = row b r :=
  Fin.ext (by show 512 * ((b + j) / 4 % 16) + _ = 512 * (b / 4 % 16) + _; rw [show (b + j) / 4 = b / 4 by omega])

theorem div4 (t : Fin cfg0.N) : t.val / 4 % 16 = t.val / 4 := by have h : t.val < 64 := t.isLt; omega

theorem blk0 (A : Mat S8192x5632 .bf16) (t : Fin cfg0.N) (r : Fin 512) (f : Fin 1408) :
    ((cfg0.win 0).blk t).view.read (Elt Ideal) A (ix2 r f) = A (ix2 (row t.val r) (col t.val f)) := by
  blk_ext [index0, row, col, div4]

theorem blk1 (A : Mat S2x5632x2048 .bf16) (t : Fin cfg0.N) (f : Fin 1408) (d : Fin 2048) :
    ((cfg0.win 1).blk t).view.read (Elt Ideal) A (ix3 0 f d) = A (ix3 0 (col t.val f) d) := by
  blk_ext [index1, col]

theorem blk2 (A : Mat S8192x2048 .f32) (t : Fin cfg0.N) (r : Fin 512) (d : Fin 2048) :
    ((cfg0.win 2).blk t).view.read (Elt Ideal) A (ix2 r d) = A (ix2 (row t.val r) d) := by
  blk_ext [index2, row, div4]

theorem blk3 (A : Mat S1x2048 .f32) (t : Fin cfg0.N) (d : Fin 2048) :
    ((cfg0.win 3).blk t).view.read (Elt Ideal) A (ix2 0 d) = A (ix2 0 d) := by
  blk_ext [index3]

theorem blk4 (A : Mat S8192x2048 .f32) (t : Fin cfg0.N) (r : Fin 512) (d : Fin 2048) :
    ((cfg0.win 4).blk t).view.read (Elt Ideal) A (ix2 r d) = A (ix2 (row t.val r) d) := by
  blk_ext [index4, row, div4]

theorem blk5 (A : Mat S8192x2048 .bf16) (t : Fin cfg0.N) (r : Fin 512) (d : Fin 2048) :
    ((cfg0.win 5).blk t).view.read (Elt Ideal) A (ix2 r d) = A (ix2 (row t.val r) d) := by
  blk_ext [index5, row, div4]

/-- The gain as a row. -/
def gainRow (x : Mat S2048 .f32) : Mat S1x2048 .f32 := shapeCast S1x2048 x shapeCasts_S2048_S1x2048

theorem gainRow_at (x : Mat S2048 .f32) (d : Fin 2048) : gainRow x (ix2 0 d) = x (ix1 d) := by
  pointwise [gainRow]

variable (m : (ℓ : Loc nD τ sig) → Buf (Elt Ideal) ℓ) (c : Dev nD)

theorem V_v0 : V m c main_v0 = truncf (F := Ideal) (φ := .f32) .bf16 (m ((c : Thread nD τ).loc main_arg1)) bitsLt_bf16_f32 := by
  dsimp only [V]
  after_reads_simp
  try simp -implicitDefEqProofs only [StableHlo.TRef.toBuf, StableHlo.TRef.ofBuf, cast_cast, cast_eq]
  try rfl

theorem V_v1 : V m c main_v1 = gainRow (m ((c : Thread nD τ).loc main_arg3)) := by
  dsimp only [V]
  after_reads_simp
  try simp -implicitDefEqProofs only [StableHlo.TRef.toBuf, StableHlo.TRef.ofBuf, cast_cast, cast_eq]
  try rfl

theorem iblk0 (t : Fin cfg0.N) (r : Fin 512) (f : Fin 1408) : iblk m c 0 t (ix2 r f) = m ((c : Thread nD τ).loc main_arg0) (ix2 (row t.val r) (col t.val f)) :=
  (congrFun (congrArg (fun A => ((cfg0.win 0).blk t).view.read (Elt Ideal) A) (V_main_arg0 m c)) (ix2 r f)).trans (blk0 _ t r f)

theorem iblk1 (t : Fin cfg0.N) (f : Fin 1408) (d : Fin 2048) : iblk m c 1 t (ix3 0 f d) = m ((c : Thread nD τ).loc main_arg1) (ix3 0 (col t.val f) d) :=
  (congrFun (congrArg (fun A => ((cfg0.win 1).blk t).view.read (Elt Ideal) A) (V_v0 m c)) (ix3 0 f d)).trans (blk1 _ t f d)

theorem iblk2 (t : Fin cfg0.N) (r : Fin 512) (d : Fin 2048) : iblk m c 2 t (ix2 r d) = m ((c : Thread nD τ).loc main_arg2) (ix2 (row t.val r) d) :=
  (congrFun (congrArg (fun A => ((cfg0.win 2).blk t).view.read (Elt Ideal) A) (V_main_arg2 m c)) (ix2 r d)).trans (blk2 _ t r d)

theorem iblk3 (t : Fin cfg0.N) (d : Fin 2048) : iblk m c 3 t (ix2 0 d) = m ((c : Thread nD τ).loc main_arg3) (ix1 d) :=
  (congrFun (congrArg (fun A => ((cfg0.win 3).blk t).view.read (Elt Ideal) A) (V_v1 m c)) (ix2 0 d)).trans ((blk3 _ t d).trans (gainRow_at _ d))

theorem outs_congr {n n' : ℕ} (e : n = n') (h : n < cfg0.N) (h' : n' < cfg0.N) : outsAt0 m c n h = outsAt0 m c n' h' := by
  subst e; rfl

theorem first_at (n : ℕ) (h : n < cfg0.N) (h0 : n % 4 = 0) :
    (outsAt0 m c n h).2.2 = k0_pay2 (F := Ideal) (k0_pay1 (F := Ideal)) (iblk m c 0 ⟨n, h⟩) (iblk m c 1 ⟨n, h⟩) := by
  have e := outsAt0_A m c ⟨n, h⟩ h0 (by show ¬n % 4 = 3; omega)
  dsimp only at e
  rw [e]
  dsimp only
  rw [acc_first]

theorem mid_at (n : ℕ) (h : n + 1 < cfg0.N) (h0 : ¬(n + 1) % 4 = 0) (h1 : ¬(n + 1) % 4 = 3) :
    (outsAt0 m c (n + 1) h).2.2 = k0_pay2 (F := Ideal) (outsAt0 m c n (Nat.lt_of_succ_lt h)).2.2 (iblk m c 0 ⟨n + 1, h⟩) (iblk m c 1 ⟨n + 1, h⟩) := by
  have e := outsAt0_B m c ⟨n + 1, h⟩ h0 h1
  dsimp only at e
  rw [e]
  dsimp only
  rw [acc_mid, outs_congr m c (Nat.add_sub_cancel n 1) _ (Nat.lt_of_succ_lt h)]

/-- The running block after the last of four points. -/
def last (b : ℕ) (h : b + 3 < cfg0.N) : Mat S512x2048 .f32 :=
  k0_pay2 (F := Ideal) (outsAt0 m c (b + 2) (Nat.lt_of_succ_lt h)).2.2 (iblk m c 0 ⟨b + 3, h⟩) (iblk m c 1 ⟨b + 3, h⟩)

/-- A point's step at an element. -/
theorem pay_at (n : ℕ) (h : n < cfg0.N) (acc : Mat S512x2048 .f32) (r : Fin 512) (d : Fin 2048) :
    k0_pay2 (F := Ideal) acc (iblk m c 0 ⟨n, h⟩) (iblk m c 1 ⟨n, h⟩) (ix2 r d)
      = (acc (ix2 r d) : EReal) + share 0 (m ((c : Thread nD τ).loc main_arg0)) (m ((c : Thread nD τ).loc main_arg1)) (row n r) d n := by
  refine (pay2_at acc _ _ r d).trans ?_
  unfold share
  simp only [iblk0, iblk1]

theorem last_at (b : ℕ) (hb : b % 4 = 0) (h : b + 3 < cfg0.N) (r : Fin 512) (d : Fin 2048) :
    last m c b h (ix2 r d) = whole 0 (m ((c : Thread nD τ).loc main_arg0)) (m ((c : Thread nD τ).loc main_arg1)) (row b r) d := by
  unfold last
  rw [mid_at m c (b + 1) (by omega) (by omega) (by omega), mid_at m c b (by omega) (by omega) (by omega), first_at m c b (by omega) hb,
    pay_at, pay_at, pay_at, pay_at, pay1_at, row_add b 3 hb (by omega), row_add b 2 hb (by omega), row_add b 1 hb (by omega),
    share_mod _ _ _ _ _ b 3 hb, share_mod _ _ _ _ _ b 2 hb, share_mod _ _ _ _ _ b 1 hb, show share _ _ _ _ _ b = share _ _ _ _ _ 0 from share_mod _ _ _ _ d b 0 hb]
  exact shares _ _ _ _ _

/-- What the last of four points writes to the stream. -/
theorem run4 (b : ℕ) (hb : b % 4 = 0) (h : b + 3 < cfg0.N) : (dats m 0 c).flushed 4 ⟨b + 3, h⟩ = k0_pay3 (F := Ideal) (iblk m c 2 ⟨b + 3, h⟩) (last m c b h) := by
  rw [flushed4_C m c ⟨b + 3, h⟩ (by show ¬(b + 3) % 4 = 0; omega) (by show (b + 3) % 4 = 3; omega), out4_last, outs_congr m c (Nat.add_sub_cancel (b + 2) 1) _ (Nat.lt_of_succ_lt h)]
  rfl

theorem run5 (b : ℕ) (hb : b % 4 = 0) (h : b + 3 < cfg0.N) :
    (dats m 0 c).flushed 5 ⟨b + 3, h⟩ = k0_pay4 (F := Ideal) (iblk m c 2 ⟨b + 3, h⟩) (last m c b h) (iblk m c 3 ⟨b + 3, h⟩) := by
  rw [flushed5_C m c ⟨b + 3, h⟩ (by show ¬(b + 3) % 4 = 0; omega) (by show (b + 3) % 4 = 3; omega), out5_last, outs_congr m c (Nat.add_sub_cancel (b + 2) 1) _ (Nat.lt_of_succ_lt h)]
  rfl

/-- A point that writes is the last of four. -/
theorem last_of (t : Fin cfg0.N) (h3 : t.val % 4 = 3) : ∃ (b : ℕ) (h : b + 3 < cfg0.N), b % 4 = 0 ∧ t = ⟨b + 3, h⟩ := by
  obtain ⟨n, hn⟩ := t
  have h3 : n % 4 = 3 := h3
  obtain ⟨b, rfl⟩ : ∃ b, n = b + 3 := ⟨n - 3, by omega⟩
  exact ⟨b, hn, by omega, rfl⟩

theorem flushed4_all (t : Fin cfg0.N) (hf : (cfg0.win 4).flush t = true) :
    (dats m 0 c).flushed 4 t = ((cfg0.win 4).blk t).view.read (Elt Ideal)
      (stream 0 (m ((c : Thread nD τ).loc main_arg0)) (m ((c : Thread nD τ).loc main_arg1)) (m ((c : Thread nD τ).loc main_arg2))) := by
  obtain ⟨b, h, hb, rfl⟩ := last_of t ((flush0_4 t).mp hf)
  rw [run4 m c b hb h]
  funext y
  obtain ⟨r, d, rfl⟩ := index_two (n := 512) (p := 2048) y
  refine Eq.trans ?_ (blk4 _ ⟨b + 3, h⟩ r d).symm
  refine (pay3_at _ _ r d).trans ?_
  rw [iblk2, last_at m c b hb h, ← row_add b 3 hb (by omega)]
  rfl

theorem flushed5_all (t : Fin cfg0.N) (hf : (cfg0.win 5).flush t = true) :
    (dats m 0 c).flushed 5 t = ((cfg0.win 5).blk t).view.read (Elt Ideal)
      (normed 0 (m ((c : Thread nD τ).loc main_arg0)) (m ((c : Thread nD τ).loc main_arg1)) (m ((c : Thread nD τ).loc main_arg2)) (m ((c : Thread nD τ).loc main_arg3))) := by
  obtain ⟨b, h, hb, rfl⟩ := last_of t ((flush0_5 t).mp hf)
  rw [run5 m c b hb h]
  funext y
  obtain ⟨r, d, rfl⟩ := index_two (n := 512) (p := 2048) y
  refine Eq.trans ?_ (blk5 _ ⟨b + 3, h⟩ r d).symm
  refine (pay4_at _ _ _ r d).trans ?_
  rw [iblk3]
  simp only [iblk2, last_at m c b hb h]
  rw [← row_add b 3 hb (by omega)]
  rfl

/-- The point that covers a row. -/
theorem point (y0 : ℕ) (h0 : y0 < 8192) : 4 * (y0 / 512) + 3 < cfg0.N := by
  have hN : cfg0.N = 64 := N_0
  rw [hN]; clear hN; omega

theorem inside (y0 y1 : ℕ) (h1 : y1 < 2048) :
    ((4 * (y0 / 512) + 3) / 4 * 512 ≤ y0 ∧ y0 < (4 * (y0 / 512) + 3) / 4 * 512 + 512) ∧ (0 ≤ y1 ∧ y1 < 2048) := by
  omega

theorem writes (y0 : ℕ) : (4 * (y0 / 512) + 3) % 4 = 3 := by omega

theorem array4 : (dats m 0 c).arrAt 4 cfg0.N
    = stream 0 (m ((c : Thread nD τ).loc main_arg0)) (m ((c : Thread nD τ).loc main_arg1)) (m ((c : Thread nD τ).loc main_arg2)) := by
  funext y
  have h0 : (y 0).val < 8192 := (y 0).isLt
  have h1 : (y 1).val < 2048 := (y 1).isLt
  refine (dats m 0 c).arrAt_apply_of_mem 4 _ (flushed4_all m c) cfg0.N ⟨_, point _ h0⟩ y (point _ h0) ((flush0_4 _).mpr (writes _)) ?_
  mem_blk [index4]
  exact inside _ _ h1

theorem array5 : (dats m 0 c).arrAt 5 cfg0.N
    = normed 0 (m ((c : Thread nD τ).loc main_arg0)) (m ((c : Thread nD τ).loc main_arg1)) (m ((c : Thread nD τ).loc main_arg2)) (m ((c : Thread nD τ).loc main_arg3)) := by
  funext y
  have h0 : (y 0).val < 8192 := (y 0).isLt
  have h1 : (y 1).val < 2048 := (y 1).isLt
  refine (dats m 0 c).arrAt_apply_of_mem 5 _ (flushed5_all m c) cfg0.N ⟨_, point _ h0⟩ y (point _ h0) ((flush0_5 _).mpr (writes _)) ?_
  mem_blk [index5]
  exact inside _ _ h1

end Cert.Kernel12Ideal.Down

namespace Cert.Reference12Ideal.Down

open Idealize.ShloMosaic Idealize.ShloMosaic.Pointwise Cert.Reference12Ideal.Gen Cert.Reference12Ideal Cert.Reference12Ideal.Read
open Cert.Kernel2Ideal.Gate (Mat)
open Cert.Kernel12Ideal.Down (stream normed)

theorem v6_at (x0 : Mat S8192x5632 .bf16) (x1 : Mat S2x5632x2048 .f32) (x2 : Mat S8192x2048 .f32) (i : Fin 8192) (d : Fin 2048) :
    val_main_v6 (F := Ideal) x0 x1 x2 (ix2 i d) = stream 0 x0 x1 x2 (ix2 i d) := by
  pointwise [val_main_v6, val_main_v5, val_main_v4, val_main_cst, val_main_v3, val_main_v2, val_main_v1, val_main_v0]
  rfl

theorem v20_at (x0 : Mat S8192x5632 .bf16) (x1 : Mat S2x5632x2048 .f32) (x2 : Mat S8192x2048 .f32) (x3 : Mat S2048 .f32) (i : Fin 8192) (d : Fin 2048) :
    val_main_v20 (F := Ideal) x0 x1 x2 x3 (ix2 i d) = normed 0 x0 x1 x2 x3 (ix2 i d) := by
  pointwise [val_main_v20, val_main_v19, val_main_v18, val_main_v17, val_main_v16, val_main_v15, val_main_v14, val_main_v13, val_main_v12, val_main_cst_2, val_main_v11, val_main_v10, val_main_cst_1, val_main_v9, val_main_v8, val_main_cst_0, val_main_v7]
  simp only [v6_at]
  rfl

theorem v6_eq (x0 : Mat S8192x5632 .bf16) (x1 : Mat S2x5632x2048 .f32) (x2 : Mat S8192x2048 .f32) : val_main_v6 (F := Ideal) x0 x1 x2 = stream 0 x0 x1 x2 := by
  funext y
  rw [← ix2_eta (n0 := 8192) (n1 := 2048) y]
  exact v6_at x0 x1 x2 (y 0) (y 1)

theorem v20_eq (x0 : Mat S8192x5632 .bf16) (x1 : Mat S2x5632x2048 .f32) (x2 : Mat S8192x2048 .f32) (x3 : Mat S2048 .f32) :
    val_main_v20 (F := Ideal) x0 x1 x2 x3 = normed 0 x0 x1 x2 x3 := by
  funext y
  rw [← ix2_eta (n0 := 8192) (n1 := 2048) y]
  exact v20_at x0 x1 x2 x3 (y 0) (y 1)

end Cert.Reference12Ideal.Down

namespace Cert.Proof

open Idealize.ShloMosaic Idealize.ShloMosaic.TcCoe Idealize.SL.Sem

theorem frame12_reference : Cert.quiescent_Reference12Ideal := fun m ρ _ =>
  (θ_run _ _ _).mono (fun r h => ⟨fun c => (h c).2.2, sem_eq_zero_of_no_sems (by decide) r.2⟩) (Cert.Reference12Ideal.Value.run m ρ)

theorem algebraic12 : Cert.algebraic_Kernel12Ideal_Reference12Ideal (hKernel12Ideal := Cert.Kernel12Ideal.Gen.facts) (hReference12Ideal := Cert.Reference12Ideal.Gen.facts) := by
  intro m g m' g' _ hargs
  refine ⟨fun c => _, fun c => _, Cert.Kernel12Ideal.Value.run_blocks m g, ?_⟩
  refine (θ_run _ _ _).mono (fun r h c => ?_) (Cert.Reference12Ideal.Value.run m' g')
  obtain ⟨r0, r1, rest⟩ := h c
  obtain ⟨e0, e1, e2, e3⟩ := hargs c
  refine ⟨?_, ?_, rest⟩
  · rw [r0, Cert.Reference12Ideal.Read.val_main_v6_eq, e0, e1, e2, Cert.Reference12Ideal.Down.v6_eq]
    exact (Cert.Kernel12Ideal.Down.array4 m c).symm
  · rw [r1, Cert.Reference12Ideal.Read.val_main_v20_eq, e0, e1, e2, e3, Cert.Reference12Ideal.Down.v20_eq]
    exact (Cert.Kernel12Ideal.Down.array5 m c).symm

end Cert.Proof

end
-- ==== Proof.Down1.lean ====
/-
  The forward down product, second layer: what a point leaves in the running block, what the last point of four writes out, and that the two arrays
  it fills are the reference's residual stream and its normed rows.
-/
module

public import proofs.«01_k».proof.Proof.Down
public import proofs.«01_k».proof.Proof.Gen.Kernel13Ideal.Value
public import proofs.«01_k».proof.Proof.Gen.Reference13Ideal.Read
public import Idealize.ShloMosaic.Lib.StableHlo.RunRead

@[expose] public section

set_option maxRecDepth 16384

noncomputable section

namespace Cert.Kernel13Ideal.Down

open Idealize.ShloMosaic Idealize.ShloMosaic.TcCoe Idealize.ShloMosaic.Pointwise Cert.Kernel13Ideal.Gen Cert.Kernel13Ideal Cert.Kernel13Ideal.Value
open Cert.Kernel2Ideal.Gate (Mat col)
open Cert.Kernel5Ideal.Db (zz zzz index_two)
open Cert.Kernel12Ideal.Down (share share_mod shares whole stream normed pay1_at pay2_at pay3_at pay4_at row row_add gainRow gainRow_at inside writes)

/-- A point's step is the one the first layer's run takes. -/
theorem pay1_eq : k0_pay1 (F := Ideal) = Cert.Kernel12Ideal.Gen.k0_pay1 (F := Ideal) := rfl
theorem pay2_eq : k0_pay2 (F := Ideal) = Cert.Kernel12Ideal.Gen.k0_pay2 (F := Ideal) := rfl
theorem pay3_eq : k0_pay3 (F := Ideal) = Cert.Kernel12Ideal.Gen.k0_pay3 (F := Ideal) := rfl
theorem pay4_eq : k0_pay4 (F := Ideal) = Cert.Kernel12Ideal.Gen.k0_pay4 (F := Ideal) := rfl

/-- The first of four points starts the block. -/
theorem acc_first (c) (i) (arg2) (harg2) (arg3) (harg3) (arg4) (harg4) (arg5) (harg5) (arg6) (harg6) (arg7) (harg7) (arg8) (harg8) (hc0) (hc1) (x0) (x1) (x2) (x3) :
    sout0_A_0 (F := Ideal) c i arg2 harg2 arg3 harg3 arg4 harg4 arg5 harg5 arg6 harg6 arg7 harg7 arg8 harg8 hc0 hc1 x0 x1 x2 x3 = k0_pay2 (k0_pay1 (F := Ideal)) x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  try sl_unfold_words
  rw [View.canon_cons_unit_zero (S := S512x2048) zz, View.readCov_unit_zero (S := S512x2048) _ zz]
  simp only [View.readAt_eq_ld, harg2.read_unread, harg3.read_unread, harg8.read_unread, View.ld_unit_zero (S := S512x1408) zz, View.ld_unit_zero (S := S1x1408x2048) zzz, View.ld_unit_zero (S := S512x2048) zz, shapeCast_self]

/-- The middle points add to it. -/
theorem acc_mid (c) (i) (arg2) (harg2) (arg3) (harg3) (arg4) (harg4) (arg5) (harg5) (arg6) (harg6) (arg7) (harg7) (arg8) (harg8) (hc0) (hc1) (x0) (x1) (x2) (x3) (xs) :
    sout0_B_0 (F := Ideal) c i arg2 harg2 arg3 harg3 arg4 harg4 arg5 harg5 arg6 harg6 arg7 harg7 arg8 harg8 hc0 hc1 x0 x1 x2 x3 xs = k0_pay2 xs x0 x1 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs)]
  unfold kernelRun0_B
  dsimp only
  try sl_unfold_words
  rw [View.canon_unit_zero zz]
  simp only [View.readAt_eq_ld, harg2.read_unread, harg3.read_unread, harg8.read_unread, View.ld_unit_zero (S := S512x1408) zz, View.ld_unit_zero (S := S1x1408x2048) zzz, View.ld_unit_zero (S := S512x2048) zz, shapeCast_self]

/-- The last point writes the stream's block. -/
theorem out4_last (c) (i) (arg2) (harg2) (arg3) (harg3) (arg4) (harg4) (arg5) (harg5) (arg6) (harg6) (arg7) (harg7) (arg8) (harg8) (hc0) (hc1) (x0) (x1) (x2) (x3) (xs) :
    out0_C_4 (F := Ideal) c i arg2 harg2 arg3 harg3 arg4 harg4 arg5 harg5 arg6 harg6 arg7 harg7 arg8 harg8 hc0 hc1 x0 x1 x2 x3 xs = k0_pay3 x2 (k0_pay2 xs x0 x1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs)]
  unfold kernelRun0_C
  dsimp only
  try sl_unfold_words
  rw [View.canon_unit_zero zz]
  simp only [View.readAt_eq_ld, harg2.read_unread, harg3.read_unread, harg4.read_unread, harg8.read_unread, View.readCov_unit_zero (S := S512x2048) _ zz, View.ld_unit_zero (S := S512x1408) zz, View.ld_unit_zero (S := S1x1408x2048) zzz, View.ld_unit_zero (S := S512x2048) zz, shapeCast_self]

/-- And its normed rows. -/
theorem out5_last (c) (i) (arg2) (harg2) (arg3) (harg3) (arg4) (harg4) (arg5) (harg5) (arg6) (harg6) (arg7) (harg7) (arg8) (harg8) (hc0) (hc1) (x0) (x1) (x2) (x3) (xs) :
    out0_C_5 (F := Ideal) c i arg2 harg2 arg3 harg3 arg4 harg4 arg5 harg5 arg6 harg6 arg7 harg7 arg8 harg8 hc0 hc1 x0 x1 x2 x3 xs = k0_pay4 x2 (k0_pay2 xs x0 x1) x3 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs)]
  unfold kernelRun0_C
  dsimp only
  try sl_unfold_words
  rw [View.canon_unit_zero zz]
  simp only [View.readAt_eq_ld, harg2.read_unread, harg3.read_unread, harg4.read_unread, harg5.read_unread, harg8.read_unread, View.readCov_unit_zero (S := S512x2048) _ zz, View.ld_unit_zero (S := S512x1408) zz, View.ld_unit_zero (S := S1x1408x2048) zzz, View.ld_unit_zero (S := S512x2048) zz, View.ld_unit_zero (S := S1x2048) zz, shapeCast_self]

theorem index0 : ∀ t : Fin cfg0.N, win0_0.index t = ![t.val / 4, t.val % 4] := (by decide +kernel : ∀ t : Fin grid0.N, _)
theorem index1 : ∀ t : Fin cfg0.N, win0_1.index t = ![1, t.val % 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 4, 0] := (by decide +kernel : ∀ t : Fin grid0.N, _)
theorem index5 : ∀ t : Fin cfg0.N, win0_5.index t = ![t.val / 4, 0] := (by decide +kernel : ∀ t : Fin grid0.N, _)

theorem div4 (t : Fin cfg0.N) : t.val / 4 % 16 = t.val / 4 := by have h : t.val < 64 := t.isLt; omega

theorem blk0 (A : Mat S8192x5632 .bf16) (t : Fin cfg0.N) (r : Fin 512) (f : Fin 1408) :
    ((cfg0.win 0).blk t).view.read (Elt Ideal) A (ix2 r f) = A (ix2 (row t.val r) (col t.val f)) := by
  blk_ext [index0, row, col, div4]

theorem blk1 (A : Mat S2x5632x2048 .bf16) (t : Fin cfg0.N) (f : Fin 1408) (d : Fin 2048) :
    ((cfg0.win 1).blk t).view.read (Elt Ideal) A (ix3 0 f d) = A (ix3 1 (col t.val f) d) := by
  blk_ext [index1, col]

theorem blk2 (A : Mat S8192x2048 .f32) (t : Fin cfg0.N) (r : Fin 512) (d : Fin 2048) :
    ((cfg0.win 2).blk t).view.read (Elt Ideal) A (ix2 r d) = A (ix2 (row t.val r) d) := by
  blk_ext [index2, row, div4]

theorem blk3 (A : Mat S1x2048 .f32) (t : Fin cfg0.N) (d : Fin 2048) :
    ((cfg0.win 3).blk t).view.read (Elt Ideal) A (ix2 0 d) = A (ix2 0 d) := by
  blk_ext [index3]

theorem blk4 (A : Mat S8192x2048 .f32) (t : Fin cfg0.N) (r : Fin 512) (d : Fin 2048) :
    ((cfg0.win 4).blk t).view.read (Elt Ideal) A (ix2 r d) = A (ix2 (row t.val r) d) := by
  blk_ext [index4, row, div4]

theorem blk5 (A : Mat S8192x2048 .bf16) (t : Fin cfg0.N) (r : Fin 512) (d : Fin 2048) :
    ((cfg0.win 5).blk t).view.read (Elt Ideal) A (ix2 r d) = A (ix2 (row t.val r) d) := by
  blk_ext [index5, row, div4]

variable (m : (ℓ : Loc nD τ sig) → Buf (Elt Ideal) ℓ) (c : Dev nD)

theorem V_v0 : V m c main_v0 = truncf (F := Ideal) (φ := .f32) .bf16 (m ((c : Thread nD τ).loc main_arg1)) bitsLt_bf16_f32 := by
  dsimp only [V]
  after_reads_simp
  try simp -implicitDefEqProofs only [StableHlo.TRef.toBuf, StableHlo.TRef.ofBuf, cast_cast, cast_eq]
  try rfl

theorem V_v1 : V m c main_v1 = gainRow (m ((c : Thread nD τ).loc main_arg3)) := by
  dsimp only [V]
  after_reads_simp
  try simp -implicitDefEqProofs only [StableHlo.TRef.toBuf, StableHlo.TRef.ofBuf, cast_cast, cast_eq]
  try rfl

theorem iblk0 (t : Fin cfg0.N) (r : Fin 512) (f : Fin 1408) : iblk m c 0 t (ix2 r f) = m ((c : Thread nD τ).loc main_arg0) (ix2 (row t.val r) (col t.val f)) :=
  (congrFun (congrArg (fun A => ((cfg0.win 0).blk t).view.read (Elt Ideal) A) (V_main_arg0 m c)) (ix2 r f)).trans (blk0 _ t r f)

theorem iblk1 (t : Fin cfg0.N) (f : Fin 1408) (d : Fin 2048) : iblk m c 1 t (ix3 0 f d) = m ((c : Thread nD τ).loc main_arg1) (ix3 1 (col t.val f) d) :=
  (congrFun (congrArg (fun A => ((cfg0.win 1).blk t).view.read (Elt Ideal) A) (V_v0 m c)) (ix3 0 f d)).trans (blk1 _ t f d)

theorem iblk2 (t : Fin cfg0.N) (r : Fin 512) (d : Fin 2048) : iblk m c 2 t (ix2 r d) = m ((c : Thread nD τ).loc main_arg2) (ix2 (row t.val r) d) :=
  (congrFun (congrArg (fun A => ((cfg0.win 2).blk t).view.read (Elt Ideal) A) (V_main_arg2 m c)) (ix2 r d)).trans (blk2 _ t r d)

theorem iblk3 (t : Fin cfg0.N) (d : Fin 2048) : iblk m c 3 t (ix2 0 d) = m ((c : Thread nD τ).loc main_arg3) (ix1 d) :=
  (congrFun (congrArg (fun A => ((cfg0.win 3).blk t).view.read (Elt Ideal) A) (V_v1 m c)) (ix2 0 d)).trans ((blk3 _ t d).trans (gainRow_at _ d))

theorem outs_congr {n n' : ℕ} (e : n = n') (h : n < cfg0.N) (h' : n' < cfg0.N) : outsAt0 m c n h = outsAt0 m c n' h' := by
  subst e; rfl

theorem first_at (n : ℕ) (h : n < cfg0.N) (h0 : n % 4 = 0) :
    (outsAt0 m c n h).2.2 = k0_pay2 (F := Ideal) (k0_pay1 (F := Ideal)) (iblk m c 0 ⟨n, h⟩) (iblk m c 1 ⟨n, h⟩) := by
  have e := outsAt0_A m c ⟨n, h⟩ h0 (by show ¬n % 4 = 3; omega)
  dsimp only at e
  rw [e]
  dsimp only
  rw [acc_first]

theorem mid_at (n : ℕ) (h : n + 1 < cfg0.N) (h0 : ¬(n + 1) % 4 = 0) (h1 : ¬(n + 1) % 4 = 3) :
    (outsAt0 m c (n + 1) h).2.2 = k0_pay2 (F := Ideal) (outsAt0 m c n (Nat.lt_of_succ_lt h)).2.2 (iblk m c 0 ⟨n + 1, h⟩) (iblk m c 1 ⟨n + 1, h⟩) := by
  have e := outsAt0_B m c ⟨n + 1, h⟩ h0 h1
  dsimp only at e
  rw [e]
  dsimp only
  rw [acc_mid, outs_congr m c (Nat.add_sub_cancel n 1) _ (Nat.lt_of_succ_lt h)]

/-- The running block after the last of four points. -/
def last (b : ℕ) (h : b + 3 < cfg0.N) : Mat S512x2048 .f32 :=
  k0_pay2 (F := Ideal) (outsAt0 m c (b + 2) (Nat.lt_of_succ_lt h)).2.2 (iblk m c 0 ⟨b + 3, h⟩) (iblk m c 1 ⟨b + 3, h⟩)

/-- A point's step at an element. -/
theorem pay_at (n : ℕ) (h : n < cfg0.N) (acc : Mat S512x2048 .f32) (r : Fin 512) (d : Fin 2048) :
    k0_pay2 (F := Ideal) acc (iblk m c 0 ⟨n, h⟩) (iblk m c 1 ⟨n, h⟩) (ix2 r d)
      = (acc (ix2 r d) : EReal) + share 1 (m ((c : Thread nD τ).loc main_arg0)) (m ((c : Thread nD τ).loc main_arg1)) (row n r) d n := by
  rw [pay2_eq]
  refine (pay2_at acc _ _ r d).trans ?_
  unfold share
  simp only [iblk0, iblk1]

theorem last_at (b : ℕ) (hb : b % 4 = 0) (h : b + 3 < cfg0.N) (r : Fin 512) (d : Fin 2048) :
    last m c b h (ix2 r d) = whole 1 (m ((c : Thread nD τ).loc main_arg0)) (m ((c : Thread nD τ).loc main_arg1)) (row b r) d := by
  unfold last
  rw [mid_at m c (b + 1) (by omega) (by omega) (by omega), mid_at m c b (by omega) (by omega) (by omega), first_at m c b (by omega) hb,
    pay_at, pay_at, pay_at, pay_at, pay1_eq, pay1_at, row_add b 3 hb (by omega), row_add b 2 hb (by omega), row_add b 1 hb (by omega),
    share_mod _ _ _ _ _ b 3 hb, share_mod _ _ _ _ _ b 2 hb, share_mod _ _ _ _ _ b 1 hb, show share _ _ _ _ _ b = share _ _ _ _ _ 0 from share_mod _ _ _ _ d b 0 hb]
  exact shares _ _ _ _ _

/-- What the last of four points writes to the stream. -/
theorem run4 (b : ℕ) (hb : b % 4 = 0) (h : b + 3 < cfg0.N) : (dats m 0 c).flushed 4 ⟨b + 3, h⟩ = k0_pay3 (F := Ideal) (iblk m c 2 ⟨b + 3, h⟩) (last m c b h) := by
  rw [flushed4_C m c ⟨b + 3, h⟩ (by show ¬(b + 3) % 4 = 0; omega) (by show (b + 3) % 4 = 3; omega), out4_last, outs_congr m c (Nat.add_sub_cancel (b + 2) 1) _ (Nat.lt_of_succ_lt h)]
  rfl

theorem run5 (b : ℕ) (hb : b % 4 = 0) (h : b + 3 < cfg0.N) :
    (dats m 0 c).flushed 5 ⟨b + 3, h⟩ = k0_pay4 (F := Ideal) (iblk m c 2 ⟨b + 3, h⟩) (last m c b h) (iblk m c 3 ⟨b + 3, h⟩) := by
  rw [flushed5_C m c ⟨b + 3, h⟩ (by show ¬(b + 3) % 4 = 0; omega) (by show (b + 3) % 4 = 3; omega), out5_last, outs_congr m c (Nat.add_sub_cancel (b + 2) 1) _ (Nat.lt_of_succ_lt h)]
  rfl

/-- A point that writes is the last of four. -/
theorem last_of (t : Fin cfg0.N) (h3 : t.val % 4 = 3) : ∃ (b : ℕ) (h : b + 3 < cfg0.N), b % 4 = 0 ∧ t = ⟨b + 3, h⟩ := by
  obtain ⟨n, hn⟩ := t
  have h3 : n % 4 = 3 := h3
  obtain ⟨b, rfl⟩ : ∃ b, n = b + 3 := ⟨n - 3, by omega⟩
  exact ⟨b, hn, by omega, rfl⟩

theorem flushed4_all (t : Fin cfg0.N) (hf : (cfg0.win 4).flush t = true) :
    (dats m 0 c).flushed 4 t = ((cfg0.win 4).blk t).view.read (Elt Ideal)
      (stream 1 (m ((c : Thread nD τ).loc main_arg0)) (m ((c : Thread nD τ).loc main_arg1)) (m ((c : Thread nD τ).loc main_arg2))) := by
  obtain ⟨b, h, hb, rfl⟩ := last_of t ((flush0_4 t).mp hf)
  rw [run4 m c b hb h]
  funext y
  obtain ⟨r, d, rfl⟩ := index_two (n := 512) (p := 2048) y
  refine Eq.trans ?_ (blk4 _ ⟨b + 3, h⟩ r d).symm
  rw [pay3_eq]
  refine (pay3_at _ _ r d).trans ?_
  rw [iblk2, last_at m c b hb h, ← row_add b 3 hb (by omega)]
  rfl

theorem flushed5_all (t : Fin cfg0.N) (hf : (cfg0.win 5).flush t = true) :
    (dats m 0 c).flushed 5 t = ((cfg0.win 5).blk t).view.read (Elt Ideal)
      (normed 1 (m ((c : Thread nD τ).loc main_arg0)) (m ((c : Thread nD τ).loc main_arg1)) (m ((c : Thread nD τ).loc main_arg2)) (m ((c : Thread nD τ).loc main_arg3))) := by
  obtain ⟨b, h, hb, rfl⟩ := last_of t ((flush0_5 t).mp hf)
  rw [run5 m c b hb h]
  funext y
  obtain ⟨r, d, rfl⟩ := index_two (n := 512) (p := 2048) y
  refine Eq.trans ?_ (blk5 _ ⟨b + 3, h⟩ r d).symm
  rw [pay4_eq]
  refine (pay4_at _ _ _ r d).trans ?_
  rw [iblk3]
  simp only [iblk2, last_at m c b hb h]
  rw [← row_add b 3 hb (by omega)]
  rfl

/-- The point that covers a row. -/
theorem point (y0 : ℕ) (h0 : y0 < 8192) : 4 * (y0 / 512) + 3 < cfg0.N := by
  have hN : cfg0.N = 64 := N_0
  rw [hN]; clear hN; omega

theorem array4 : (dats m 0 c).arrAt 4 cfg0.N
    = stream 1 (m ((c : Thread nD τ).loc main_arg0)) (m ((c : Thread nD τ).loc main_arg1)) (m ((c : Thread nD τ).loc main_arg2)) := by
  funext y
  have h0 : (y 0).val < 8192 := (y 0).isLt
  have h1 : (y 1).val < 2048 := (y 1).isLt
  refine (dats m 0 c).arrAt_apply_of_mem 4 _ (flushed4_all m c) cfg0.N ⟨_, point _ h0⟩ y (point _ h0) ((flush0_4 _).mpr (writes _)) ?_
  mem_blk [index4]
  exact inside _ _ h1

theorem array5 : (dats m 0 c).arrAt 5 cfg0.N
    = normed 1 (m ((c : Thread nD τ).loc main_arg0)) (m ((c : Thread nD τ).loc main_arg1)) (m ((c : Thread nD τ).loc main_arg2)) (m ((c : Thread nD τ).loc main_arg3)) := by
  funext y
  have h0 : (y 0).val < 8192 := (y 0).isLt
  have h1 : (y 1).val < 2048 := (y 1).isLt
  refine (dats m 0 c).arrAt_apply_of_mem 5 _ (flushed5_all m c) cfg0.N ⟨_, point _ h0⟩ y (point _ h0) ((flush0_5 _).mpr (writes _)) ?_
  mem_blk [index5]
  exact inside _ _ h1

end Cert.Kernel13Ideal.Down

namespace Cert.Reference13Ideal.Down

open Idealize.ShloMosaic Idealize.ShloMosaic.Pointwise Cert.Reference13Ideal.Gen Cert.Reference13Ideal Cert.Reference13Ideal.Read
open Cert.Kernel2Ideal.Gate (Mat)
open Cert.Kernel12Ideal.Down (stream normed)

theorem v6_at (x0 : Mat S8192x5632 .bf16) (x1 : Mat S2x5632x2048 .f32) (x2 : Mat S8192x2048 .f32) (i : Fin 8192) (d : Fin 2048) :
    val_main_v6 (F := Ideal) x0 x1 x2 (ix2 i d) = stream 1 x0 x1 x2 (ix2 i d) := by
  pointwise [val_main_v6, val_main_v5, val_main_v4, val_main_cst, val_main_v3, val_main_v2, val_main_v1, val_main_v0]
  rfl

theorem v20_at (x0 : Mat S8192x5632 .bf16) (x1 : Mat S2x5632x2048 .f32) (x2 : Mat S8192x2048 .f32) (x3 : Mat S2048 .f32) (i : Fin 8192) (d : Fin 2048) :
    val_main_v20 (F := Ideal) x0 x1 x2 x3 (ix2 i d) = normed 1 x0 x1 x2 x3 (ix2 i d) := by
  pointwise [val_main_v20, val_main_v19, val_main_v18, val_main_v17, val_main_v16, val_main_v15, val_main_v14, val_main_v13, val_main_v12, val_main_cst_2, val_main_v11, val_main_v10, val_main_cst_1, val_main_v9, val_main_v8, val_main_cst_0, val_main_v7]
  simp only [v6_at]
  rfl

theorem v6_eq (x0 : Mat S8192x5632 .bf16) (x1 : Mat S2x5632x2048 .f32) (x2 : Mat S8192x2048 .f32) : val_main_v6 (F := Ideal) x0 x1 x2 = stream 1 x0 x1 x2 := by
  funext y
  rw [← ix2_eta (n0 := 8192) (n1 := 2048) y]
  exact v6_at x0 x1 x2 (y 0) (y 1)

theorem v20_eq (x0 : Mat S8192x5632 .bf16) (x1 : Mat S2x5632x2048 .f32) (x2 : Mat S8192x2048 .f32) (x3 : Mat S2048 .f32) :
    val_main_v20 (F := Ideal) x0 x1 x2 x3 = normed 1 x0 x1 x2 x3 := by
  funext y
  rw [← ix2_eta (n0 := 8192) (n1 := 2048) y]
  exact v20_at x0 x1 x2 x3 (y 0) (y 1)

end Cert.Reference13Ideal.Down

namespace Cert.Proof

open Idealize.ShloMosaic Idealize.ShloMosaic.TcCoe Idealize.SL.Sem

theorem frame13_reference : Cert.quiescent_Reference13Ideal := fun m ρ _ =>
  (θ_run _ _ _).mono (fun r h => ⟨fun c => (h c).2.2, sem_eq_zero_of_no_sems (by decide) r.2⟩) (Cert.Reference13Ideal.Value.run m ρ)

theorem algebraic13 : Cert.algebraic_Kernel13Ideal_Reference13Ideal (hKernel13Ideal := Cert.Kernel13Ideal.Gen.facts) (hReference13Ideal := Cert.Reference13Ideal.Gen.facts) := by
  intro m g m' g' _ hargs
  refine ⟨fun c => _, fun c => _, Cert.Kernel13Ideal.Value.run_blocks m g, ?_⟩
  refine (θ_run _ _ _).mono (fun r h c => ?_) (Cert.Reference13Ideal.Value.run m' g')
  obtain ⟨r0, r1, rest⟩ := h c
  obtain ⟨e0, e1, e2, e3⟩ := hargs c
  refine ⟨?_, ?_, rest⟩
  · rw [r0, Cert.Reference13Ideal.Read.val_main_v6_eq, e0, e1, e2, Cert.Reference13Ideal.Down.v6_eq]
    exact (Cert.Kernel13Ideal.Down.array4 m c).symm
  · rw [r1, Cert.Reference13Ideal.Read.val_main_v20_eq, e0, e1, e2, e3, Cert.Reference13Ideal.Down.v20_eq]
    exact (Cert.Kernel13Ideal.Down.array5 m c).symm

end Cert.Proof

end
-- ==== Proof.Down2.lean ====
/-
  The last feed-forward's down product, second layer, without the normed rows: what a point leaves in the running block, what the last point of four writes out, and that the array
  it fills is the reference's residual stream.
-/
module

public import proofs.«01_k».proof.Proof.Down
public import proofs.«01_k».proof.Proof.Gen.Kernel14Ideal.Value
public import proofs.«01_k».proof.Proof.Gen.Reference14Ideal.Read
public import Idealize.ShloMosaic.Lib.StableHlo.RunRead

@[expose] public section

set_option maxRecDepth 16384

noncomputable section

namespace Cert.Kernel14Ideal.Down

open Idealize.ShloMosaic Idealize.ShloMosaic.TcCoe Idealize.ShloMosaic.Pointwise Cert.Kernel14Ideal.Gen Cert.Kernel14Ideal Cert.Kernel14Ideal.Value
open Cert.Kernel2Ideal.Gate (Mat col)
open Cert.Kernel5Ideal.Db (zz zzz index_two)
open Cert.Kernel12Ideal.Down (share share_mod shares whole stream pay1_at pay2_at pay3_at row row_add inside writes)

/-- A point's step is the one the first layer's run takes. -/
theorem pay1_eq : k0_pay1 (F := Ideal) = Cert.Kernel12Ideal.Gen.k0_pay1 (F := Ideal) := rfl
theorem pay2_eq : k0_pay2 (F := Ideal) = Cert.Kernel12Ideal.Gen.k0_pay2 (F := Ideal) := rfl
theorem pay3_eq : k0_pay3 (F := Ideal) = Cert.Kernel12Ideal.Gen.k0_pay3 (F := Ideal) := rfl

/-- The first of four points starts the block. -/
theorem acc_first (c) (i) (arg2) (harg2) (arg3) (harg3) (arg4) (harg4) (arg5) (harg5) (arg6) (harg6) (hc0) (hc1) (x0) (x1) (x2) :
    sout0_A_0 (F := Ideal) c i arg2 harg2 arg3 harg3 arg4 harg4 arg5 harg5 arg6 harg6 hc0 hc1 x0 x1 x2 = k0_pay2 (k0_pay1 (F := Ideal)) x0 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  try sl_unfold_words
  rw [View.canon_cons_unit_zero (S := S512x2048) zz, View.readCov_unit_zero (S := S512x2048) _ zz]
  simp only [View.readAt_eq_ld, harg2.read_unread, harg3.read_unread, harg6.read_unread, View.ld_unit_zero (S := S512x1408) zz, View.ld_unit_zero (S := S1x1408x2048) zzz, View.ld_unit_zero (S := S512x2048) zz, shapeCast_self]

/-- The middle points add to it. -/
theorem acc_mid (c) (i) (arg2) (harg2) (arg3) (harg3) (arg4) (harg4) (arg5) (harg5) (arg6) (harg6) (hc0) (hc1) (x0) (x1) (x2) (xs) :
    sout0_B_0 (F := Ideal) c i arg2 harg2 arg3 harg3 arg4 harg4 arg5 harg5 arg6 harg6 hc0 hc1 x0 x1 x2 xs = k0_pay2 xs x0 x1 := by
  unfold sout0_B_0
  rw [View.read_writes_eq_canon _ _ _ (scover0_B_0 c i arg2 harg2 arg3 harg3 arg4 harg4 arg5 harg5 arg6 harg6 hc0 hc1 x0 x1 x2 xs)]
  unfold kernelRun0_B
  dsimp only
  try sl_unfold_words
  rw [View.canon_unit_zero zz]
  simp only [View.readAt_eq_ld, harg2.read_unread, harg3.read_unread, harg6.read_unread, View.ld_unit_zero (S := S512x1408) zz, View.ld_unit_zero (S := S1x1408x2048) zzz, View.ld_unit_zero (S := S512x2048) zz, shapeCast_self]

/-- The last point writes the stream's block. -/
theorem out3_last (c) (i) (arg2) (harg2) (arg3) (harg3) (arg4) (harg4) (arg5) (harg5) (arg6) (harg6) (hc0) (hc1) (x0) (x1) (x2) (xs) :
    out0_C_3 (F := Ideal) c i arg2 harg2 arg3 harg3 arg4 harg4 arg5 harg5 arg6 harg6 hc0 hc1 x0 x1 x2 xs = k0_pay3 x2 (k0_pay2 xs x0 x1) := by
  unfold out0_C_3
  rw [View.read_writes_eq_canon _ _ _ (cover0_C_3 c i arg2 harg2 arg3 harg3 arg4 harg4 arg5 harg5 arg6 harg6 hc0 hc1 x0 x1 x2 xs)]
  unfold kernelRun0_C
  dsimp only
  try sl_unfold_words
  rw [View.canon_unit_zero zz]
  simp only [View.readAt_eq_ld, harg2.read_unread, harg3.read_unread, harg4.read_unread, harg6.read_unread, View.readCov_unit_zero (S := S512x2048) _ zz, View.ld_unit_zero (S := S512x1408) zz, View.ld_unit_zero (S := S1x1408x2048) zzz, View.ld_unit_zero (S := S512x2048) zz, shapeCast_self]

theorem index0 : ∀ t : Fin cfg0.N, win0_0.index t = ![t.val / 4, t.val % 4] := (by decide +kernel : ∀ t : Fin grid0.N, _)
theorem index1 : ∀ t : Fin cfg0.N, win0_1.index t = ![1, t.val % 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![t.val / 4, 0] := (by decide +kernel : ∀ t : Fin grid0.N, _)

theorem div4 (t : Fin cfg0.N) : t.val / 4 % 16 = t.val / 4 := by have h : t.val < 64 := t.isLt; omega

theorem blk0 (A : Mat S8192x5632 .bf16) (t : Fin cfg0.N) (r : Fin 512) (f : Fin 1408) :
    ((cfg0.win 0).blk t).view.read (Elt Ideal) A (ix2 r f) = A (ix2 (row t.val r) (col t.val f)) := by
  blk_ext [index0, row, col, div4]

theorem blk1 (A : Mat S2x5632x2048 .bf16) (t : Fin cfg0.N) (f : Fin 1408) (d : Fin 2048) :
    ((cfg0.win 1).blk t).view.read (Elt Ideal) A (ix3 0 f d) = A (ix3 1 (col t.val f) d) := by
  blk_ext [index1, col]

theorem blk2 (A : Mat S8192x2048 .f32) (t : Fin cfg0.N) (r : Fin 512) (d : Fin 2048) :
    ((cfg0.win 2).blk t).view.read (Elt Ideal) A (ix2 r d) = A (ix2 (row t.val r) d) := by
  blk_ext [index2, row, div4]

theorem blk3 (A : Mat S8192x2048 .f32) (t : Fin cfg0.N) (r : Fin 512) (d : Fin 2048) :
    ((cfg0.win 3).blk t).view.read (Elt Ideal) A (ix2 r d) = A (ix2 (row t.val r) d) := by
  blk_ext [index3, row, div4]

variable (m : (ℓ : Loc nD τ sig) → Buf (Elt Ideal) ℓ) (c : Dev nD)

theorem V_v0 : V m c main_v0 = truncf (F := Ideal) (φ := .f32) .bf16 (m ((c : Thread nD τ).loc main_arg1)) bitsLt_bf16_f32 := by
  dsimp only [V]
  after_reads_simp
  try simp -implicitDefEqProofs only [StableHlo.TRef.toBuf, StableHlo.TRef.ofBuf, cast_cast, cast_eq]
  try rfl

theorem iblk0 (t : Fin cfg0.N) (r : Fin 512) (f : Fin 1408) : iblk m c 0 t (ix2 r f) = m ((c : Thread nD τ).loc main_arg0) (ix2 (row t.val r) (col t.val f)) :=
  (congrFun (congrArg (fun A => ((cfg0.win 0).blk t).view.read (Elt Ideal) A) (V_main_arg0 m c)) (ix2 r f)).trans (blk0 _ t r f)

theorem iblk1 (t : Fin cfg0.N) (f : Fin 1408) (d : Fin 2048) : iblk m c 1 t (ix3 0 f d) = m ((c : Thread nD τ).loc main_arg1) (ix3 1 (col t.val f) d) :=
  (congrFun (congrArg (fun A => ((cfg0.win 1).blk t).view.read (Elt Ideal) A) (V_v0 m c)) (ix3 0 f d)).trans (blk1 _ t f d)

theorem iblk2 (t : Fin cfg0.N) (r : Fin 512) (d : Fin 2048) : iblk m c 2 t (ix2 r d) = m ((c : Thread nD τ).loc main_arg2) (ix2 (row t.val r) d) :=
  (congrFun (congrArg (fun A => ((cfg0.win 2).blk t).view.read (Elt Ideal) A) (V_main_arg2 m c)) (ix2 r d)).trans (blk2 _ t r d)

theorem outs_congr {n n' : ℕ} (e : n = n') (h : n < cfg0.N) (h' : n' < cfg0.N) : outsAt0 m c n h = outsAt0 m c n' h' := by
  subst e; rfl

theorem first_at (n : ℕ) (h : n < cfg0.N) (h0 : n % 4 = 0) :
    (outsAt0 m c n h).2 = k0_pay2 (F := Ideal) (k0_pay1 (F := Ideal)) (iblk m c 0 ⟨n, h⟩) (iblk m c 1 ⟨n, h⟩) := by
  have e := outsAt0_A m c ⟨n, h⟩ h0 (by show ¬n % 4 = 3; omega)
  dsimp only at e
  rw [e]
  dsimp only
  rw [acc_first]

theorem mid_at (n : ℕ) (h : n + 1 < cfg0.N) (h0 : ¬(n + 1) % 4 = 0) (h1 : ¬(n + 1) % 4 = 3) :
    (outsAt0 m c (n + 1) h).2 = k0_pay2 (F := Ideal) (outsAt0 m c n (Nat.lt_of_succ_lt h)).2 (iblk m c 0 ⟨n + 1, h⟩) (iblk m c 1 ⟨n + 1, h⟩) := by
  have e := outsAt0_B m c ⟨n + 1, h⟩ h0 h1
  dsimp only at e
  rw [e]
  dsimp only
  rw [acc_mid, outs_congr m c (Nat.add_sub_cancel n 1) _ (Nat.lt_of_succ_lt h)]

/-- The running block after the last of four points. -/
def last (b : ℕ) (h : b + 3 < cfg0.N) : Mat S512x2048 .f32 :=
  k0_pay2 (F := Ideal) (outsAt0 m c (b + 2) (Nat.lt_of_succ_lt h)).2 (iblk m c 0 ⟨b + 3, h⟩) (iblk m c 1 ⟨b + 3, h⟩)

/-- A point's step at an element. -/
theorem pay_at (n : ℕ) (h : n < cfg0.N) (acc : Mat S512x2048 .f32) (r : Fin 512) (d : Fin 2048) :
    k0_pay2 (F := Ideal) acc (iblk m c 0 ⟨n, h⟩) (iblk m c 1 ⟨n, h⟩) (ix2 r d)
      = (acc (ix2 r d) : EReal) + share 1 (m ((c : Thread nD τ).loc main_arg0)) (m ((c : Thread nD τ).loc main_arg1)) (row n r) d n := by
  rw [pay2_eq]
  refine (pay2_at acc _ _ r d).trans ?_
  unfold share
  simp only [iblk0, iblk1]

theorem last_at (b : ℕ) (hb : b % 4 = 0) (h : b + 3 < cfg0.N) (r : Fin 512) (d : Fin 2048) :
    last m c b h (ix2 r d) = whole 1 (m ((c : Thread nD τ).loc main_arg0)) (m ((c : Thread nD τ).loc main_arg1)) (row b r) d := by
  unfold last
  rw [mid_at m c (b + 1) (by omega) (by omega) (by omega), mid_at m c b (by omega) (by omega) (by omega), first_at m c b (by omega) hb,
    pay_at, pay_at, pay_at, pay_at, pay1_eq, pay1_at, row_add b 3 hb (by omega), row_add b 2 hb (by omega), row_add b 1 hb (by omega),
    share_mod _ _ _ _ _ b 3 hb, share_mod _ _ _ _ _ b 2 hb, share_mod _ _ _ _ _ b 1 hb, show share _ _ _ _ _ b = share _ _ _ _ _ 0 from share_mod _ _ _ _ d b 0 hb]
  exact shares _ _ _ _ _

/-- What the last of four points writes to the stream. -/
theorem run3 (b : ℕ) (hb : b % 4 = 0) (h : b + 3 < cfg0.N) : (dats m 0 c).flushed 3 ⟨b + 3, h⟩ = k0_pay3 (F := Ideal) (iblk m c 2 ⟨b + 3, h⟩) (last m c b h) := by
  rw [flushed3_C m c ⟨b + 3, h⟩ (by show ¬(b + 3) % 4 = 0; omega) (by show (b + 3) % 4 = 3; omega), out3_last, outs_congr m c (Nat.add_sub_cancel (b + 2) 1) _ (Nat.lt_of_succ_lt h)]
  rfl

/-- A point that writes is the last of four. -/
theorem last_of (t : Fin cfg0.N) (h3 : t.val % 4 = 3) : ∃ (b : ℕ) (h : b + 3 < cfg0.N), b % 4 = 0 ∧ t = ⟨b + 3, h⟩ := by
  obtain ⟨n, hn⟩ := t
  have h3 : n % 4 = 3 := h3
  obtain ⟨b, rfl⟩ : ∃ b, n = b + 3 := ⟨n - 3, by omega⟩
  exact ⟨b, hn, by omega, rfl⟩

theorem flushed3_all (t : Fin cfg0.N) (hf : (cfg0.win 3).flush t = true) :
    (dats m 0 c).flushed 3 t = ((cfg0.win 3).blk t).view.read (Elt Ideal)
      (stream 1 (m ((c : Thread nD τ).loc main_arg0)) (m ((c : Thread nD τ).loc main_arg1)) (m ((c : Thread nD τ).loc main_arg2))) := by
  obtain ⟨b, h, hb, rfl⟩ := last_of t ((flush0_3 t).mp hf)
  rw [run3 m c b hb h]
  funext y
  obtain ⟨r, d, rfl⟩ := index_two (n := 512) (p := 2048) y
  refine Eq.trans ?_ (blk3 _ ⟨b + 3, h⟩ r d).symm
  rw [pay3_eq]
  refine (pay3_at _ _ r d).trans ?_
  rw [iblk2, last_at m c b hb h, ← row_add b 3 hb (by omega)]
  rfl

/-- The point that covers a row. -/
theorem point (y0 : ℕ) (h0 : y0 < 8192) : 4 * (y0 / 512) + 3 < cfg0.N := by
  have hN : cfg0.N = 64 := N_0
  rw [hN]; clear hN; omega

theorem array3 : (dats m 0 c).arrAt 3 cfg0.N
    = stream 1 (m ((c : Thread nD τ).loc main_arg0)) (m ((c : Thread nD τ).loc main_arg1)) (m ((c : Thread nD τ).loc main_arg2)) := by
  funext y
  have h0 : (y 0).val < 8192 := (y 0).isLt
  have h1 : (y 1).val < 2048 := (y 1).isLt
  refine (dats m 0 c).arrAt_apply_of_mem 3 _ (flushed3_all m c) cfg0.N ⟨_, point _ h0⟩ y (point _ h0) ((flush0_3 _).mpr (writes _)) ?_
  mem_blk [index3]
  exact inside _ _ h1

end Cert.Kernel14Ideal.Down

namespace Cert.Reference14Ideal.Down

open Idealize.ShloMosaic Idealize.ShloMosaic.Pointwise Cert.Reference14Ideal.Gen Cert.Reference14Ideal Cert.Reference14Ideal.Read
open Cert.Kernel2Ideal.Gate (Mat)
open Cert.Kernel12Ideal.Down (stream)

theorem v6_at (x0 : Mat S8192x5632 .bf16) (x1 : Mat S2x5632x2048 .f32) (x2 : Mat S8192x2048 .f32) (i : Fin 8192) (d : Fin 2048) :
    val_main_v6 (F := Ideal) x0 x1 x2 (ix2 i d) = stream 1 x0 x1 x2 (ix2 i d) := by
  pointwise [val_main_v6, val_main_v5, val_main_v4, val_main_cst, val_main_v3, val_main_v2, val_main_v1, val_main_v0]
  rfl

theorem v6_eq (x0 : Mat S8192x5632 .bf16) (x1 : Mat S2x5632x2048 .f32) (x2 : Mat S8192x2048 .f32) : val_main_v6 (F := Ideal) x0 x1 x2 = stream 1 x0 x1 x2 := by
  funext y
  rw [← ix2_eta (n0 := 8192) (n1 := 2048) y]
  exact v6_at x0 x1 x2 (y 0) (y 1)

end Cert.Reference14Ideal.Down

namespace Cert.Proof

open Idealize.ShloMosaic Idealize.ShloMosaic.TcCoe Idealize.SL.Sem

theorem frame14_reference : Cert.quiescent_Reference14Ideal := fun m ρ _ =>
  (θ_run _ _ _).mono (fun r h => ⟨fun c => (h c).2, sem_eq_zero_of_no_sems (by decide) r.2⟩) (Cert.Reference14Ideal.Value.run m ρ)

theorem algebraic14 : Cert.algebraic_Kernel14Ideal_Reference14Ideal (hKernel14Ideal := Cert.Kernel14Ideal.Gen.facts) (hReference14Ideal := Cert.Reference14Ideal.Gen.facts) := by
  intro m g m' g' _ hargs
  refine ⟨fun c => _, Cert.Kernel14Ideal.Value.run_blocks m g, ?_⟩
  refine (θ_run _ _ _).mono (fun r h c => ?_) (Cert.Reference14Ideal.Value.run m' g')
  obtain ⟨r0, rest⟩ := h c
  obtain ⟨e0, e1, e2⟩ := hargs c
  refine ⟨?_, rest⟩
  rw [r0, Cert.Reference14Ideal.Read.val_main_v6_eq, e0, e1, e2, Cert.Reference14Ideal.Down.v6_eq]
  exact (Cert.Kernel14Ideal.Down.array3 m c).symm

end Cert.Proof

end
-- ==== Proof.lean ====
module

public import proofs.«01_k».proof.Defs
public import proofs.«01_k».proof.Proof.Main
public import proofs.«01_k».proof.Proof.KMain
public import proofs.«01_k».proof.Proof.Ref
public import proofs.«01_k».proof.Proof.Value
public import proofs.«01_k».proof.Proof.Gate1
public import proofs.«01_k».proof.Proof.Gw1
public import proofs.«01_k».proof.Proof.Gd1
public import proofs.«01_k».proof.Proof.Db1
public import proofs.«01_k».proof.Proof.Up
public import proofs.«01_k».proof.Proof.Up1
public import proofs.«01_k».proof.Proof.Down
public import proofs.«01_k».proof.Proof.Down1
public import proofs.«01_k».proof.Proof.Down2
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame

@[expose] public section

set_option maxRecDepth 16384

namespace Cert.Proof

open Idealize.ShloMosaic Idealize.SL.Sem

theorem frame_kernel : Cert.quiescent_Kernel := fun m ρ _ => Cert.Kernel.Bwd.frame' m ρ

theorem frame_ideal : Cert.quiescent_KernelIdeal := fun m ρ _ => Cert.KernelIdeal.Bwd.frame' m ρ

theorem frame_reference : Cert.quiescent_ReferenceIdeal := fun m ρ _ => Cert.ReferenceIdeal.Bwd.frame' m ρ

/-- The mask's stand-in is the least extended real. -/
theorem preserves : Cert.preserves_Kernel_KernelIdeal :=
  IdealRules.named_const.statement Cert.KernelIdeal.κ "neg" .f32 0xF149F2CA#32 ⊥ rfl

/-- Over finite arguments nothing else is needed for the frames. -/
theorem frame_ideal_finite [Cert.Pre_finite.Facts] : Cert.quiescent_KernelIdeal_pre_finite := fun m ρ _ => Cert.KernelIdeal.Bwd.frame' m ρ

theorem frame_reference_finite [Cert.Pre_finite.Facts] : Cert.quiescent_ReferenceIdeal_pre_finite := fun m ρ _ => Cert.ReferenceIdeal.Bwd.frame' m ρ

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.KernelIdeal.Bwd.pre_facts, Cert.Kernel5Ideal.Db.pre_facts5, Cert.Kernel7Ideal.Db.pre_facts7,
    frame_kernel, frame_ideal,
    @frame_ideal_finite Cert.KernelIdeal.Bwd.pre_facts, frame_reference,
    @frame_reference_finite Cert.KernelIdeal.Bwd.pre_facts,
    fun m ρ _ => Cert.Kernel2.Gen.frame m ρ, fun m ρ _ => Cert.Kernel2Ideal.Gen.frame m ρ, frame2_reference,
    fun m ρ _ => Cert.Kernel3.Gen.frame m ρ, fun m ρ _ => Cert.Kernel3Ideal.Gen.frame m ρ, frame3_reference,
    fun m ρ _ => Cert.Kernel4.Gen.frame m ρ, fun m ρ _ => Cert.Kernel4Ideal.Gen.frame m ρ, frame4_reference,
    fun m ρ _ => Cert.Kernel5.Gen.frame m ρ, fun m ρ _ => Cert.Kernel5Ideal.Gen.frame m ρ,
    fun m ρ _ => Cert.Kernel5Ideal.Gen.frame m ρ, frame5_reference, fun m ρ _ => frame5_reference m ρ trivial,
    fun m ρ _ => Cert.Kernel6.Gen.frame m ρ, fun m ρ _ => Cert.Kernel6Ideal.Gen.frame m ρ, frame6_reference,
    fun m ρ _ => Cert.Kernel7.Gen.frame m ρ, fun m ρ _ => Cert.Kernel7Ideal.Gen.frame m ρ,
    fun m ρ _ => Cert.Kernel7Ideal.Gen.frame m ρ, frame7_reference, fun m ρ _ => frame7_reference m ρ trivial,
    fun m ρ _ => Cert.Kernel8.Gen.frame m ρ, fun m ρ _ => Cert.Kernel8Ideal.Gen.frame m ρ, frame8_reference,
    fun m ρ _ => Cert.Kernel9.Gen.frame m ρ, fun m ρ _ => Cert.Kernel9Ideal.Gen.frame m ρ, frame9_reference,
    fun m ρ _ => Cert.Kernel10.Gen.frame m ρ, fun m ρ _ => Cert.Kernel10Ideal.Gen.frame m ρ, frame10_reference,
    fun m ρ _ => Cert.Kernel11.Gen.frame m ρ, fun m ρ _ => Cert.Kernel11Ideal.Gen.frame m ρ, frame11_reference,
    fun m ρ _ => Cert.Kernel12.Gen.frame m ρ, fun m ρ _ => Cert.Kernel12Ideal.Gen.frame m ρ, frame12_reference,
    fun m ρ _ => Cert.Kernel13.Gen.frame m ρ, fun m ρ _ => Cert.Kernel13Ideal.Gen.frame m ρ, frame13_reference,
    fun m ρ _ => Cert.Kernel14.Gen.frame m ρ, fun m ρ _ => Cert.Kernel14Ideal.Gen.frame m ρ, frame14_reference,
    preserves, @algebraic Cert.KernelIdeal.Bwd.pre_facts,
    trivial, algebraic2, trivial, algebraic3, trivial, algebraic4,
    trivial, @algebraic5 Cert.Kernel5Ideal.Db.pre_facts5,
    trivial, algebraic6, trivial, @algebraic7 Cert.Kernel7Ideal.Db.pre_facts7, trivial, algebraic8, trivial, algebraic9,
    trivial, algebraic10, trivial, algebraic11, trivial, algebraic12, trivial, algebraic13, trivial, algebraic14⟩

end Cert.Proof

end
